-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)) (v5 : (c : Dev Cert.Kernel2Ideal.nD) → Buf (Elt Ideal) ((c.tc : Thread Cert.Kernel2Ideal.nD Cert.Kernel2Ideal.τ).loc Cert.Kernel2Ideal.main_v9_5)) (v6 : (c : Dev Cert.Kernel2Ideal.nD) → Buf (Elt Ideal) ((c.tc : Thread Cert.Kernel2Ideal.nD Cert.Kernel2Ideal.τ).loc Cert.Kernel2Ideal.main_v9_6)) (v7 : (c : Dev Cert.Kernel2Ideal.nD) → Buf (Elt Ideal) ((c.tc : Thread Cert.Kernel2Ideal.nD Cert.Kernel2Ideal.τ).loc Cert.Kernel2Ideal.main_v9_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_v9_5) = v5 c
          ∧ r.2.mem ((c.tc : Thread Cert.Kernel2Ideal.nD Cert.Kernel2Ideal.τ).loc Cert.Kernel2Ideal.main_v9_6) = v6 c
          ∧ r.2.mem ((c.tc : Thread Cert.Kernel2Ideal.nD Cert.Kernel2Ideal.τ).loc Cert.Kernel2Ideal.main_v9_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v81) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v83) = v6 c
          ∧ r.2.mem ((c.tc : Thread Cert.Reference2Ideal.nD Cert.Reference2Ideal.τ).loc Cert.Reference2Ideal.main_v84) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v27) = v3 c
          ∧ r.2.mem ((c.tc : Thread Cert.Reference3Ideal.nD Cert.Reference3Ideal.τ).loc Cert.Reference3Ideal.main_v28) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v45_1)) (v1 : (c : Dev Cert.Kernel4Ideal.nD) → Buf (Elt Ideal) ((c.tc : Thread Cert.Kernel4Ideal.nD Cert.Kernel4Ideal.τ).loc Cert.Kernel4Ideal.main_v45_3)) (v2 : (c : Dev Cert.Kernel4Ideal.nD) → Buf (Elt Ideal) ((c.tc : Thread Cert.Kernel4Ideal.nD Cert.Kernel4Ideal.τ).loc Cert.Kernel4Ideal.main_v45_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v45_1) = v0 c
          ∧ r.2.mem ((c.tc : Thread Cert.Kernel4Ideal.nD Cert.Kernel4Ideal.τ).loc Cert.Kernel4Ideal.main_v45_3) = v1 c
          ∧ r.2.mem ((c.tc : Thread Cert.Kernel4Ideal.nD Cert.Kernel4Ideal.τ).loc Cert.Kernel4Ideal.main_v45_4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v247) = v1 c
          ∧ r.2.mem ((c.tc : Thread Cert.Reference4Ideal.nD Cert.Reference4Ideal.τ).loc Cert.Reference4Ideal.main_v281) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_v14) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_v15) = v2 c
          ∧ r.2.mem ((c.tc : Thread Cert.Reference8Ideal.nD Cert.Reference8Ideal.τ).loc Cert.Reference8Ideal.main_v16) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S8192x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S8192x1024 .f32) (main_v2 : IVec S8192x1024 1) (main_v5 : IVec S1024 1) (main_v8 : IVec S1024x2816 1) (main_v11 : IVec S1024x2816 1) (main_v14 : IVec S2816x1024 1) (main_v17 : IVec S1024 1) : IVec S8192x1024 1 × IVec S1024 1 × IVec S1024x2816 1 × IVec S1024x2816 1 × IVec S2816x1024 1 × IVec S1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S8192x1024 .f32) : IVec S8192x1024 1 × IVec S1024 1 × IVec S1024x2816 1 × IVec S1024x2816 1 × IVec S2816x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) : IVec S8192x1024 1 × IVec S1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S1x256x1024 : Shape := ⟨3, ![1, 256, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 56
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .hbm, ⟨11, _⟩ => ⟨S3x2816x1024, .f32⟩
  | .hbm, ⟨12, _⟩ => ⟨S3x2816x1024, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .bf16⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .bf16⟩
  | .hbm, ⟨51, _⟩ => ⟨S1x1024, .f32⟩
  | .hbm, ⟨52, _⟩ => ⟨S8192x1024, .f32⟩
  | .hbm, ⟨53, _⟩ => ⟨S8192x2816, .bf16⟩
  | .hbm, ⟨54, _⟩ => ⟨S8192x2816, .bf16⟩
  | .hbm, ⟨55, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S1x1024, .f32⟩
  | .local _ .vmem, ⟨16, _⟩ => ⟨S3x2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev main_v39_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x2816, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x2816, .bf16⟩
  | .hbm, ⟨92, _⟩ => ⟨S8192x2816, .bf16⟩
  | .hbm, ⟨93, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S1x128 : Shape := ⟨2, ![1, 128]⟩
abbrev S8192x2816 : Shape := ⟨2, ![8192, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S512x256 : Shape := ⟨2, ![512, 256]⟩
abbrev S1x512x1024 : Shape := ⟨3, ![1, 512, 1024]⟩
abbrev S1x1x1 : Shape := ⟨3, ![1, 1, 1]⟩

abbrev nBuf : Space → Nat
  | .hbm => 24
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S2816x1024, .f32⟩
  | .hbm, ⟨8, _⟩ => ⟨S2816x1024, .f32⟩
  | .hbm, ⟨9, _⟩ => ⟨S1x2816x1024, .f32⟩
  | .hbm, ⟨10, _⟩ => ⟨S1x2816x1024, .f32⟩
  | .hbm, ⟨11, _⟩ => ⟨S1x2816x1024, .f32⟩
  | .hbm, ⟨12, _⟩ => ⟨S3x2816x1024, .f32⟩
  | .hbm, ⟨13, _⟩ => ⟨S3x2816x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .bf16⟩
  | .hbm, ⟨18, _⟩ => ⟨S1x1024, .f32⟩
  | .hbm, ⟨19, _⟩ => ⟨S1x128, .f32⟩
  | .hbm, ⟨20, _⟩ => ⟨S8192x1024, .bf16⟩
  | .hbm, ⟨21, _⟩ => ⟨S8192x2816, .bf16⟩
  | .hbm, ⟨22, _⟩ => ⟨S8192x2816, .bf16⟩
  | .hbm, ⟨23, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S3x2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x2816, .f32⟩
  | 24 => ⟨S8192x2816, .f32⟩
  | 25 => ⟨S8192x2816, .f32⟩
  | 26 => ⟨S8192x2816, .f32⟩
  | 27 => ⟨S_, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S8192x2816, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S_, .f32⟩
  | 78 => ⟨S8192, .f32⟩
  | 79 => ⟨S_, .f32⟩
  | 80 => ⟨S8192, .f32⟩
  | 81 => ⟨S8192, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192, .f32⟩
  | 90 => ⟨S_, .f32⟩
  | 91 => ⟨S8192, .f32⟩
  | 92 => ⟨S8192, .f32⟩
  | 93 => ⟨S8192x1024, .f32⟩
  | 94 => ⟨S8192x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S_, .f32⟩
  | 102 => ⟨S1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1024, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .bf16⟩
  | 124 => ⟨S1x1024, .f32⟩
  | 125 => ⟨S1x128, .f32⟩
  | 126 => ⟨S8192x1024, .bf16⟩
  | 127 => ⟨S8192x2816, .bf16⟩
  | _ => ⟨S8192x1024, .f32⟩

abbrev hbmTy0_1 (i : Nat) : BufTy := match i % 128 with
  | 0 => ⟨S8192x2816, .bf16⟩
  | 1 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v15_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v15_1 : Ref sig .tc := ⟨.hbm, 36, rfl⟩
abbrev main_v15_0 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_v26 : Ref sig .tc := ⟨.hbm, 54, rfl⟩
abbrev main_v27 : Ref sig .tc := ⟨.hbm, 55, rfl⟩
abbrev main_cst_5 : Ref sig .tc := ⟨.hbm, 56, rfl⟩
abbrev main_v28 : Ref sig .tc := ⟨.hbm, 57, rfl⟩
abbrev main_v29 : Ref sig .tc := ⟨.hbm, 58, rfl⟩
abbrev main_cst_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_cst_11 : Ref sig .tc := ⟨.hbm, 82, rfl⟩
abbrev main_v48 : Ref sig .tc := ⟨.hbm, 83, rfl⟩
abbrev main_cst_12 : Ref sig .tc := ⟨.hbm, 84, rfl⟩
abbrev main_v49 : Ref sig .tc := ⟨.hbm, 85, rfl⟩
abbrev main_cst_13 : Ref sig .tc := ⟨.hbm, 86, rfl⟩
abbrev main_cst_14 : Ref sig .tc := ⟨.hbm, 87, rfl⟩
abbrev main_v50 : Ref sig .tc := ⟨.hbm, 88, rfl⟩
abbrev main_v51 : Ref sig .tc := ⟨.hbm, 89, rfl⟩
abbrev main_cst_15 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_16 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_17 : Ref sig .tc := ⟨.hbm, 101, rfl⟩
abbrev main_v61 : Ref sig .tc := ⟨.hbm, 102, rfl⟩
abbrev main_v62 : Ref sig .tc := ⟨.hbm, 103, rfl⟩
abbrev main_cst_18 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_19 : Ref sig .tc := ⟨.hbm, 110, rfl⟩
abbrev main_v68 : Ref sig .tc := ⟨.hbm, 111, rfl⟩
abbrev main_v69 : Ref sig .tc := ⟨.hbm, 112, rfl⟩
abbrev main_cst_20 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_21 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S1x2816x1024, .f32⟩
  | .hbm, ⟨8, _⟩ => ⟨S1x2816x1024, .f32⟩
  | .hbm, ⟨9, _⟩ => ⟨S1x2816x1024, .f32⟩
  | .hbm, ⟨10, _⟩ => ⟨S3x2816x1024, .f32⟩
  | .hbm, ⟨11, _⟩ => ⟨S3x2816x1024, .bf16⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x2816, .bf16⟩
  | .hbm, ⟨16, _⟩ => ⟨S8192x2816, .bf16⟩
  | .hbm, ⟨17, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S3x2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S8192x2816, .bf16⟩
  | .hbm, ⟨52, _⟩ => ⟨S8192x2816, .bf16⟩
  | .hbm, ⟨53, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2048 : Shape := ⟨2, ![1024, 2048]⟩
abbrev S31x512 : Shape := ⟨2, ![31, 512]⟩
abbrev S512 : Shape := ⟨1, ![512]⟩
abbrev S4x512 : Shape := ⟨2, ![4, 512]⟩
abbrev S8x64x64 : Shape := ⟨3, ![8, 64, 64]⟩
abbrev S1024x1024 : Shape := ⟨2, ![1024, 1024]⟩
abbrev S1x512 : Shape := ⟨2, ![1, 512]⟩
abbrev S_ : Shape := ⟨0, ![]⟩
abbrev S8x512 : Shape := ⟨2, ![8, 512]⟩
abbrev S56x512 : Shape := ⟨2, ![56, 512]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x1024 : Shape := ⟨2, ![1, 1024]⟩
abbrev S2048x1024 : Shape := ⟨2, ![2048, 1024]⟩
abbrev S8192x2048 : Shape := ⟨2, ![8192, 2048]⟩
abbrev S8192x512 : Shape := ⟨2, ![8192, 512]⟩
abbrev S512x1024 : Shape := ⟨2, ![512, 1024]⟩
abbrev S512x2048 : Shape := ⟨2, ![512, 2048]⟩
abbrev S544x512 : Shape := ⟨2, ![544, 512]⟩
abbrev S520x512 : Shape := ⟨2, ![520, 512]⟩
abbrev S32x512 : Shape := ⟨2, ![32, 512]⟩
abbrev S512x1 : Shape := ⟨2, ![512, 1]⟩

abbrev nBuf : Space → Nat
  | .hbm => 82
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4x512, .f32⟩
  | .hbm, ⟨8, _⟩ => ⟨S512, .f32⟩
  | .hbm, ⟨9, _⟩ => ⟨S8x64x64, .f32⟩
  | .hbm, ⟨10, _⟩ => ⟨S512, .f32⟩
  | .hbm, ⟨11, _⟩ => ⟨S8x64x64, .f32⟩
  | .hbm, ⟨12, _⟩ => ⟨S512, .f32⟩
  | .hbm, ⟨13, _⟩ => ⟨S512, .f32⟩
  | .hbm, ⟨14, _⟩ => ⟨S1024x1024, .f32⟩
  | .hbm, ⟨15, _⟩ => ⟨S1x512, .f32⟩
  | .hbm, ⟨16, _⟩ => ⟨S_, .i32⟩
  | .hbm, ⟨17, _⟩ => ⟨S_, .f32⟩
  | .hbm, ⟨18, _⟩ => ⟨S8x512, .f32⟩
  | .hbm, ⟨19, _⟩ => ⟨S1x512, .f32⟩
  | .hbm, ⟨20, _⟩ => ⟨S_, .i32⟩
  | .hbm, ⟨21, _⟩ => ⟨S_, .f32⟩
  | .hbm, ⟨22, _⟩ => ⟨S8x512, .f32⟩
  | .hbm, ⟨23, _⟩ => ⟨S1x512, .f32⟩
  | .hbm, ⟨24, _⟩ => ⟨S_, .i32⟩
  | .hbm, ⟨25, _⟩ => ⟨S_, .f32⟩
  | .hbm, ⟨26, _⟩ => ⟨S8x512, .f32⟩
  | .hbm, ⟨27, _⟩ => ⟨S1x512, .f32⟩
  | .hbm, ⟨28, _⟩ => ⟨S_, .i32⟩
  | .hbm, ⟨29, _⟩ => ⟨S_, .f32⟩
  | .hbm, ⟨30, _⟩ => ⟨S8x512, .f32⟩
  | .hbm, ⟨31, _⟩ => ⟨S1x512, .f32⟩
  | .hbm, ⟨32, _⟩ => ⟨S_, .i32⟩
  | .hbm, ⟨33, _⟩ => ⟨S_, .f32⟩
  | .hbm, ⟨34, _⟩ => ⟨S8x512, .f32⟩
  | .hbm, ⟨35, _⟩ => ⟨S1x512, .f32⟩
  | .hbm, ⟨36, _⟩ => ⟨S_, .i32⟩
  | .hbm, ⟨37, _⟩ => ⟨S_, .f32⟩
  | .hbm, ⟨38, _⟩ => ⟨S8x512, .f32⟩
  | .hbm, ⟨39, _⟩ => ⟨S1x512, .f32⟩
  | .hbm, ⟨40, _⟩ => ⟨S_, .i32⟩
  | .hbm, ⟨41, _⟩ => ⟨S_, .f32⟩
  | .hbm, ⟨42, _⟩ => ⟨S8x512, .f32⟩
  | .hbm, ⟨43, _⟩ => ⟨S56x512, .f32⟩
  | .hbm, ⟨44, _⟩ => ⟨S8x8, .i32⟩
  | .hbm, ⟨45, _⟩ => ⟨S8x8, .i32⟩
  | .hbm, ⟨46, _⟩ => ⟨S_, .i32⟩
  | .hbm, ⟨47, _⟩ => ⟨S8x8, .i32⟩
  | .hbm, ⟨48, _⟩ => ⟨S8x8, .i32⟩
  | .hbm, ⟨49, _⟩ => ⟨S8x8, .i1⟩
  | .hbm, ⟨50, _⟩ => ⟨S8x8, .f32⟩
  | .hbm, ⟨51, _⟩ => ⟨S8x64x1x64, .f32⟩
  | .hbm, ⟨52, _⟩ => ⟨S8x1x8x1, .f32⟩
  | .hbm, ⟨53, _⟩ => ⟨S8x64x8x64, .f32⟩
  | .hbm, ⟨54, _⟩ => ⟨S8x64x8x64, .f32⟩
  | .hbm, ⟨55, _⟩ => ⟨S8x64x8x64, .f32⟩
  | .hbm, ⟨56, _⟩ => ⟨S512x512, .f32⟩
  | .hbm, ⟨57, _⟩ => ⟨S512x512, .bf16⟩
  | .hbm, ⟨58, _⟩ => ⟨S8x8, .i32⟩
  | .hbm, ⟨59, _⟩ => ⟨S8x8, .i32⟩
  | .hbm, ⟨60, _⟩ => ⟨S_, .i32⟩
  | .hbm, ⟨61, _⟩ => ⟨S8x8, .i32⟩
  | .hbm, ⟨62, _⟩ => ⟨S8x8, .i32⟩
  | .hbm, ⟨63, _⟩ => ⟨S8x8, .i1⟩
  | .hbm, ⟨64, _⟩ => ⟨S8x8, .f32⟩
  | .hbm, ⟨65, _⟩ => ⟨S8x64x1x64, .f32⟩
  | .hbm, ⟨66, _⟩ => ⟨S8x1x8x1, .f32⟩
  | .hbm, ⟨67, _⟩ => ⟨S8x64x8x64, .f32⟩
  | .hbm, ⟨68, _⟩ => ⟨S8x64x8x64, .f32⟩
  | .hbm, ⟨69, _⟩ => ⟨S8x64x8x64, .f32⟩
  | .hbm, ⟨70, _⟩ => ⟨S512x512, .f32⟩
  | .hbm, ⟨71, _⟩ => ⟨S512x512, .bf16⟩
  | .hbm, ⟨72, _⟩ => ⟨S1x1024, .f32⟩
  | .hbm, ⟨73, _⟩ => ⟨S2048x1024, .f32⟩
  | .hbm, ⟨74, _⟩ => ⟨S2048x1024, .bf16⟩
  | .hbm, ⟨75, _⟩ => ⟨S1024x1024, .bf16⟩
  | .hbm, ⟨76, _⟩ => ⟨S8192x1024, .f32⟩
  | .hbm, ⟨77, _⟩ => ⟨S8192x2048, .f32⟩
  | .hbm, ⟨78, _⟩ => ⟨S8192x1024, .bf16⟩
  | .hbm, ⟨79, _⟩ => ⟨S8192x512, .f32⟩
  | .hbm, ⟨80, _⟩ => ⟨S8192x512, .f32⟩
  | .hbm, ⟨81, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S1024x1024, .bf16⟩
  | .local _ .vmem, ⟨5, _⟩ => ⟨S512x512, .bf16⟩
  | .local _ .vmem, ⟨6, _⟩ => ⟨S512x512, .bf16⟩
  | .local _ .vmem, ⟨7, _⟩ => ⟨S31x512, .f32⟩
  | .local _ .vmem, ⟨8, _⟩ => ⟨S4x512, .f32⟩
  | .local _ .vmem, ⟨9, _⟩ => ⟨S56x512, .f32⟩
  | .local _ .vmem, ⟨10, _⟩ => ⟨S512x1024, .f32⟩
  | .local _ .vmem, ⟨11, _⟩ => ⟨S512x1024, .f32⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S544x512, .f32⟩
  | .local _ .vmem, ⟨23, _⟩ => ⟨S520x512, .f32⟩
  | .local _ .vmem, ⟨24, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_c_1 : Ref sig .tc := ⟨.hbm, 24, rfl⟩
abbrev main_call2_v0 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_call3_v0 : Ref sig .tc := ⟨.hbm, 29, rfl⟩
abbrev main_v7 : Ref sig .tc := ⟨.hbm, 30, rfl⟩
abbrev main_v8 : Ref sig .tc := ⟨.hbm, 31, rfl⟩
abbrev main_c_3 : Ref sig .tc := ⟨.hbm, 32, rfl⟩
abbrev main_call4_v0 : Ref sig .tc := ⟨.hbm, 33, rfl⟩
abbrev main_v9 : Ref sig .tc := ⟨.hbm, 34, rfl⟩
abbrev main_v10 : Ref sig .tc := ⟨.hbm, 35, rfl⟩
abbrev main_c_4 : Ref sig .tc := ⟨.hbm, 36, rfl⟩
abbrev main_call5_v0 : Ref sig .tc := ⟨.hbm, 37, rfl⟩
abbrev main_v11 : Ref sig .tc := ⟨.hbm, 38, rfl⟩
abbrev main_v12 : Ref sig .tc := ⟨.hbm, 39, rfl⟩
abbrev main_c_5 : Ref sig .tc := ⟨.hbm, 40, rfl⟩
abbrev main_call6_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_6 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v45_2 : Ref sig .tc := ⟨.hbm, 78, rfl⟩
abbrev main_v45_3 : Ref sig .tc := ⟨.hbm, 79, rfl⟩
abbrev main_v45_4 : Ref sig .tc := ⟨.hbm, 80, rfl⟩
abbrev main_v45_5 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S56x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8192x1024 : Shape := ⟨2, ![8192, 1024]⟩
abbrev S1024 : Shape := ⟨1, ![1024]⟩
abbrev S1024x2048 : Shape := ⟨2, ![1024, 2048]⟩
abbrev S31x512 : Shape := ⟨2, ![31, 512]⟩
abbrev S512 : Shape := ⟨1, ![512]⟩
abbrev S4x512 : Shape := ⟨2, ![4, 512]⟩
abbrev S8x64x64 : Shape := ⟨3, ![8, 64, 64]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x512 : Shape := ⟨2, ![8192, 512]⟩
abbrev S30x512 : Shape := ⟨2, ![30, 512]⟩
abbrev S8222x512 : Shape := ⟨2, ![8222, 512]⟩
abbrev S1x512 : Shape := ⟨2, ![1, 512]⟩
abbrev S3x512 : Shape := ⟨2, ![3, 512]⟩
abbrev S8195x512 : Shape := ⟨2, ![8195, 512]⟩

abbrev nBuf : Space → Nat
  | .hbm => 306
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S31x512, .f32⟩
  | 4 => ⟨S512, .f32⟩
  | 5 => ⟨S512, .f32⟩
  | 6 => ⟨S512, .f32⟩
  | 7 => ⟨S4x512, .f32⟩
  | 8 => ⟨S512, .f32⟩
  | 9 => ⟨S8x64x64, .f32⟩
  | 10 => ⟨S512, .f32⟩
  | 11 => ⟨S8x64x64, .f32⟩
  | 12 => ⟨S512, .f32⟩
  | 13 => ⟨S512, .f32⟩
  | 14 => ⟨S1024x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2048, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S8192x512, .f32⟩
  | 45 => ⟨S_, .f32⟩
  | 46 => ⟨S30x512, .f32⟩
  | 47 => ⟨S8222x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S1x512, .f32⟩
  | 58 => ⟨S512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S1x512, .f32⟩
  | _ => ⟨S8192x1024, .f32⟩

abbrev hbmTy0_1 (i : Nat) : BufTy := match i % 128 with
  | 0 => ⟨S512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S8192x512, .f32⟩
  | _ => ⟨S8192x1024, .f32⟩

abbrev hbmTy0_2 (i : Nat) : BufTy := match i % 128 with
  | 0 => ⟨S1x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S_, .f32⟩
  | 15 => ⟨S3x512, .f32⟩
  | 16 => ⟨S8195x512, .f32⟩
  | 17 => ⟨S1x512, .f32⟩
  | 18 => ⟨S512, .f32⟩
  | 19 => ⟨S8192x512, .f32⟩
  | 20 => ⟨S1x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S1x512, .f32⟩
  | 27 => ⟨S512, .f32⟩
  | 28 => ⟨S8192x512, .f32⟩
  | 29 => ⟨S1x512, .f32⟩
  | 30 => ⟨S8192x512, .f32⟩
  | 31 => ⟨S8192x512, .f32⟩
  | 32 => ⟨S8192x512, .f32⟩
  | 33 => ⟨S1x512, .f32⟩
  | 34 => ⟨S512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S1x512, .f32⟩
  | 41 => ⟨S512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S1x512, .f32⟩
  | 48 => ⟨S8192x512, .f32⟩
  | 49 => ⟨S8192x512, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_cst_6 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_cst_7 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2x2816x1024 : Shape := ⟨3, ![2, 2816, 1024]⟩
abbrev S1024x1408 : Shape := ⟨2, ![1024, 1408]⟩
abbrev S1024x1024 : Shape := ⟨2, ![1024, 1024]⟩
abbrev S2x1408x1024 : Shape := ⟨3, ![2, 1408, 1024]⟩
abbrev S1408x1024 : Shape := ⟨2, ![1408, 1024]⟩
abbrev S1x1408x1024 : Shape := ⟨3, ![1, 1408, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S2x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S2x1408x1024, .bf16⟩
  | .local _ .vmem, ⟨7, _⟩ => ⟨S2x1408x1024, .bf16⟩
  | .local _ .vmem, ⟨8, _⟩ => ⟨S1408x1024, .f32⟩
  | .local _ .vmem, ⟨9, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩
abbrev S2x2816x1024 : Shape := ⟨3, ![2, 2816, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S2816x1024, .f32⟩
  | .hbm, ⟨17, _⟩ => ⟨S1x2816x1024, .f32⟩
  | .hbm, ⟨18, _⟩ => ⟨S1x2816x1024, .f32⟩
  | .hbm, ⟨19, _⟩ => ⟨S2x2816x1024, .f32⟩
  | .hbm, ⟨20, _⟩ => ⟨S2x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel6.lean ====
abbrev S1x8x256x1024 : Shape := ⟨4, ![1, 8, 256, 1024]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x8x256x1024, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S1x8x256x1024, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S1x8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S1x8x256x1024 : Shape := ⟨4, ![1, 8, 256, 1024]⟩
abbrev S1024x256 : Shape := ⟨2, ![1024, 256]⟩
abbrev S8x256x1024 : Shape := ⟨3, ![8, 256, 1024]⟩
abbrev S_ : Shape := ⟨0, ![]⟩
abbrev S256x1024 : Shape := ⟨2, ![256, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x8x256x1024, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x256x1024, .bf16⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | _, _ => ⟨S1x8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel7.lean ====
abbrev S1x4x2x352x1024 : Shape := ⟨5, ![1, 4, 2, 352, 1024]⟩
abbrev S1x4x352x1024 : Shape := ⟨4, ![1, 4, 352, 1024]⟩
abbrev S_ : Shape := ⟨0, ![]⟩
abbrev S1 : Shape := ⟨1, ![1]⟩
abbrev S1x1x1x352x1024 : Shape := ⟨5, ![1, 1, 1, 352, 1024]⟩
abbrev S1x1x352x1024 : Shape := ⟨4, ![1, 1, 352, 1024]⟩
abbrev S352x1024 : Shape := ⟨2, ![352, 1024]⟩

abbrev nBuf : Space → Nat
  | .hbm => 4
  | .vmem => 6
  | .smem => 1
  | _ => 0

abbrev bufTy : (tb : Table) → Fin (tcTables nBuf tb) → BufTy
  | .hbm, ⟨0, _⟩ => ⟨S1x4x2x352x1024, .bf16⟩
  | .hbm, ⟨1, _⟩ => ⟨S1x4x352x1024, .bf16⟩
  | .hbm, ⟨2, _⟩ => ⟨S_, .i32⟩
  | .hbm, ⟨3, _⟩ => ⟨S1x4x352x1024, .bf16⟩
  | .local _ .vmem, ⟨0, _⟩ => ⟨S1x1x1x352x1024, .bf16⟩
  | .local _ .vmem, ⟨1, _⟩ => ⟨S1x1x1x352x1024, .bf16⟩
  | .local _ .vmem, ⟨2, _⟩ => ⟨S1x1x352x1024, .bf16⟩
  | .local _ .vmem, ⟨3, _⟩ => ⟨S1x1x352x1024, .bf16⟩
  | .local _ .vmem, ⟨4, _⟩ => ⟨S1x1x352x1024, .bf16⟩
  | .local _ .vmem, ⟨5, _⟩ => ⟨S1x1x352x1024, .bf16⟩
  | .local _ .smem, ⟨0, _⟩ => ⟨S1, .i32⟩
  | _, _ => ⟨S1x4x2x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S1x4x2x352x1024 : Shape := ⟨5, ![1, 4, 2, 352, 1024]⟩
abbrev S1x4x352x1024 : Shape := ⟨4, ![1, 4, 352, 1024]⟩
abbrev S1x4x1x352x1024 : Shape := ⟨5, ![1, 4, 1, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4x2x352x1024, .bf16⟩
  | .hbm, ⟨1, _⟩ => ⟨S1x4x352x1024, .bf16⟩
  | .hbm, ⟨2, _⟩ => ⟨S1x4x1x352x1024, .bf16⟩
  | .hbm, ⟨3, _⟩ => ⟨S1x4x352x1024, .bf16⟩
  | .hbm, ⟨4, _⟩ => ⟨S1x4x352x1024, .f32⟩
  | .hbm, ⟨5, _⟩ => ⟨S1x4x352x1024, .f32⟩
  | .hbm, ⟨6, _⟩ => ⟨S1x4x352x1024, .f32⟩
  | .hbm, ⟨7, _⟩ => ⟨S1x4x352x1024, .bf16⟩
  | _, _ => ⟨S1x4x2x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S1024x352 : Shape := ⟨2, ![1024, 352]⟩
abbrev S352x1024 : Shape := ⟨2, ![352, 1024]⟩
abbrev S1024x256 : Shape := ⟨2, ![1024, 256]⟩
abbrev S128x1024 : Shape := ⟨2, ![128, 1024]⟩
abbrev S3x352x1024 : Shape := ⟨3, ![3, 352, 1024]⟩
abbrev S256x1024 : Shape := ⟨2, ![256, 1024]⟩
abbrev S1x352x1024 : Shape := ⟨3, ![1, 352, 1024]⟩

abbrev nBuf : Space → Nat
  | .hbm => 16
  | .vmem => 12
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S352x1024, .f32⟩
  | .hbm, ⟨3, _⟩ => ⟨S1024x352, .f32⟩
  | .hbm, ⟨4, _⟩ => ⟨S1024x352, .f32⟩
  | .hbm, ⟨5, _⟩ => ⟨S352x1024, .f32⟩
  | .hbm, ⟨6, _⟩ => ⟨S1024x256, .f32⟩
  | .hbm, ⟨7, _⟩ => ⟨S128x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S3x352x1024, .bf16⟩
  | .hbm, ⟨13, _⟩ => ⟨S3x352x1024, .bf16⟩
  | .hbm, ⟨14, _⟩ => ⟨S256x1024, .bf16⟩
  | .hbm, ⟨15, _⟩ => ⟨S128x1024, .bf16⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S1024x256, .f32⟩
  | .local _ .vmem, ⟨7, _⟩ => ⟨S128x1024, .f32⟩
  | .local _ .vmem, ⟨8, _⟩ => ⟨S3x352x1024, .bf16⟩
  | .local _ .vmem, ⟨9, _⟩ => ⟨S3x352x1024, .bf16⟩
  | .local _ .vmem, ⟨10, _⟩ => ⟨S256x1024, .bf16⟩
  | .local _ .vmem, ⟨11, _⟩ => ⟨S128x1024, .bf16⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x352x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x352x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S1024x352 : Shape := ⟨2, ![1024, 352]⟩
abbrev S352x1024 : Shape := ⟨2, ![352, 1024]⟩
abbrev S1024x256 : Shape := ⟨2, ![1024, 256]⟩
abbrev S128x1024 : Shape := ⟨2, ![128, 1024]⟩
abbrev S1x352x1024 : Shape := ⟨3, ![1, 352, 1024]⟩
abbrev S3x352x1024 : Shape := ⟨3, ![3, 352, 1024]⟩
abbrev S256x1024 : Shape := ⟨2, ![256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S352x1024, .f32⟩
  | .hbm, ⟨3, _⟩ => ⟨S1024x352, .f32⟩
  | .hbm, ⟨4, _⟩ => ⟨S1024x352, .f32⟩
  | .hbm, ⟨5, _⟩ => ⟨S352x1024, .f32⟩
  | .hbm, ⟨6, _⟩ => ⟨S1024x256, .f32⟩
  | .hbm, ⟨7, _⟩ => ⟨S128x1024, .f32⟩
  | .hbm, ⟨8, _⟩ => ⟨S352x1024, .f32⟩
  | .hbm, ⟨9, _⟩ => ⟨S352x1024, .f32⟩
  | .hbm, ⟨10, _⟩ => ⟨S1x352x1024, .f32⟩
  | .hbm, ⟨11, _⟩ => ⟨S1x352x1024, .f32⟩
  | .hbm, ⟨12, _⟩ => ⟨S1x352x1024, .f32⟩
  | .hbm, ⟨13, _⟩ => ⟨S3x352x1024, .f32⟩
  | .hbm, ⟨14, _⟩ => ⟨S3x352x1024, .bf16⟩
  | .hbm, ⟨15, _⟩ => ⟨S352x1024, .f32⟩
  | .hbm, ⟨16, _⟩ => ⟨S352x1024, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S3x352x1024, .f32⟩
  | .hbm, ⟨21, _⟩ => ⟨S3x352x1024, .bf16⟩
  | .hbm, ⟨22, _⟩ => ⟨S256x1024, .f32⟩
  | .hbm, ⟨23, _⟩ => ⟨S256x1024, .bf16⟩
  | .hbm, ⟨24, _⟩ => ⟨S128x1024, .bf16⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Dgrad.Run.lean ====
module

public import proofs.«01_k».proof.Proof.Gen.KernelIdeal.Frame
public import proofs.«01_k».proof.Proof.Gen.KernelIdeal.Skeleton

@[expose] public section

set_option maxRecDepth 16384

noncomputable section

namespace Cert.Proof.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The stacked weights, left in HBM. -/
abbrev wHbm : Memref sig .tc .hbm S3x2816x1024 .bf16 := Memref.whole main_v6

abbrev BufOf (c : Dev nD) {sp : Space} {S : Shape} {e : EltTy} (M : Memref sig .tc sp S e) : Type :=
  Buf (Elt F) (M.view.loc (c : Thread nD τ))

/-- The whole buffer of `M` on core `c`, at contents `f`. -/
abbrev heldAt (c : Dev nD) {sp : Space} {S : Shape} {e : EltTy} (M : Memref sig .tc sp S e) (f : BufOf (F := F) c M) : sProp 𝕄 :=
  M.view.loc (c : Thread nD τ) ↦{fullShare} f

/-- The first point's condition, as both of the body's branches test it. -/
abbrev isFirst (i : grid0.Coords) : Prop :=
  (Scalar.cmpi .ne (Scalar.extui (Scalar.cmpi .eq (BitVec.ofNat 32 (i 0).val) 0#32)) 0#32) = 1#1

section
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x2816 .bf16) (h4 : a4.IsWhole)
  (a5 : Memref sig .tc .vmem S512x2816 .bf16) (h5 : a5.IsWhole) (a7 : Memref sig .tc .vmem S512x1024 .f32) (h7 : a7.IsWhole)
  (a8 : Memref sig .tc .vmem S512x2816 .bf16) (h8 : a8.IsWhole) (a9 : Memref sig .tc .vmem S512x2816 .bf16) (h9 : a9.IsWhole)
  (a10 : Memref sig .tc .vmem S1x1024 .f32) (h10 : a10.IsWhole) (a11 : Memref sig .tc .vmem S3x2816x1024 .bf16) (h11 : a11.IsWhole)
  (x0 x1 : Vec F S512x1024 .f32) (x2 : Vec F S1x1024 .f32) (x3 x4 : Vec F S512x2816 .bf16)

/-- What the body reads at a point and leaves as it was. -/
def inputs : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4)

/-- The three copy semaphores at zero and the weights in HBM. -/
def copies (fw : BufOf (F := F) c wHbm) : sProp 𝕄 :=
  iprop(semVal ((c : Thread nD τ), SemLoc.dma 16) 0 ∗ semVal ((c : Thread nD τ), SemLoc.dma 17) 0
    ∗ semVal ((c : Thread nD τ), SemLoc.dma 18) 0 ∗ heldAt c wHbm fw)

set_option maxHeartbeats 1000000 in
set_option sl_exec.dmaWindow true in
set_option sl_exec.dmaWindowSet true in
/-- The body at the first grid point. -/
def runFirst (hc : isFirst i) (fs0 : BufOf (F := F) c a11) (fw : BufOf (F := F) c wHbm) :
    Σ' (L7 : List (View.Piece (Elt F) S512x1024 .f32)), Σ' (L8 : List (View.Piece (Elt F) S512x2816 .bf16)),
    Σ' (L9 : List (View.Piece (Elt F) S512x2816 .bf16)), Σ' (L10 : List (View.Piece (Elt F) S1x1024 .f32)),
    { fs : BufOf (F := F) c a11 //
      ∀ (W : Waits sig Unit) (K : PUnit → sProp 𝕄),
        iprop(inputs c a1 a2 a3 a4 a5 x0 x1 x2 x3 x4
            ∗ (∃ d, owns (c : Thread nD τ) a7 fullShare d) ∗ (∃ d, owns (c : Thread nD τ) a8 fullShare d)
            ∗ (∃ d, owns (c : Thread nD τ) a9 fullShare d) ∗ (∃ d, owns (c : Thread nD τ) a10 fullShare d)
            ∗ (a11.view.loc (c : Thread nD τ) ↦[a11.view.set]{fullShare} fs0) ∗ copies c fw ∗ owes (c : Thread nD τ) 0 W
            ∗ (iprop(inputs c a1 a2 a3 a4 a5 x0 x1 x2 x3 x4
              ∗ (∃ f, a7.view.loc (c : Thread nD τ) ↦[a7.view.set]{fullShare} a7.view.writes (Elt F) f L7)
              ∗ (∃ f, a8.view.loc (c : Thread nD τ) ↦[a8.view.set]{fullShare} a8.view.writes (Elt F) f L8)
              ∗ (∃ f, a9.view.loc (c : Thread nD τ) ↦[a9.view.set]{fullShare} a9.view.writes (Elt F) f L9)
              ∗ (∃ f, a10.view.loc (c : Thread nD τ) ↦[a10.view.set]{fullShare} a10.view.writes (Elt F) f L10)
              ∗ (a11.view.loc (c : Thread nD τ) ↦[a11.view.set]{fullShare} fs) ∗ copies c fw ∗ (∃ W', owes (c : Thread nD τ) 0 W')) -∗ K ⟨⟩))
          ⊢ wp frame (wpE (defs₀ (F := F)) Variants.none c none) Set.univ
              (cc0_ffn_dgrad i a1 h1 a2 h2 a3 h3 a4 h4 a5 h5 wHbm (Memref.isWhole_whole _) a7 h7 a8 h8 a9 h9 a10 h10 a11 h11 cc0_scratch1) K } := by
  refine ⟨?_, ?_, ?_, ?_, ?_, fun W K => ?run⟩
  case run =>
    simp only [cc0_ffn_dgrad_eq_skeleton]; unfold cc0_ffn_dgrad_skel
    simp only [k0_part8_eq_skeleton, k0_part2_eq_skeleton, k0_part1_eq_skeleton, k0_part3_eq_skeleton, k0_part4_eq_skeleton, k0_part5_eq_skeleton, k0_part6_eq_skeleton, k0_part7_eq_skeleton]
    unfold inputs copies owns
    iintro ⟨⟨⟨%f1, %hf1, H1⟩, ⟨%f2, %hf2, H2⟩, ⟨%f3, %hf3, H3⟩, ⟨%f4, %hf4, H4⟩, ⟨%f5, %hf5, H5⟩⟩, ⟨%d7, %f7, -, H7⟩, ⟨%d8, %f8, -, H8⟩, ⟨%d9, %f9, -, H9⟩, ⟨%d10, %f10, -, H10⟩, H11, ⟨Hq0, Hq1, Hq2, Hh⟩, HW, Hk⟩
    obtain rfl := h1.eq_unread hf1; obtain rfl := h2.eq_unread hf2; obtain rfl := h3.eq_unread hf3; obtain rfl := h4.eq_unread hf4
    obtain rfl := h5.eq_unread hf5
    sl_exec (disch := sl_exact hc)
    sl_step
    iapply Hk
    isplitl [H1 H2 H3 H4 H5]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      iexists _; isplitr; · ipureintro; exact h5.read_unread _
      iexact H5
    isplitl [H7]; · iexists _; iexact H7
    isplitl [H8]; · iexists _; iexact H8
    isplitl [H9]; · iexists _; iexact H9
    isplitl [H10]; · iexists _; iexact H10
    isplitl [H11]; · iexact H11
    isplitl [Hq0 Hq1 Hq2 Hh]
    · isplitl [Hq0]; · iexact Hq0
      isplitl [Hq1]; · iexact Hq1
      isplitl [Hq2]; · iexact Hq2
      iexact Hh
    iexists _; iexact HW

set_option maxHeartbeats 1000000 in
/-- The body at a later point: the weights stay as `g` in the scratch and the gain's gradient starts from `d`. -/
def runRest (hc : ¬isFirst i) (d : Vec F S1x1024 .f32) (g : BufOf (F := F) c a11) (fw : BufOf (F := F) c wHbm) :
    Σ' (L7 : List (View.Piece (Elt F) S512x1024 .f32)), Σ' (L8 : List (View.Piece (Elt F) S512x2816 .bf16)),
    Σ' (L9 : List (View.Piece (Elt F) S512x2816 .bf16)), { L10 : List (View.Piece (Elt F) S1x1024 .f32) //
      ∀ (W : Waits sig Unit) (K : PUnit → sProp 𝕄),
        iprop(inputs c a1 a2 a3 a4 a5 x0 x1 x2 x3 x4
            ∗ (∃ d, owns (c : Thread nD τ) a7 fullShare d) ∗ (∃ d, owns (c : Thread nD τ) a8 fullShare d)
            ∗ (∃ d, owns (c : Thread nD τ) a9 fullShare d) ∗ owns (c : Thread nD τ) a10 fullShare d
            ∗ (a11.view.loc (c : Thread nD τ) ↦[a11.view.set]{fullShare} g) ∗ copies c fw ∗ owes (c : Thread nD τ) 0 W
            ∗ (iprop(inputs c a1 a2 a3 a4 a5 x0 x1 x2 x3 x4
              ∗ (∃ f, a7.view.loc (c : Thread nD τ) ↦[a7.view.set]{fullShare} a7.view.writes (Elt F) f L7)
              ∗ (∃ f, a8.view.loc (c : Thread nD τ) ↦[a8.view.set]{fullShare} a8.view.writes (Elt F) f L8)
              ∗ (∃ f, a9.view.loc (c : Thread nD τ) ↦[a9.view.set]{fullShare} a9.view.writes (Elt F) f L9)
              ∗ (a10.view.loc (c : Thread nD τ) ↦[a10.view.set]{fullShare} a10.view.writes (Elt F) (h10.unread d) L10)
              ∗ (a11.view.loc (c : Thread nD τ) ↦[a11.view.set]{fullShare} g) ∗ copies c fw ∗ (∃ W', owes (c : Thread nD τ) 0 W')) -∗ K ⟨⟩))
          ⊢ wp frame (wpE (defs₀ (F := F)) Variants.none c none) Set.univ
              (cc0_ffn_dgrad i a1 h1 a2 h2 a3 h3 a4 h4 a5 h5 wHbm (Memref.isWhole_whole _) a7 h7 a8 h8 a9 h9 a10 h10 a11 h11 cc0_scratch1) K } := by
  refine ⟨?_, ?_, ?_, ?_, fun W K => ?run⟩
  case run =>
    simp only [cc0_ffn_dgrad_eq_skeleton]; unfold cc0_ffn_dgrad_skel
    simp only [k0_part8_eq_skeleton, k0_part2_eq_skeleton, k0_part1_eq_skeleton, k0_part3_eq_skeleton, k0_part4_eq_skeleton, k0_part5_eq_skeleton, k0_part6_eq_skeleton, k0_part7_eq_skeleton]
    unfold inputs copies owns
    iintro ⟨⟨⟨%f1, %hf1, H1⟩, ⟨%f2, %hf2, H2⟩, ⟨%f3, %hf3, H3⟩, ⟨%f4, %hf4, H4⟩, ⟨%f5, %hf5, H5⟩⟩, ⟨%d7, %f7, -, H7⟩, ⟨%d8, %f8, -, H8⟩, ⟨%d9, %f9, -, H9⟩, ⟨%f10, %hf10, H10⟩, H11, ⟨Hq0, Hq1, Hq2, Hh⟩, HW, Hk⟩
    obtain rfl := h1.eq_unread hf1; obtain rfl := h2.eq_unread hf2; obtain rfl := h3.eq_unread hf3; obtain rfl := h4.eq_unread hf4
    obtain rfl := h5.eq_unread hf5; obtain rfl := h10.eq_unread hf10
    sl_exec (disch := sl_exact hc)
    sl_step
    iapply Hk
    isplitl [H1 H2 H3 H4 H5]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      iexists _; isplitr; · ipureintro; exact h5.read_unread _
      iexact H5
    isplitl [H7]; · iexists _; iexact H7
    isplitl [H8]; · iexists _; iexact H8
    isplitl [H9]; · iexists _; iexact H9
    isplitl [H10]; · iexact H10
    isplitl [H11]; · iexact H11
    isplitl [Hq0 Hq1 Hq2 Hh]
    · isplitl [Hq0]; · iexact Hq0
      isplitl [Hq1]; · iexact Hq1
      isplitl [Hq2]; · iexact Hq2
      iexact Hh
    iexists _; iexact HW

end

end Cert.Proof.Dgrad

end
-- ==== Proof.Shared.Slab.lean ====
module

public import Idealize.ShloMosaic.Lib.Writes
public import Idealize.ShloMosaic.Lib.Tactic
public import Idealize.ShloMosaic.Lib.Pipeline.FrameBody

@[expose] public section

noncomputable section

namespace Cert.Proof.Slab

open Idealize.ShloMosaic Idealize.ShloMosaic.TcCoe Idealize.ShloMosaic.Tactic

/-- An index of a rectangle's image, spelt as a load spells it. -/
theorem emb_eq_idx {s : Shape} (r : Rect s) (x : r.shape.Idx) : r.emb x = r.toLoadRect.idx x := rfl

/-- A copy of one slab of an array into the same slab of a buffer, both through the slab's reshaped slice, is one write of the slab. -/
theorem copy_slab {sig : RefSig} {κ κ' : Kind} {sp sp' : Space} {s s' : Shape} {e : EltTy} {Val : EltTy → Type}
    (v : View sig κ sp s e) (u : View sig κ' sp' s e) (r : Rect s) (h : s'.numel = r.shape.numel)
    (f : v.ty.Contents Val) (g : u.ty.Contents Val) :
    View.write Val ((v.slice r).reshape s' h) f (View.read Val ((u.slice r).reshape s' h) g) Finset.univ
      = v.writes Val f [⟨r, fun x => View.read Val u g (r.emb x)⟩] := by
  rw [View.write_reshape_univ, View.writes_singleton]
  congr 1
  funext x
  change View.read Val (u.slice r) g (Shape.reshapeEquiv h ((Shape.reshapeEquiv h).symm x)) = _
  rw [Equiv.apply_symm_apply]
  rfl

end Cert.Proof.Slab

end
-- ==== Proof.Dgrad.Tile.lean ====
module

public import proofs.«01_k».proof.Proof.Dgrad.Run
public import proofs.«01_k».proof.Proof.Shared.Slab
public import Idealize.ShloMosaic.Lib.Pointwise
public import Idealize.ShloMosaic.Lib.WholeRead

@[expose] public section

set_option maxRecDepth 16384

noncomputable section

namespace Cert.Proof.Dgrad

open Idealize.ShloMosaic Idealize.ShloMosaic.TcCoe Idealize.ShloMosaic.Tactic
open Cert.KernelIdeal Cert.KernelIdeal.Gen

section
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x2816 .bf16) (h4 : a4.IsWhole)
  (a5 : Memref sig .tc .vmem S512x2816 .bf16) (h5 : a5.IsWhole) (a7 : Memref sig .tc .vmem S512x1024 .f32) (h7 : a7.IsWhole)
  (a8 : Memref sig .tc .vmem S512x2816 .bf16) (h8 : a8.IsWhole) (a9 : Memref sig .tc .vmem S512x2816 .bf16) (h9 : a9.IsWhole)
  (a10 : Memref sig .tc .vmem S1x1024 .f32) (h10 : a10.IsWhole) (a11 : Memref sig .tc .vmem S3x2816x1024 .bf16) (h11 : a11.IsWhole)
  (x0 x1 : Vec Ideal S512x1024 .f32) (x2 : Vec Ideal S1x1024 .f32) (x3 x4 : Vec Ideal S512x2816 .bf16)
  (w : Vec Ideal S3x2816x1024 .bf16) (d : Vec Ideal S1x1024 .f32)

/-- The gradient of a hidden activation: row `r` of half the cotangent against row `f` of the down weights. -/
def dact (r : Fin 512) (f : Fin 2816) : EReal :=
  ∑ k : Fin 1024, (Ideal.ofBits .f32 0x3F000000#32 * x0 (ix2 r k)) * w (ix3 2 f k)

/-- A tile of the gradient of the gate (or of the up projection): the activation's gradient times the saved slope. -/
def dhid (x : Vec Ideal S512x2816 .bf16) : Vec Ideal S512x2816 .bf16 := fun j => dact x0 w (j 0) (j 1) * x j

/-- The gradient of the normalised row: the two hidden gradients against the gate and the up weights. -/
def dnorm (r : Fin 512) (k : Fin 1024) : EReal :=
  ∑ f : Fin 2816, dhid x0 w x4 (ix2 r f) * w (ix3 0 f k) + ∑ f : Fin 2816, dhid x0 w x3 (ix2 r f) * w (ix3 1 f k)

/-- The reciprocal root of a row's mean square. -/
def rstd (r : Fin 512) : EReal :=
  Ideal.rsqrt (Ideal.div (∑ k : Fin 1024, x1 (ix2 r k) * x1 (ix2 r k)) (Ideal.ofBits .f32 0x44800000#32) + Ideal.ofBits .f32 0x358637BD#32)

/-- A tile of the gradient of the block's input. -/
def dxTile : Vec Ideal S512x1024 .f32 := fun j =>
  x0 (ix2 (j 0) (j 1)) + rstd x1 (j 0) * (dnorm x0 x3 x4 w (j 0) (j 1) * x2 (ix2 0 (j 1)) - x1 (ix2 (j 0) (j 1)) * rstd x1 (j 0) *
    Ideal.div (∑ k : Fin 1024, dnorm x0 x3 x4 w (j 0) k * x2 (ix2 0 k) * (x1 (ix2 (j 0) k) * rstd x1 (j 0))) (Ideal.ofBits .f32 0x44800000#32))

/-- A tile's addend to the gradient of the gain. -/
def dgTile : Vec Ideal S1x1024 .f32 := fun j =>
  ∑ r : Fin 512, dnorm x0 x3 x4 w r (j 1) * (x1 (ix2 r (j 1)) * rstd x1 r)

section
variable (hc : ¬isFirst i) (g : BufOf (F := Ideal) c a11) (fw : BufOf (F := Ideal) c wHbm)
  (hg : ∀ (B : LoadRect S3x2816x1024) (x : B.shape.Idx), View.readAt (Elt Ideal) a11.view B g x = w (B.idx x))

/-- The pieces that a later point writes, over any contents of the scratch that read `w`. -/
abbrev rest := runRest c i a1 h1 a2 h2 a3 h3 a4 h4 a5 h5 a7 h7 a8 h8 a9 h9 a10 h10 a11 h11 x0 x1 x2 x3 x4 hc d g fw

include hg in
theorem gate_canon :
    View.canon (rest c i a1 h1 a2 h2 a3 h3 a4 h4 a5 h5 a7 h7 a8 h8 a9 h9 a10 h10 a11 h11 x0 x1 x2 x3 x4 d hc g fw).2.1 = dhid x0 w x4 := by
  refine funext fun y => View.canon_apply_of_pieces _ _ ?_ y (View.cover_of_tiled _ ![512, 256] rfl y)
  unfold rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [dhid, dact, Memref.IsWhole.readAt_unread, hg]

include hg in
theorem up_canon :
    View.canon (rest c i a1 h1 a2 h2 a3 h3 a4 h4 a5 h5 a7 h7 a8 h8 a9 h9 a10 h10 a11 h11 x0 x1 x2 x3 x4 d hc g fw).2.2.1 = dhid x0 w x3 := by
  refine funext fun y => View.canon_apply_of_pieces _ _ ?_ y (View.cover_of_tiled _ ![512, 256] rfl y)
  unfold rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [dhid, dact, Memref.IsWhole.readAt_unread, hg]

include hg in
theorem dx_canon :
    View.canon (rest c i a1 h1 a2 h2 a3 h3 a4 h4 a5 h5 a7 h7 a8 h8 a9 h9 a10 h10 a11 h11 x0 x1 x2 x3 x4 d hc g fw).1
      = dxTile x0 x1 x2 x3 x4 w := by
  refine funext fun y => View.canon_apply_of_pieces _ _ ?_ y (View.cover_of_tiled _ ![512, 1024] rfl y)
  have hG := gate_canon c i a1 h1 a2 h2 a3 h3 a4 h4 a5 h5 a7 h7 a8 h8 a9 h9 a10 h10 a11 h11 x0 x1 x2 x3 x4 w d hc g fw hg
  have hU := up_canon c i a1 h1 a2 h2 a3 h3 a4 h4 a5 h5 a7 h7 a8 h8 a9 h9 a10 h10 a11 h11 x0 x1 x2 x3 x4 w d hc g fw hg
  revert hG hU
  unfold rest runRest
  dsimp only
  sl_unfold_words
  intro hG hU
  simp only [List.forall_mem_cons, List.not_mem_nil, false_implies, implies_true, and_true, View.readCov_eq_canon', hG, hU]
  intro x
  idx_vars x
  rw [Slab.emb_eq_idx]
  unfold_payloads
  pointwise [Memref.IsWhole.readAt_unread, hg, dxTile, rstd, dnorm]

include hg in
theorem dg_canon :
    View.canon (rest c i a1 h1 a2 h2 a3 h3 a4 h4 a5 h5 a7 h7 a8 h8 a9 h9 a10 h10 a11 h11 x0 x1 x2 x3 x4 d hc g fw).2.2.2.val
      = fun j => d j + dgTile x0 x1 x3 x4 w j := by
  refine funext fun y => View.canon_apply_of_pieces (fun j => d j + dgTile x0 x1 x3 x4 w j) _ ?_ y (View.cover_of_tiled _ ![1, 1024] rfl y)
  have hG := gate_canon c i a1 h1 a2 h2 a3 h3 a4 h4 a5 h5 a7 h7 a8 h8 a9 h9 a10 h10 a11 h11 x0 x1 x2 x3 x4 w d hc g fw hg
  have hU := up_canon c i a1 h1 a2 h2 a3 h3 a4 h4 a5 h5 a7 h7 a8 h8 a9 h9 a10 h10 a11 h11 x0 x1 x2 x3 x4 w d hc g fw hg
  revert hG hU
  unfold rest runRest
  dsimp only
  sl_unfold_words
  intro hG hU
  simp only [List.forall_mem_cons, List.not_mem_nil, false_implies, implies_true, and_true, View.readCov_eq_canon', hG, hU]
  intro x
  idx_vars x
  rw [Slab.emb_eq_idx]
  unfold_payloads
  pointwise [Memref.IsWhole.readAt_unread, hg, dgTile, rstd, dnorm]

end

section
variable (hc : isFirst i) (fs0 : BufOf (F := Ideal) c a11) (fw : BufOf (F := Ideal) c wHbm)

/-- What the first point leaves. -/
abbrev first := runFirst c i a1 h1 a2 h2 a3 h3 a4 h4 a5 h5 a7 h7 a8 h8 a9 h9 a10 h10 a11 h11 x0 x1 x2 x3 x4 hc fs0 fw

/-- The three copied slabs fill the scratch with the weights. -/
theorem scratch :
    View.read (Elt Ideal) a11.view (first c i a1 h1 a2 h2 a3 h3 a4 h4 a5 h5 a7 h7 a8 h8 a9 h9 a10 h10 a11 h11 x0 x1 x2 x3 x4 hc fs0 fw).2.2.2.2.val
      = View.read (Elt Ideal) wHbm.view fw := by
  unfold first runFirst
  dsimp only
  sl_unfold_words
  have H := Slab.copy_slab (Val := Elt Ideal) (s' := S2816x1024) a11.view wHbm.view
  refine Eq.trans (congrArg (View.read (Elt Ideal) a11.view) ((H (Rect.unit ![2, 0, 0] ![1, 2816, 1024] (by decide)) _ _ fw).trans
    (congrArg (fun f => a11.view.writes (Elt Ideal) f _) ((H (Rect.unit ![1, 0, 0] ![1, 2816, 1024] (by decide)) _ _ fw).trans
      (congrArg (fun f => a11.view.writes (Elt Ideal) f _) (H (Rect.unit ![0, 0, 0] ![1, 2816, 1024] (by decide)) _ fs0 fw)))))) ?_
  simp only [← View.writes_append, List.singleton_append]
  refine funext fun y => View.read_writes_apply_of_pieces _ _ _ _ ?_ y (View.cover_of_tiled _ ![1, 2816, 1024] rfl y)
  simp only [List.forall_mem_cons, List.not_mem_nil, false_implies, implies_true, and_true]

/-- The other outputs' pieces at the first point are those of a later point over the filled scratch. -/
theorem first_eq (i' : grid0.Coords) (hc' : ¬isFirst i') :
    let R := rest c i' a1 h1 a2 h2 a3 h3 a4 h4 a5 h5 a7 h7 a8 h8 a9 h9 a10 h10 a11 h11 x0 x1 x2 x3 x4 d hc'
      (first c i a1 h1 a2 h2 a3 h3 a4 h4 a5 h5 a7 h7 a8 h8 a9 h9 a10 h10 a11 h11 x0 x1 x2 x3 x4 hc fs0 fw).2.2.2.2.val fw
    let L := first c i a1 h1 a2 h2 a3 h3 a4 h4 a5 h5 a7 h7 a8 h8 a9 h9 a10 h10 a11 h11 x0 x1 x2 x3 x4 hc fs0 fw
    L.1 = R.1 ∧ L.2.1 = R.2.1 ∧ L.2.2.1 = R.2.2.1 := ⟨rfl, rfl, rfl⟩

theorem first_dg (i' : grid0.Coords) (hc' : ¬isFirst i')
    (hg : ∀ (B : LoadRect S3x2816x1024) (x : B.shape.Idx), View.readAt (Elt Ideal) a11.view B
      (first c i a1 h1 a2 h2 a3 h3 a4 h4 a5 h5 a7 h7 a8 h8 a9 h9 a10 h10 a11 h11 x0 x1 x2 x3 x4 hc fs0 fw).2.2.2.2.val x = w (B.idx x)) :
    View.canon (first c i a1 h1 a2 h2 a3 h3 a4 h4 a5 h5 a7 h7 a8 h8 a9 h9 a10 h10 a11 h11 x0 x1 x2 x3 x4 hc fs0 fw).2.2.2.1
      = dgTile x0 x1 x3 x4 w := by
  have hG := gate_canon c i' a1 h1 a2 h2 a3 h3 a4 h4 a5 h5 a7 h7 a8 h8 a9 h9 a10 h10 a11 h11 x0 x1 x2 x3 x4 w (fun _ => 0) hc' _ fw hg
  have hU := up_canon c i' a1 h1 a2 h2 a3 h3 a4 h4 a5 h5 a7 h7 a8 h8 a9 h9 a10 h10 a11 h11 x0 x1 x2 x3 x4 w (fun _ => 0) hc' _ fw hg
  revert hG hU hg
  unfold rest runRest first runFirst
  dsimp only
  sl_unfold_words
  intro hg hG hU
  simp only [View.readCov_cons_toLoadRect, View.readCov_eq_canon', hG, hU]
  refine (View.canon_cons_unit_zero (by decide) _ _ _).trans (funext fun x => ?_)
  idx_vars x
  unfold_payloads
  pointwise [Memref.IsWhole.readAt_unread, hg, dgTile, rstd, dnorm]
  refine (congrArg (· + _) (congrFun (View.canon_unit_zero (Val := Elt Ideal) (S := S1x1024) (e := .f32) (by decide) _ _) (ix2 0 x1))).trans ?_
  exact zero_add _

end

end

end Cert.Proof.Dgrad

end
-- ==== Proof.Dgrad.Frame.lean ====
module

public import proofs.«01_k».proof.Proof.Gen.KernelIdeal.Points
public import proofs.«01_k».proof.Proof.Gen.KernelIdeal.Launch
public import proofs.«01_k».proof.Proof.Dgrad.Tile

@[expose] public section

set_option maxRecDepth 16384

noncomputable section

namespace Cert.Proof.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (Pipeline.UD sig nD τ) ℕ

variable (m : (ℓ : Loc nD τ sig) → Buf (Elt Ideal) ℓ) (ρ : Dev nD → PrngReg)

/-- The semaphores that the body's own copies count on. -/
abbrev copySems : Fin 3 → SemLoc sig := fun j => (![SemLoc.dma 16, SemLoc.dma 17, SemLoc.dma 18] : Fin 3 → SemLoc sig) j

theorem copySems_own : Pipeline.OwnSemFacts spec0 copySems := by decide

/-- The one operand that the body copies by itself. -/
def moved : Finset (Ref sig .tc) := {main_v6}

theorem moved_sub : moved ⊆ Pipeline.restRefs sig spec0 := by decide

/-- The host's lines and then the region. -/
theorem host_then_region : Pipeline.HMain (Ix := Unit) (Name := ℕ) (U := Pipeline.UD sig nD τ) (Lvl := ℕ) cfgs 0 defs₀ Variants.none m
    (main (F := Ideal)) (V m) :=
  Pipeline.hmain_prefix cfgs 0 defs₀ Variants.none m main hostOps0 hostOps0_sub hostOps0_fresh main_chain

/-- The weights that the region finds. -/
def wts (c : Dev nD) : Vec Ideal S3x2816x1024 .bf16 := View.read (Elt Ideal) wHbm.view (V m c main_v6)

/-- The scratch that keeps the weights. -/
abbrev wVmem : Memref sig .tc .vmem S3x2816x1024 .bf16 := Memref.whole cc0_scratch0

/-- What a point takes beside its windows, the scratch left open: the generator register, the copy semaphores, the weights in HBM. -/
def aside (c : Dev nD) : sProp 𝕄 :=
  iprop((∃ r, prngReg c r) ∗ (semVal ((c : Thread nD τ), SemLoc.dma 16) 0 ∗ semVal ((c : Thread nD τ), SemLoc.dma 17) 0
    ∗ semVal ((c : Thread nD τ), SemLoc.dma 18) 0) ∗ heldAt c wHbm (V m c main_v6))

theorem scratch_owns (c : Dev nD) (d : Vec Ideal S3x2816x1024 .bf16) :
    (owns (c : Thread nD τ) wVmem fullShare d : sProp 𝕄)
      = iprop(∃ f, ⌜View.read (Elt Ideal) wVmem.view f = d⌝ ∗ wVmem.view.loc (c : Thread nD τ) ↦[wVmem.view.set]{fullShare} f) := rfl

theorem launch_aside (c : Dev nD) :
    (Pipeline.ΦD copySems spec0 moved (V m) c : sProp 𝕄) = iprop((∃ d, owns (c : Thread nD τ) wVmem fullShare d) ∗ aside m c) := by
  rw [Pipeline.ΦD_eq, scopedRest0_eq, Pipeline.ownSems0_eq_of_list c copySems [0, 1, 2] (by decide) (by decide), moved,
    BI.bigSep_eq_bigSepL_of_eq [main_v6] (by decide) (by decide)]
  simp only [owns_whole]
  rfl

/-- What holds between the points: before the first the scratch holds anything, after it the weights. -/
def between (c : Dev nD) : ℕ → sProp 𝕄
  | 0 => Pipeline.ΦD copySems spec0 moved (V m) c
  | _ + 1 => iprop(owns (c : Thread nD τ) wVmem fullShare (wts m c) ∗ aside m c)

/-- The gradient of the norm's gain over one point's rows. -/
def dgAt (c : Dev nD) (t : Fin cfg0.N) : Vec Ideal S1x1024 .f32 :=
  dgTile (iblk m c 0 t) (iblk m c 1 t) (iblk m c 3 t) (iblk m c 4 t) (wts m c)

/-- The running sum of the gain's gradient after point `n`. -/
def dgSum (c : Dev nD) : (n : ℕ) → n < cfg0.N → Vec Ideal S1x1024 .f32
  | 0, h => dgAt m c ⟨0, h⟩
  | n + 1, h => fun j => dgSum c n (Nat.lt_of_succ_lt h) j + dgAt m c ⟨n + 1, h⟩ j

theorem dgSum_first (c : Dev nD) (t : Fin cfg0.N) (ht : t.val = 0) : dgAt m c t = dgSum m c t.val t.isLt := by
  obtain ⟨n, hn⟩ := t
  obtain rfl : n = 0 := ht
  rfl

/-- What each point finds and leaves. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxTile (iblk m c 0 t) (iblk m c 1 t) (iblk m c 2 t) (iblk m c 3 t) (iblk m c 4 t) (wts m c)
    | ⟨6, _⟩ => dhid (iblk m c 0 t) (wts m c) (iblk m c 4 t)
    | ⟨7, _⟩ => dhid (iblk m c 0 t) (wts m c) (iblk m c 3 t)
    | ⟨8, _⟩ => dgSum m c t.val t.isLt
  Φ t := between m c t.val
  q _ := fullShare
  owed _ := 0

theorem dats_A (c : Dev nD) (w : Fin cfg0.W) : (dats m 0 c).A w = V m c (Pipeline.arrRef spec0 w) := by dsimp only [dats]

/-! What each point leaves in the windows' buffers. -/

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

theorem after_4 (c : Dev nD) (t : Fin cfg0.N) : (dats m 0 c).after 4 t = iblk m c 4 t := by dsimp only [dats]

theorem after_5 (c : Dev nD) (t : Fin cfg0.N) : (dats m 0 c).after 5 t = dxTile (iblk m c 0 t) (iblk m c 1 t) (iblk m c 2 t) (iblk m c 3 t) (iblk m c 4 t) (wts m c) := by dsimp only [dats]

theorem after_6 (c : Dev nD) (t : Fin cfg0.N) : (dats m 0 c).after 6 t = dhid (iblk m c 0 t) (wts m c) (iblk m c 4 t) := by dsimp only [dats]

theorem after_7 (c : Dev nD) (t : Fin cfg0.N) : (dats m 0 c).after 7 t = dhid (iblk m c 0 t) (wts m c) (iblk m c 3 t) := by dsimp only [dats]

theorem after_8 (c : Dev nD) (t : Fin cfg0.N) : (dats m 0 c).after 8 t = dgSum m c t.val t.isLt := by dsimp only [dats]

/-! An input window holds its block at every point, fetched there or not. -/

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans (by unfold Dat.fetched Dat.blockOf iblk; rw [dats_A]; rfl)

theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans (by unfold Dat.fetched Dat.blockOf iblk; rw [dats_A]; rfl)

theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans (by unfold Dat.fetched Dat.blockOf iblk; rw [dats_A]; rfl)

theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans (by unfold Dat.fetched Dat.blockOf iblk; rw [dats_A]; rfl)

theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans (by unfold Dat.fetched Dat.blockOf iblk; rw [dats_A]; rfl)

/-- At a later point the running sum's window still holds what the point before left. -/
theorem before_sum (c : Dev nD) (n : ℕ) (hn : n + 1 < cfg0.N) (d) :
    (dats m 0 c).before 8 ⟨n + 1, hn⟩ d = dgSum m c n (Nat.lt_of_succ_lt hn) := by
  have hN : n + 1 < 16 := lt_of_lt_of_eq hn N_0
  rw [Dat.before_out_kept _ 8 rfl ⟨n + 1, hn⟩ (Nat.succ_ne_zero n)
    (Bool.eq_false_iff.mpr fun h => by have := (flush0_8 _).mp h; dsimp only at this; omega) (fun _ => rfl) (fun _ _ => rfl)]
  dsimp only [dats]
  rfl

theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]
  word_cmp

/-- What the scratch holds, once it holds the weights, is read as the weights through any rectangle. -/
theorem read_wts (c : Dev nD) (g : BufOf (F := Ideal) c wVmem) (h : View.read (Elt Ideal) wVmem.view g = wts m c)
    (B : LoadRect S3x2816x1024) (x : B.shape.Idx) : View.readAt (Elt Ideal) wVmem.view B g x = wts m c (B.idx x) :=
  congrFun h (B.idx x)

/-- The invariant and what the windows' buffers hold before point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- The invariant and what the windows' buffers hold after point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- A buffer that was stored to all over is owned at what the stores say, whatever it held. -/
theorem owns_written (c : Dev nD) {sp : Space} {S : Shape} {e : EltTy} (M : Memref sig .tc sp S e) (L : List (View.Piece (Elt Ideal) S e))
    (d : Vec Ideal S e) (cov : ∀ y : S.Idx, ∃ p ∈ L, y ∈ p.1.set) (hL : View.canon L = d) :
    (iprop(∃ f, M.view.loc (c : Thread nD τ) ↦[M.view.set]{fullShare} M.view.writes (Elt Ideal) f L) : sProp 𝕄)
      ⊢ owns (c : Thread nD τ) M fullShare d := by
  iintro ⟨%f, H⟩
  unfold owns; iexists _; isplitr
  swap; · iexact H
  ipureintro; exact (View.read_writes_eq_canon _ _ _ cov).trans hL

theorem dats_between (c : Dev nD) (t : Fin cfg0.N) : (dats m 0 c).Φ t.castSucc = between m c t.val := by
  dsimp only [dats]
  exact Pipeline.Dat.Φ_castSucc (fun n _ => between m c n) t

theorem dats_between_succ (c : Dev nD) (t : Fin cfg0.N) :
    (dats m 0 c).Φ t.succ = iprop(owns (c : Thread nD τ) wVmem fullShare (wts m c) ∗ aside m c) := rfl

/-- The body's run at the first point, on the point's buffers. -/
abbrev firstAt (c : Dev nD) (t : Fin cfg0.N) (hc : isFirst (grid0.coords t)) (fs0 : BufOf (F := Ideal) c wVmem) :=
  first c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) wVmem (Memref.isWhole_whole _)
    (iblk m c 0 t) (iblk m c 1 t) (iblk m c 2 t) (iblk m c 3 t) (iblk m c 4 t) hc fs0 (V m c main_v6)

/-- The body's run at a later point, on the point's buffers. -/
abbrev restAt (c : Dev nD) (t : Fin cfg0.N) (d : Vec Ideal S1x1024 .f32) (hc : ¬isFirst (grid0.coords t)) (g : BufOf (F := Ideal) c wVmem) :=
  rest c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) wVmem (Memref.isWhole_whole _)
    (iblk m c 0 t) (iblk m c 1 t) (iblk m c 2 t) (iblk m c 3 t) (iblk m c 4 t) d hc g (V m c main_v6)

/-- The first point's stores, by the weights that its own copies brought. -/
theorem firstAt_canon (c : Dev nD) (t : Fin cfg0.N) (hc : isFirst (grid0.coords t)) (fs0 : BufOf (F := Ideal) c wVmem) :
    View.canon (firstAt m c t hc fs0).1 = dxTile (iblk m c 0 t) (iblk m c 1 t) (iblk m c 2 t) (iblk m c 3 t) (iblk m c 4 t) (wts m c)
    ∧ View.canon (firstAt m c t hc fs0).2.1 = dhid (iblk m c 0 t) (wts m c) (iblk m c 4 t)
    ∧ View.canon (firstAt m c t hc fs0).2.2.1 = dhid (iblk m c 0 t) (wts m c) (iblk m c 3 t)
    ∧ View.canon (firstAt m c t hc fs0).2.2.2.1 = dgAt m c t := by
  have hg := read_wts m c (firstAt m c t hc fs0).2.2.2.2.val (scratch ..)
  have h1 : ¬isFirst (grid0.coords (⟨1, by decide⟩ : Fin grid0.N)) := by
    intro h
    exact absurd ((isFirst_iff (⟨1, by decide⟩ : Fin grid0.N)).mp h) (by decide)
  obtain ⟨e7, e8, e9⟩ := first_eq c (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2)) (st0_3 t)
    (hstage0_3 ((cfg0.slots t 3).cast nbuf0_3)) (st0_4 t) (hstage0_4 ((cfg0.slots t 4).cast nbuf0_4)) (st0_5 t)
    (hstage0_5 ((cfg0.slots t 5).cast nbuf0_5)) (st0_6 t) (hstage0_6 ((cfg0.slots t 6).cast nbuf0_6)) (st0_7 t)
    (hstage0_7 ((cfg0.slots t 7).cast nbuf0_7)) (st0_8 t) (hstage0_8 ((cfg0.slots t 8).cast nbuf0_8)) wVmem (Memref.isWhole_whole _)
    (iblk m c 0 t) (iblk m c 1 t) (iblk m c 2 t) (iblk m c 3 t) (iblk m c 4 t) (dgAt m c t) hc fs0 (V m c main_v6) _ h1
  exact ⟨(congrArg View.canon e7).trans (dx_canon (hg := hg) ..), (congrArg View.canon e8).trans (gate_canon (hg := hg) ..),
    (congrArg View.canon e9).trans (up_canon (hg := hg) ..), first_dg (hg := hg) (hc' := h1) ..⟩

set_option maxHeartbeats 6400000 in
/-- The body at the first point. -/
theorem body_first (c : Dev nD) (t : Fin cfg0.N) (ht : t.val = 0) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [dats_between, dats_between_succ, ht, show between m c 0 = Pipeline.ΦD copySems spec0 moved (V m) c from rfl, launch_aside,
    after_0, after_1, after_2, after_3, after_4, after_5, after_6, after_7, after_8]
  unfold Dat.owesAt Pipeline.owesWithin
  have hc := (isFirst_iff t).mpr ht
  rw [show (dats m 0 c).owed t.castSucc = 0 from rfl, show (dats m 0 c).owed t.succ = 0 from rfl]
  simp only [aside, scratch_owns]
  iintro ⟨⟨⟨%ds, %fs0, -, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨c7, c8, c9, c10⟩ := firstAt_canon m c t hc fs0
  iapply ((firstAt m c t hc fs0).2.2.2.2.property W _)
  isplitl [H0 H1 H2 H3 H4]
  · unfold inputs
    isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]; · iexists _; iexact H7
  isplitl [H8]; · iexists _; iexact H8
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1, H2, H3, H4⟩, H5, H6, H7, H8, HS, ⟨Hq0, Hq1, Hq2, Hh⟩, ⟨%W', HW'⟩⟩
  isplitl [HS Hg Hq0 Hq1 Hq2 Hh]
  · isplitl [HS]
    · iexists _; isplitr
      swap; · iexact HS
      ipureintro; exact scratch ..
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iapply (owns_written c _ _ _ (View.cover_of_tiled _ ![512, 1024] rfl) c7); iexact H5
  isplitl [H6]; · iapply (owns_written c _ _ _ (View.cover_of_tiled _ ![512, 256] rfl) c8); iexact H6
  isplitl [H7]; · iapply (owns_written c _ _ _ (View.cover_of_tiled _ ![512, 256] rfl) c9); iexact H7
  iapply (owns_written c _ _ _ (View.cover_of_tiled _ ![1, 1024] rfl) (c10.trans (dgSum_first m c t ht))); iexact H8

set_option maxHeartbeats 6400000 in
/-- The body at a later point. -/
theorem body_rest (c : Dev nD) (n : ℕ) (hn : n + 1 < cfg0.N) :
    bodyPre m c ⟨n + 1, hn⟩ ⊢ wp frame (wpE (defs₀ (F := Ideal)) Variants.none c none) Set.univ (bodyAt0 ⟨n + 1, hn⟩) (fun _ => bodyPost m c ⟨n + 1, hn⟩) := by
  have hc : ¬isFirst (grid0.coords (⟨n + 1, hn⟩ : Fin cfg0.N)) := fun h => Nat.succ_ne_zero n ((isFirst_iff _).mp h)
  generalize ht : (⟨n + 1, hn⟩ : Fin cfg0.N) = t at hc ⊢
  have before_8' : ∀ d, (dats m 0 c).before 8 t d = dgSum m c n (Nat.lt_of_succ_lt hn) := ht ▸ before_sum m c n hn
  unfold bodyPre bodyPost bodyAt0
  simp only [before_0, before_1, before_2, before_3, before_4, before_8']
  rw [dats_between, dats_between_succ, show between m c t.val = iprop(owns (c : Thread nD τ) wVmem fullShare (wts m c) ∗ aside m c) from ht ▸ rfl,
    after_0, after_1, after_2, after_3, after_4, after_5, after_6, after_7, after_8]
  unfold Dat.owesAt Pipeline.owesWithin
  rw [show (dats m 0 c).owed t.castSucc = 0 from rfl, show (dats m 0 c).owed t.succ = 0 from rfl]
  simp only [aside, scratch_owns]
  iintro ⟨⟨⟨%g, %hg, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hr := read_wts m c g hg
  have hsum : (fun j => dgSum m c n (Nat.lt_of_succ_lt hn) j + dgAt m c t j) = dgSum m c t.val t.isLt := by subst ht; rfl
  iapply ((restAt m c t (dgSum m c n (Nat.lt_of_succ_lt hn)) hc g).2.2.2.property W _)
  isplitl [H0 H1 H2 H3 H4]
  · unfold inputs
    isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]; · iexists _; iexact H7
  isplitl [H8]; · iexact H8
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1, H2, H3, H4⟩, H5, H6, H7, H8, HS, ⟨Hq0, Hq1, Hq2, Hh⟩, ⟨%W', HW'⟩⟩
  isplitl [HS Hg Hq0 Hq1 Hq2 Hh]
  · isplitl [HS]
    · iexists _; isplitr
      swap; · iexact HS
      ipureintro; exact hg
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iapply (owns_written c _ _ _ (View.cover_of_tiled _ ![512, 1024] rfl) (dx_canon (hg := hr) ..)); iexact H5
  isplitl [H6]; · iapply (owns_written c _ _ _ (View.cover_of_tiled _ ![512, 256] rfl) (gate_canon (hg := hr) ..)); iexact H6
  isplitl [H7]; · iapply (owns_written c _ _ _ (View.cover_of_tiled _ ![512, 256] rfl) (up_canon (hg := hr) ..)); iexact H7
  iapply (owns_written c _ _ _ (View.cover_of_tiled _ ![1, 1024] rfl) ((dg_canon (hg := hr) ..).trans hsum)); iexists _; iexact H8

/-- The body at every point. -/
theorem body (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by unfold defs₀; rw [Defs.onTc_tc]]
  refine triple_restated ?_ rfl .rfl fun _ => .rfl
  exact match t with
    | ⟨0, h⟩ => body_first m c ⟨0, h⟩ rfl
    | ⟨n + 1, h⟩ => body_rest m c n h

theorem enter (c : Dev nD) : Pipeline.ΦD copySems spec0 moved (V m) c ⊢ (dats m 0 c).Φ 0 := by
  rw [show (dats m 0 c).Φ 0 = Pipeline.ΦD copySems spec0 moved (V m) c from rfl]

/-- After the last point the scratch's contents are forgotten. -/
theorem leave (c : Dev nD) : (dats m 0 c).Φ (Fin.last cfg0.N) ⊢ Pipeline.ΦD copySems spec0 moved (V m) c := by
  rw [show (dats m 0 c).Φ (Fin.last cfg0.N) = iprop(owns (c : Thread nD τ) wVmem fullShare (wts m c) ∗ aside m c) from rfl, launch_aside]
  iintro ⟨HS, Ha⟩
  isplitl [HS]
  · iexists _; iexact HS
  iexact Ha

-- the launch's implicit arguments are found by unfolding plain definitions inside types
set_option backward.isDefEq.respectTransparency.types false in
/-- The program runs, every array of the region ends at what the points left in it, and every semaphore ends at zero. -/
theorem run : θ_run defs (onTc (τ := τ) (main (F := Ideal))) (s₀ m ρ)
    (fun r => Pipeline.FramePost cfgs (dats m) 0 (V m) r ∧ r.2.sem = fun _ => 0) :=
  Pipeline.θ_run_frame_dma (Q' := _) cfgs (dats m) (0 : Fin 1) launch0 copySems defs₀ Variants.none copySems_own moved moved_sub m ρ main
    (hbody := fun c => (body m c).loose) (hshare := fun c => (dats m 0 c).share_full fun _ => rfl)
    (howed := fun _ _ => rfl) (V := V m) (hmain := host_then_region m) (hA := dats_A m) (hin := enter m) (hout := leave m)

/-- The arguments end as they began. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).1 1).trans (((dats m 0 c).arrAt_in 1 rfl _).trans ((dats_A m c 1).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).1 0).trans (((dats m 0 c).arrAt_in 0 rfl _).trans ((dats_A m c 0).trans (V_main_arg5 m c)))⟩

end Cert.Proof.Dgrad

end
-- ==== Proof.Shared.Ffn.lean ====
module

public import Idealize.ShloMosaic.PureOps.Ideal.Laws

@[expose] public section

noncomputable section

/-! The gated feed-forward block on one row, as sums of products: the row `x`, the gain `g`, the weights of the gate, of the up and of
the down projection, and the cotangent `e` of the block's output. -/

namespace Cert.Proof.Ffn

open Idealize.ShloMosaic

variable (x g e : Fin 1024 → EReal) (wg wu : Fin 1024 → Fin 2816 → EReal) (wd : Fin 2816 → Fin 1024 → EReal)

/-- One half, as the programs spell it. -/
abbrev half : EReal := Ideal.ofBits .f32 0x3F000000#32

/-- The length of a row. -/
abbrev width : EReal := Ideal.ofBits .f32 0x44800000#32

/-- The reciprocal root of the row's mean square. -/
def rstd : EReal := Ideal.rsqrt (Ideal.div (∑ k, x k * x k) width + Ideal.ofBits .f32 0x358637BD#32)

/-- The normalised row. -/
def normed (k : Fin 1024) : EReal := x k * rstd x * g k

/-- The normalised row against one column of a weight. -/
def proj (w : Fin 1024 → Fin 2816 → EReal) (f : Fin 2816) : EReal := ∑ k, normed x g k * w k f

/-- The logistic function. -/
def sig (z : EReal) : EReal := Ideal.div 1 (1 + Ideal.exp (-z))

/-- The slope of the activation in the up projection. -/
def slopeUp (z : EReal) : EReal := z * sig z

/-- The slope of the activation in the gate. -/
def slopeGate (z u : EReal) : EReal := u * (sig z * (1 + z * (1 - sig z)))

/-- The cotangent of the activation. -/
def dact (f : Fin 2816) : EReal := ∑ k, half * e k * wd f k

/-- The cotangent of the gate. -/
def dgate (f : Fin 2816) : EReal := dact e wd f * slopeGate (proj x g wg f) (proj x g wu f)

/-- The cotangent of the up projection. -/
def dup (f : Fin 2816) : EReal := dact e wd f * slopeUp (proj x g wg f)

/-- The cotangent of the normalised row. -/
def dnorm (k : Fin 1024) : EReal := ∑ f, dgate x g e wg wu wd f * wg k f + ∑ f, dup x g e wg wd f * wu k f

/-- The cotangent of the block's input: along the residual, and back through the norm. -/
def dx (k : Fin 1024) : EReal :=
  e k + rstd x * (dnorm x g e wg wu wd k * g k
    - x k * rstd x * Ideal.div (∑ j, dnorm x g e wg wu wd j * g j * (x j * rstd x)) width)

/-- The row's part of the cotangent of the gain. -/
def dgain (k : Fin 1024) : EReal := dnorm x g e wg wu wd k * (x k * rstd x)

end Cert.Proof.Ffn

end
-- ==== Proof.Shared.Stack.lean ====
module

public import Idealize.ShloMosaic.PureOps.Ideal.Laws

@[expose] public section

noncomputable section

namespace Cert.Proof

open Idealize.ShloMosaic

/-- Three arrays stacked are three equal arrays stacked. -/
theorem stack_congr {S T : Shape} {a a' b b' d d' : Vec Ideal S .f32} (i : Fin T.rank) (h) (ha : a = a') (hb : b = b') (hd : d = d') :
    concatenate T i [⟨S, a⟩, ⟨S, b⟩, ⟨S, d⟩] h = concatenate T i [⟨S, a'⟩, ⟨S, b'⟩, ⟨S, d'⟩] h := by
  subst ha hb hd; rfl

end Cert.Proof

end
-- ==== Proof.Dgrad.Result.lean ====
module

public import proofs.«01_k».proof.Proof.Dgrad.Frame
public import proofs.«01_k».proof.Proof.Shared.Ffn
public import proofs.«01_k».proof.Proof.Shared.Stack
public import Idealize.ShloMosaic.Lib.Pipeline.ValueKit
public import Idealize.ShloMosaic.Lib.Claim

@[expose] public section

set_option maxRecDepth 16384

noncomputable section

namespace Cert.Proof.Dgrad

open Idealize.ShloMosaic Idealize.ShloMosaic.TcCoe Idealize.ShloMosaic.Tactic
open Idealize.ShloMosaic.Pipeline (Dat Cfg Window BodyObligation cellOf)
open Cert.KernelIdeal Cert.KernelIdeal.Gen

variable (m : (ℓ : Loc nD τ sig) → Buf (Elt Ideal) ℓ) (c : Dev nD)

/-! The arguments, by their rows and columns. -/

abbrev argX (r : Fin 8192) (k : Fin 1024) : EReal := m ((c.tc : Thread nD τ).loc main_arg0) (ix2 r k)
abbrev argG (k : Fin 1024) : EReal := m ((c.tc : Thread nD τ).loc main_arg1) (ix1 k)
abbrev argWg (k : Fin 1024) (f : Fin 2816) : EReal := m ((c.tc : Thread nD τ).loc main_arg2) (ix2 k f)
abbrev argWu (k : Fin 1024) (f : Fin 2816) : EReal := m ((c.tc : Thread nD τ).loc main_arg3) (ix2 k f)
abbrev argWd (f : Fin 2816) (k : Fin 1024) : EReal := m ((c.tc : Thread nD τ).loc main_arg4) (ix2 f k)
abbrev argE (r : Fin 8192) (k : Fin 1024) : EReal := m ((c.tc : Thread nD τ).loc main_arg5) (ix2 r k)

/-! What the host's lines leave for the region. -/

theorem host_up (r : Fin 8192) (f : Fin 2816) :
    V m c main_v29 (ix2 r f) = Ffn.slopeUp (Ffn.proj (argX m c r) (argG m c) (argWg m c) f) := by
  entry_read
  pointwise
  rfl

theorem host_gate (r : Fin 8192) (f : Fin 2816) :
    V m c main_v37 (ix2 r f)
      = Ffn.slopeGate (Ffn.proj (argX m c r) (argG m c) (argWg m c) f) (Ffn.proj (argX m c r) (argG m c) (argWu m c) f) := by
  entry_read
  pointwise
  rfl

theorem host_gain (k : Fin 1024) : V m c main_v38 (ix2 0 k) = argG m c k := by
  entry_read
  pointwise

/-- The rows of point `t`. -/
def row (t : Fin cfg0.N) (r : Fin 512) : Fin 8192 :=
  ⟨t.val * 512 + r.val, by have : t.val < 16 := lt_of_lt_of_eq t.isLt N_0; have := r.isLt; omega⟩

theorem index (t : Fin cfg0.N) : win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0]) t

/-! The blocks that a point reads. -/

theorem block_e (t : Fin cfg0.N) (r : Fin 512) (k : Fin 1024) : iblk m c 0 t (ix2 r k) = argE m c (row t r) k := by
  refine Eq.trans ?_ (congrFun (V_main_arg5 m c) (ix2 (row t r) k))
  blk_ext [iblk, index t, row]

theorem block_x (t : Fin cfg0.N) (r : Fin 512) (k : Fin 1024) : iblk m c 1 t (ix2 r k) = argX m c (row t r) k := by
  refine Eq.trans ?_ (congrFun (V_main_arg0 m c) (ix2 (row t r) k))
  blk_ext [iblk, index t, row]

theorem block_g (t : Fin cfg0.N) (k : Fin 1024) : iblk m c 2 t (ix2 0 k) = argG m c k := by
  refine Eq.trans ?_ (host_gain m c k)
  blk_ext [iblk, index t]

theorem block_up (t : Fin cfg0.N) (r : Fin 512) (f : Fin 2816) :
    iblk m c 3 t (ix2 r f) = Ffn.slopeUp (Ffn.proj (argX m c (row t r)) (argG m c) (argWg m c) f) := by
  refine Eq.trans ?_ (host_up m c (row t r) f)
  blk_ext [iblk, index t, row]

theorem block_gate (t : Fin cfg0.N) (r : Fin 512) (f : Fin 2816) :
    iblk m c 4 t (ix2 r f) = Ffn.slopeGate (Ffn.proj (argX m c (row t r)) (argG m c) (argWg m c) f)
      (Ffn.proj (argX m c (row t r)) (argG m c) (argWu m c) f) := by
  refine Eq.trans ?_ (host_gate m c (row t r) f)
  blk_ext [iblk, index t, row]

/-- The stacked weights of the region are the three arguments, the first two turned. -/
theorem wts_stack (f : Fin 2816) (k : Fin 1024) :
    wts m c (ix3 0 f k) = argWg m c k f ∧ wts m c (ix3 1 f k) = argWu m c k f ∧ wts m c (ix3 2 f k) = argWd m c f k := by
  have h : wts m c = truncf (F := Ideal) .bf16 (concatenate S3x2816x1024 0
      [⟨S1x2816x1024, broadcastInDim S1x2816x1024 ![1, 2] bcast_S2816x1024_S1x2816x1024_1_2
          (transpose S2816x1024 [1, 0] (m ((c.tc : Thread nD τ).loc main_arg2)) transposes_S1024x2816_S2816x1024_1_0)⟩,
        ⟨S1x2816x1024, broadcastInDim S1x2816x1024 ![1, 2] bcast_S2816x1024_S1x2816x1024_1_2
          (transpose S2816x1024 [1, 0] (m ((c.tc : Thread nD τ).loc main_arg3)) transposes_S1024x2816_S2816x1024_1_0)⟩,
        ⟨S1x2816x1024, broadcastInDim S1x2816x1024 ![1, 2] bcast_S2816x1024_S1x2816x1024_1_2 (m ((c.tc : Thread nD τ).loc main_arg4))⟩]
      concatenates_S1x2816x1024_S1x2816x1024_S1x2816x1024_S3x2816x1024_d0) bitsLt_bf16_f32 := by
    rw [show wts m c = V m c main_v6 from rfl]
    unfold V
    simp only [hostOps0]
    after_results_simp
    dsimp only [Matrix.cons_val]
    refine congrArg (truncf .bf16 · bitsLt_bf16_f32) (stack_congr _ _ ?_ ?_ ?_) <;> after_results_simp <;> rfl
  rw [h]
  refine ⟨?_, ?_, ?_⟩ <;> pointwise

theorem wts_gate (f : Fin 2816) (k : Fin 1024) : wts m c (ix3 0 f k) = argWg m c k f := (wts_stack m c f k).1
theorem wts_up (f : Fin 2816) (k : Fin 1024) : wts m c (ix3 1 f k) = argWu m c k f := (wts_stack m c f k).2.1
theorem wts_down (f : Fin 2816) (k : Fin 1024) : wts m c (ix3 2 f k) = argWd m c f k := (wts_stack m c f k).2.2

/-! What a point computes, by the arguments' rows. -/

theorem tile_dact (t : Fin cfg0.N) (r : Fin 512) (f : Fin 2816) :
    dact (iblk m c 0 t) (wts m c) r f = Ffn.dact (argE m c (row t r)) (argWd m c) f := by
  unfold dact Ffn.dact
  simp only [block_e, wts_down]

theorem tile_dgate (t : Fin cfg0.N) (r : Fin 512) (f : Fin 2816) :
    dhid (iblk m c 0 t) (wts m c) (iblk m c 4 t) (ix2 r f)
      = Ffn.dgate (argX m c (row t r)) (argG m c) (argE m c (row t r)) (argWg m c) (argWu m c) (argWd m c) f := by
  unfold dhid Ffn.dgate
  exact congrArg₂ (· * ·) (tile_dact m c t r f) (block_gate m c t r f)

theorem tile_dup (t : Fin cfg0.N) (r : Fin 512) (f : Fin 2816) :
    dhid (iblk m c 0 t) (wts m c) (iblk m c 3 t) (ix2 r f)
      = Ffn.dup (argX m c (row t r)) (argG m c) (argE m c (row t r)) (argWg m c) (argWd m c) f := by
  unfold dhid Ffn.dup
  exact congrArg₂ (· * ·) (tile_dact m c t r f) (block_up m c t r f)

theorem tile_dnorm (t : Fin cfg0.N) (r : Fin 512) (k : Fin 1024) :
    dnorm (iblk m c 0 t) (iblk m c 3 t) (iblk m c 4 t) (wts m c) r k
      = Ffn.dnorm (argX m c (row t r)) (argG m c) (argE m c (row t r)) (argWg m c) (argWu m c) (argWd m c) k := by
  unfold dnorm Ffn.dnorm
  simp only [tile_dgate, tile_dup, wts_gate, wts_up]

theorem tile_rstd (t : Fin cfg0.N) (r : Fin 512) : rstd (iblk m c 1 t) r = Ffn.rstd (argX m c (row t r)) := by
  unfold rstd Ffn.rstd
  simp only [block_x]

theorem tile_dx (t : Fin cfg0.N) (r : Fin 512) (k : Fin 1024) :
    dxTile (iblk m c 0 t) (iblk m c 1 t) (iblk m c 2 t) (iblk m c 3 t) (iblk m c 4 t) (wts m c) (ix2 r k)
      = Ffn.dx (argX m c (row t r)) (argG m c) (argE m c (row t r)) (argWg m c) (argWu m c) (argWd m c) k := by
  unfold dxTile Ffn.dx
  dsimp only [ix2_0, ix2_1]
  simp only [block_e, block_x, block_g, tile_dnorm, tile_rstd]

theorem tile_dgain (t : Fin cfg0.N) (k : Fin 1024) :
    dgAt m c t (ix2 0 k)
      = ∑ r : Fin 512, Ffn.dgain (argX m c (row t r)) (argG m c) (argE m c (row t r)) (argWg m c) (argWu m c) (argWd m c) k := by
  unfold dgAt dgTile Ffn.dgain
  dsimp only [ix2_0, ix2_1]
  simp only [block_x, tile_dnorm, tile_rstd]

/-! The arrays that the region leaves. -/

theorem array_dx : (dats m 0 c).arrAt 5 cfg0.N
    = fun i => Ffn.dx (argX m c (i 0)) (argG m c) (argE m c (i 0)) (argWg m c) (argWu m c) (argWd m c) (i 1) := by
  refine (dats m 0 c).arrAt_eq_of_covers 5 _ (by decide +kernel) fun t hf y => ?_
  blk_simp
  rw [after_5]
  idx_vars y
  refine (tile_dx m c t _ _).trans ?_
  rw [show ((View.whole main_v39_0).slice (win0_5.rect t)).emb (ix2 y0 y1) = ix2 (row t y0) y1 from by blk_ext [index t, row]]
  dsimp only [ix2_0, ix2_1]

theorem array_dgate : (dats m 0 c).arrAt 6 cfg0.N
    = fun i => Ffn.dgate (argX m c (i 0)) (argG m c) (argE m c (i 0)) (argWg m c) (argWu m c) (argWd m c) (i 1) := by
  refine (dats m 0 c).arrAt_eq_of_covers 6 _ (by decide +kernel) fun t hf y => ?_
  blk_simp
  rw [after_6]
  idx_vars y
  refine (tile_dgate m c t _ _).trans ?_
  rw [show ((View.whole main_v39_1).slice (win0_6.rect t)).emb (ix2 y0 y1) = ix2 (row t y0) y1 from by blk_ext [index t, row]]
  dsimp only [ix2_0, ix2_1]

theorem array_dup : (dats m 0 c).arrAt 7 cfg0.N
    = fun i => Ffn.dup (argX m c (i 0)) (argG m c) (argE m c (i 0)) (argWg m c) (argWd m c) (i 1) := by
  refine (dats m 0 c).arrAt_eq_of_covers 7 _ (by decide +kernel) fun t hf y => ?_
  blk_simp
  rw [after_7]
  idx_vars y
  refine (tile_dup m c t _ _).trans ?_
  rw [show ((View.whole main_v39_2).slice (win0_7.rect t)).emb (ix2 y0 y1) = ix2 (row t y0) y1 from by blk_ext [index t, row]]
  dsimp only [ix2_0, ix2_1]

theorem dgSum_eq (n : ℕ) (hn : n < cfg0.N) (j) : dgSum m c n hn j = ∑ s : Fin (n + 1), dgAt m c ⟨s.val, by omega⟩ j := by
  induction n with
  | zero => simp [dgSum]
  | succ n ih => rw [Fin.sum_univ_castSucc]; exact congrArg (· + _) (ih (by omega))

theorem array_dgain : (dats m 0 c).arrAt 8 cfg0.N
    = fun i => ∑ t : Fin 8192, Ffn.dgain (argX m c t) (argG m c) (argE m c t) (argWg m c) (argWu m c) (argWd m c) (i 1) := by
  refine (dats m 0 c).arrAt_eq_of_after_last 8 ⟨15, by decide⟩ (by decide +kernel) _ fun j => ?_
  blk_simp
  refine (congrFun (after_8 m c ⟨15, by decide⟩) _).trans ?_
  rw [dgSum_eq]
  idx_vars j
  obtain rfl : j0 = 0 := Subsingleton.elim _ _
  refine (Finset.sum_congr rfl fun s _ => tile_dgain m c _ j1).trans ?_
  exact Fin.sum_mul_add_congr fun s r h => rfl

end Cert.Proof.Dgrad

end
-- ==== Proof.Shared.Reals.lean ====
module

public import Idealize.ShloMosaic.PureOps.Ideal.Laws

@[expose] public section

noncomputable section

/-! The extended reals that are real, and that the programs' arithmetic keeps them so. -/

namespace Cert.Proof

open Idealize.ShloMosaic

/-- The value is a real number. -/
def IsReal (x : EReal) : Prop := ∃ r : ℝ, (r : EReal) = x

namespace IsReal

variable {x y : EReal}

theorem coe (r : ℝ) : IsReal (r : EReal) := ⟨r, rfl⟩

theorem zero : IsReal 0 := ⟨0, by simp⟩

theorem one : IsReal 1 := ⟨1, by simp⟩

theorem add (hx : IsReal x) (hy : IsReal y) : IsReal (x + y) := by
  obtain ⟨a, rfl⟩ := hx; obtain ⟨b, rfl⟩ := hy; exact ⟨a + b, EReal.coe_add a b⟩

theorem sub (hx : IsReal x) (hy : IsReal y) : IsReal (x - y) := by
  obtain ⟨a, rfl⟩ := hx; obtain ⟨b, rfl⟩ := hy; exact ⟨a - b, EReal.coe_sub a b⟩

theorem mul (hx : IsReal x) (hy : IsReal y) : IsReal (x * y) := by
  obtain ⟨a, rfl⟩ := hx; obtain ⟨b, rfl⟩ := hy; exact ⟨a * b, EReal.coe_mul a b⟩

theorem neg (hx : IsReal x) : IsReal (-x) := by
  obtain ⟨a, rfl⟩ := hx; exact ⟨-a, EReal.coe_neg a⟩

theorem sum {ι : Type*} (s : Finset ι) {f : ι → EReal} (h : ∀ i, IsReal (f i)) : IsReal (∑ i ∈ s, f i) := by
  classical
  induction s using Finset.induction_on with
  | empty => simpa using zero
  | insert a s ha ih => rw [Finset.sum_insert ha]; exact (h a).add ih

theorem exp (hx : IsReal x) : IsReal (Ideal.exp x) := by
  obtain ⟨a, rfl⟩ := hx; exact ⟨Real.exp a, rfl⟩

/-- A value below `⊤` in magnitude is real. -/
theorem of_abs (h : max x (-x) < ⊤) : IsReal x := by
  induction x with
  | bot => simp at h
  | top => simp at h
  | coe r => exact coe r

end IsReal

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe {a : ℝ} (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (not_lt.2 ha.le), if_neg ha.ne']

theorem half_eq : Ideal.ofBits .f32 0x3F000000#32 = ((1 / 2 : ℝ) : EReal) := by
  simp [Ideal.ofBits, Ideal.ieee, -EReal.coe_mul]; norm_num

theorem neg_half_eq : Ideal.ofBits .f32 0xBF000000#32 = ((-1 / 2 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

/-- The small addend of the norms, as the programs' literal has it. -/
def eps : ℝ := 8796093 * 2 ^ (-43 : ℤ)

theorem eps_pos : 0 < eps := by unfold eps; positivity

theorem eps_eq : Ideal.ofBits .f32 0x358637BD#32 = (eps : EReal) := by
  simp [Ideal.ofBits, Ideal.ieee, eps, -EReal.coe_mul]

theorem top_eq : Ideal.ofBits .f32 0x7F800000#32 = ⊤ := by
  simp [Ideal.ofBits, Ideal.ieee]

/-- What the precondition asks of one argument: every element is real. -/
theorem real_of_finite {S₀ S : Shape} {dims} (hb) (a : FVec Ideal S .f32)
    (h : cmpf .olt (Host.absf a) (broadcastInDim S dims hb (constant (F := Ideal) S₀ .f32 0x7F800000#32)) = fun _ => 1#1) (i : S.Idx) :
    IsReal (a i) := by
  refine IsReal.of_abs (top_eq ▸ ?_)
  by_contra hn
  have h' : Ideal.cmp .olt (max (a i) (-(a i))) (Ideal.ofBits .f32 0x7F800000#32) = 1#1 := congrFun h i
  simp [Ideal.cmp, hn] at h'

end Cert.Proof

end
-- ==== Proof.Shared.FfnReals.lean ====
module

public import proofs.«01_k».proof.Proof.Shared.Ffn
public import proofs.«01_k».proof.Proof.Shared.Reals

@[expose] public section

noncomputable section

/-! On real arguments every quantity of the feed-forward block is real, and the derivative as differentiation by rules writes it is the
closed form of `Ffn`. -/

namespace Cert.Proof.Ffn

open Idealize.ShloMosaic

variable {x g e : Fin 1024 → EReal} {wg wu : Fin 1024 → Fin 2816 → EReal} {wd : Fin 2816 → Fin 1024 → EReal}

/-- The mean square of a real row with the small addend is a positive real, and `rstd` its reciprocal root. -/
theorem mean_real (hx : ∀ k, IsReal (x k)) : ∃ q : ℝ, 0 < q
    ∧ Ideal.div (∑ k, x k * x k) width + Ideal.ofBits .f32 0x358637BD#32 = (q : EReal) ∧ rstd x = (((Real.sqrt q)⁻¹ : ℝ) : EReal) := by
  choose X hX using hx
  obtain rfl : (fun k => (X k : EReal)) = x := funext hX
  have h : Ideal.div (∑ k, (X k : EReal) * (X k : EReal)) width + Ideal.ofBits .f32 0x358637BD#32
      = (((∑ k, X k * X k) / 1024 + eps : ℝ) : EReal) := by
    rw [width, width_eq, eps_eq, EReal.coe_add, ← div_coe _ (by norm_num), coe_sum]
    simp only [EReal.coe_mul]
  have hq : 0 < (∑ k, X k * X k) / 1024 + eps :=
    add_pos_of_nonneg_of_pos (div_nonneg (Finset.sum_nonneg fun k _ => mul_self_nonneg _) (by norm_num)) eps_pos
  exact ⟨_, hq, h, by rw [rstd, h, rsqrt_coe hq]⟩

theorem isReal_rstd (hx : ∀ k, IsReal (x k)) : IsReal (rstd x) := by
  obtain ⟨q, -, -, h⟩ := mean_real hx; exact h ▸ IsReal.coe _

theorem isReal_proj {w : Fin 1024 → Fin 2816 → EReal} (hx : ∀ k, IsReal (x k)) (hg : ∀ k, IsReal (g k)) (hw : ∀ k f, IsReal (w k f))
    (f : Fin 2816) : IsReal (proj x g w f) :=
  IsReal.sum _ fun k => (((hx k).mul (isReal_rstd hx)).mul (hg k)).mul (hw k f)

theorem isReal_sig {z : EReal} (hz : IsReal z) : IsReal (sig z) := by
  obtain ⟨z, rfl⟩ := hz
  refine ⟨1 / (1 + Real.exp (-z)), ?_⟩
  rw [← div_coe _ (by positivity), EReal.coe_add]; rfl

theorem isReal_half : IsReal half := ⟨_, half_eq.symm⟩

theorem isReal_dact (he : ∀ k, IsReal (e k)) (hd : ∀ f k, IsReal (wd f k)) (f : Fin 2816) : IsReal (dact e wd f) :=
  IsReal.sum _ fun k => (isReal_half.mul (he k)).mul (hd f k)

section
variable (hx : ∀ k, IsReal (x k)) (hg : ∀ k, IsReal (g k)) (he : ∀ k, IsReal (e k)) (hwg : ∀ k f, IsReal (wg k f))
  (hwu : ∀ k f, IsReal (wu k f)) (hwd : ∀ f k, IsReal (wd f k))
include hx hg he hwg hwu hwd

/-- The gate's cotangent by the product rule: the logistic's slope is `sig (1 - sig)`. -/
theorem dgate_eq (f : Fin 2816) :
    proj x g wg f * (dact e wd f * proj x g wu f) * (sig (proj x g wg f) * (1 - sig (proj x g wg f)))
        + dact e wd f * proj x g wu f * sig (proj x g wg f)
      = dgate x g e wg wu wd f := by
  unfold dgate slopeGate
  obtain ⟨z, hz⟩ := isReal_proj hx hg hwg f
  obtain ⟨s, hs⟩ := isReal_sig (isReal_proj hx hg hwg f)
  obtain ⟨u, hu⟩ := isReal_proj hx hg hwu f
  obtain ⟨d, hd⟩ := isReal_dact he hwd f
  rw [← hs, ← hz, ← hu, ← hd, ← EReal.coe_one]
  simp only [← EReal.coe_mul, ← EReal.coe_add, ← EReal.coe_sub]
  congr 1; ring

theorem isReal_dgate (f : Fin 2816) : IsReal (dgate x g e wg wu wd f) := by
  rw [← dgate_eq hx hg he hwg hwu hwd]
  have hz := isReal_proj hx hg hwg f
  have hu := isReal_proj hx hg hwu f
  have hd := isReal_dact he hwd f
  exact ((hz.mul (hd.mul hu)).mul ((isReal_sig hz).mul (IsReal.one.sub (isReal_sig hz)))).add ((hd.mul hu).mul (isReal_sig hz))

omit hwu in
theorem isReal_dup (f : Fin 2816) : IsReal (dup x g e wg wd f) :=
  have hz := isReal_proj hx hg hwg f
  (isReal_dact he hwd f).mul (hz.mul (isReal_sig hz))

theorem isReal_dnorm (k : Fin 1024) : IsReal (dnorm x g e wg wu wd k) :=
  (IsReal.sum _ fun f => (isReal_dgate hx hg he hwg hwu hwd f).mul (hwg k f)).add
    (IsReal.sum _ fun f => (isReal_dup hx hg he hwg hwd f).mul (hwu k f))

end

/-- What the norm passes back, by rules: through the row itself, and twice through the mean of its squares, whose reciprocal root has the
slope `-1/2` times the root over the mean. -/
theorem norm_back {d : Fin 1024 → EReal} (hx : ∀ k, IsReal (x k)) (he : ∀ k, IsReal (e k)) (hd : ∀ k, IsReal (d k)) (k : Fin 1024)
    {c : EReal} (hc : c = Ideal.div ((∑ j, x j * d j) * (Ideal.ofBits .f32 0xBF000000#32
      * Ideal.div (rstd x) (Ideal.div (∑ k, x k * x k) width + Ideal.ofBits .f32 0x358637BD#32))) width) :
    e k + d k * rstd x + x k * c + c * x k
      = e k + rstd x * (d k - x k * rstd x * Ideal.div (∑ j, d j * (x j * rstd x)) width) := by
  obtain ⟨q, hq, hm, hs⟩ := mean_real hx
  rw [hm, hs] at hc
  rw [hs]
  choose X hX using hx
  choose D hD using hd
  obtain ⟨E, hE⟩ := he k
  have hsum : ∑ j, x j * d j = ((∑ j, X j * D j : ℝ) : EReal) := by
    rw [coe_sum]; exact Finset.sum_congr rfl fun j _ => by rw [EReal.coe_mul, hX, hD]
  have hsum' : ∑ j, d j * (x j * (((Real.sqrt q)⁻¹ : ℝ) : EReal)) = (((∑ j, X j * D j) * (Real.sqrt q)⁻¹ : ℝ) : EReal) := by
    rw [Finset.sum_mul, coe_sum]
    refine Finset.sum_congr rfl fun j _ => ?_
    rw [← hX, ← hD, ← EReal.coe_mul, ← EReal.coe_mul]; congr 1; ring
  rw [hsum, neg_half_eq, width, width_eq, div_coe _ hq.ne', ← EReal.coe_mul, ← EReal.coe_mul, div_coe _ (by norm_num)] at hc
  rw [hc, hsum', width, width_eq, div_coe _ (by norm_num), ← hE, ← hX, ← hD]
  simp only [← EReal.coe_mul, ← EReal.coe_add, ← EReal.coe_sub]
  congr 1
  rw [div_eq_mul_inv (Real.sqrt q)⁻¹ q, show q⁻¹ = (Real.sqrt q)⁻¹ * (Real.sqrt q)⁻¹ by rw [← mul_inv, Real.mul_self_sqrt hq.le]]
  ring

end Cert.Proof.Ffn

end
-- ==== Proof.Dgrad.Reference.lean ====
module

public import proofs.«01_k».proof.Proof.Gen.ReferenceIdeal.Run
public import proofs.«01_k».proof.Proof.Gen.ReferenceIdeal.Read
public import proofs.«01_k».proof.Proof.Shared.FfnReals
public import Idealize.ShloMosaic.Lib.Pipeline.ValueKit
public import Idealize.ShloMosaic.Lib.Claim

@[expose] public section

noncomputable section

/-! The reference's derivative of the feed-forward block, read row by row. -/

namespace Cert.Proof.Dgrad

open Idealize.ShloMosaic
open Cert.ReferenceIdeal Cert.ReferenceIdeal.Read

variable (x : (⟨S8192x1024, .f32⟩ : BufTy).Contents (Elt Ideal)) (g : (⟨S1024, .f32⟩ : BufTy).Contents (Elt Ideal))
  (wg wu : (⟨S1024x2816, .f32⟩ : BufTy).Contents (Elt Ideal)) (wd : (⟨S2816x1024, .f32⟩ : BufTy).Contents (Elt Ideal))
  (e : (⟨S8192x1024, .f32⟩ : BufTy).Contents (Elt Ideal))

/-! The arrays by their coordinates. -/

abbrev wide (a : (⟨S8192x1024, .f32⟩ : BufTy).Contents (Elt Ideal)) (r : Fin 8192) (k : Fin 1024) : EReal := a (ix2 r k)
abbrev gain (a : (⟨S1024, .f32⟩ : BufTy).Contents (Elt Ideal)) (k : Fin 1024) : EReal := a (ix1 k)
abbrev inward (a : (⟨S1024x2816, .f32⟩ : BufTy).Contents (Elt Ideal)) (k : Fin 1024) (f : Fin 2816) : EReal := a (ix2 k f)
abbrev outward (a : (⟨S2816x1024, .f32⟩ : BufTy).Contents (Elt Ideal)) (f : Fin 2816) (k : Fin 1024) : EReal := a (ix2 f k)

theorem ref_mean (r : Fin 8192) : val_main_v7 (F := Ideal) x (ix2 r 0)
    = Ideal.div (∑ k, wide x r k * wide x r k) Ffn.width + Ideal.ofBits .f32 0x358637BD#32 := by
  pointwise [val_main_v7, val_main_v6, val_main_v5, val_main_v4, val_main_v3, val_main_v2, val_main_v1, val_main_cst_0, val_main_cst_1,
    val_main_cst_2]

theorem ref_rstd (r : Fin 8192) : val_main_v8 (F := Ideal) x (ix2 r 0) = Ffn.rstd (wide x r) := by
  pointwise [val_main_v8, ref_mean]
  rfl

theorem ref_unit (r : Fin 8192) (k : Fin 1024) : val_main_v13 (F := Ideal) x (ix2 r k) = x (ix2 r k) * Ffn.rstd (wide x r) := by
  pointwise [val_main_v13, val_main_v12, ref_rstd]

theorem ref_normed (r : Fin 8192) (k : Fin 1024) : val_main_v16 (F := Ideal) x g (ix2 r k) = Ffn.normed (wide x r) (gain g) k := by
  pointwise [val_main_v16, val_main_v15, val_main_v14, ref_unit]
  rfl

theorem ref_gate (r : Fin 8192) (f : Fin 2816) :
    val_main_v18 (F := Ideal) x g wg (ix2 r f) = Ffn.proj (wide x r) (gain g) (inward wg) f := by
  pointwise [val_main_v18, val_main_v17, val_main_v0, val_main_cst, ref_normed]
  rfl

theorem ref_up (r : Fin 8192) (f : Fin 2816) :
    val_main_v20 (F := Ideal) x g wu (ix2 r f) = Ffn.proj (wide x r) (gain g) (inward wu) f := by
  pointwise [val_main_v20, val_main_v19, val_main_v0, val_main_cst, ref_normed]
  rfl

theorem ref_sig (r : Fin 8192) (f : Fin 2816) :
    val_main_v21_2 (F := Ideal) x g wg (ix2 r f) = Ffn.sig (Ffn.proj (wide x r) (gain g) (inward wg) f) := by
  pointwise [val_main_v21_2, val_main_call0_v4, val_main_call0_cst_0, val_main_call0_v3, val_main_call0_v2, val_main_call0_cst,
    val_main_call0_v1, val_main_call0_v0, ref_gate]
  rfl

theorem ref_dact (r : Fin 8192) (f : Fin 2816) : val_main_v30 (F := Ideal) wd e (ix2 r f) = Ffn.dact (wide e r) (outward wd) f := by
  pointwise [val_main_v30, val_main_v29, val_main_v28, val_main_v27, val_main_cst_5]
  rfl

theorem ref_dup (r : Fin 8192) (f : Fin 2816) : val_main_v31 (F := Ideal) x g wg wd e (ix2 r f)
    = Ffn.dup (wide x r) (gain g) (wide e r) (inward wg) (outward wd) f := by
  pointwise [val_main_v31, val_main_v21_0, ref_gate, ref_sig, ref_dact]
  exact mul_comm _ _

section
variable {x g wg wu wd e}
variable (hx : ∀ i, IsReal (x i)) (hg : ∀ i, IsReal (g i)) (hwg : ∀ i, IsReal (wg i)) (hwu : ∀ i, IsReal (wu i)) (hwd : ∀ i, IsReal (wd i))
  (he : ∀ i, IsReal (e i))
include hx hg hwg hwu hwd he

theorem ref_dgate (r : Fin 8192) (f : Fin 2816) : val_main_v33 (F := Ideal) x g wg wu wd e (ix2 r f)
    = Ffn.dgate (wide x r) (gain g) (wide e r) (inward wg) (inward wu) (outward wd) f := by
  refine Eq.trans ?_ (Ffn.dgate_eq (x := wide x r) (g := gain g) (e := wide e r) (wg := inward wg) (wu := inward wu) (wd := outward wd)
    (fun _ => hx _) (fun _ => hg _) (fun _ => he _) (fun _ _ => hwg _) (fun _ _ => hwu _) (fun _ _ => hwd _) f)
  pointwise [val_main_v33, val_main_call1_v2, val_main_call1_v1, val_main_call1_v0, val_main_v21_1, val_main_call0_v7, val_main_call0_v6,
    val_main_call0_cst_1, val_main_v32, ref_gate, ref_up, ref_sig, ref_dact]
  exact add_comm _ _

theorem ref_dnorm (r : Fin 8192) (k : Fin 1024) : val_main_v36 (F := Ideal) x g wg wu wd e (ix2 r k)
    = Ffn.dnorm (wide x r) (gain g) (wide e r) (inward wg) (inward wu) (outward wd) k := by
  pointwise [val_main_v36, val_main_v35, val_main_v34, ref_dup, ref_dgate hx hg hwg hwu hwd he]
  exact add_comm _ _

theorem ref_dgain (a : Fin 1) (k : Fin 1024) : val_main_v60 (F := Ideal) x g wg wu wd e (ix2 a k)
    = ∑ r : Fin 8192, Ffn.dgain (wide x r) (gain g) (wide e r) (inward wg) (inward wu) (outward wd) k := by
  obtain rfl : a = 0 := Subsingleton.elim _ _
  pointwise [val_main_v60, val_main_v42, val_main_v39, val_main_v38, val_main_v37, val_main_cst_6, val_main_cst_7, ref_unit,
    ref_dnorm hx hg hwg hwu hwd he]
  simp only [Fin.sum_univ_one]
  exact Finset.sum_congr rfl fun r _ => mul_comm _ _

theorem ref_dx (r : Fin 8192) (k : Fin 1024) : val_main_v57 (F := Ideal) x g wg wu wd e (ix2 r k)
    = Ffn.dx (wide x r) (gain g) (wide e r) (inward wg) (inward wu) (outward wd) k := by
  refine Eq.trans ?_ (Ffn.norm_back (x := wide x r) (e := wide e r)
    (d := fun j => Ffn.dnorm (wide x r) (gain g) (wide e r) (inward wg) (inward wu) (outward wd) j * gain g j)
    (fun _ => hx _) (fun _ => he _) (fun k => (Ffn.isReal_dnorm (fun _ => hx _) (fun _ => hg _) (fun _ => he _) (fun _ _ => hwg _)
      (fun _ _ => hwu _) (fun _ _ => hwd _) k).mul (hg _)) k rfl)
  pointwise [val_main_v57, val_main_v56, val_main_v55, val_main_v54, val_main_v53, val_main_v52, val_main_v51, val_main_v50, val_main_v49,
    val_main_v48, val_main_v47, val_main_v46, val_main_v45, val_main_v44, val_main_v43, val_main_v41, val_main_v40, val_main_v14,
    val_main_v11, val_main_v10, val_main_v9, val_main_cst_3, val_main_cst_8, val_main_cst_9, val_main_cst_10, ref_mean, ref_rstd,
    ref_dnorm hx hg hwg hwu hwd he]
  simp only [Fin.sum_univ_one, ref_mean, ref_rstd]

end

end Cert.Proof.Dgrad

end
-- ==== Proof.Dgrad.Claim.lean ====
module

public import proofs.«01_k».proof.Defs
public import proofs.«01_k».proof.Proof.Gen.Pre_finite
public import proofs.«01_k».proof.Proof.Dgrad.Result
public import proofs.«01_k».proof.Proof.Dgrad.Reference

@[expose] public section

noncomputable section

/-! The feed-forward block's backward kernel: it runs and leaves its arguments, and on real arguments its results are the reference's. -/

namespace Cert.Proof.Dgrad

open Idealize.ShloMosaic Idealize.SL.Sem

theorem frame : Cert.quiescent_KernelIdeal := fun m g _ =>
  (θ_run _ _ _).mono (fun r h => ⟨fun c => kept m r h.1 c, h.2⟩) (run m g)

theorem reference_frame : Cert.quiescent_ReferenceIdeal := fun m g _ =>
  (θ_run _ _ _).mono (fun r h => ⟨fun c => (h c).2.2.2.2, sem_eq_zero_of_no_sems rfl r.2⟩) (Cert.ReferenceIdeal.Value.run m g)

/-- The precondition, argument by argument. -/
theorem finite_args (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) := by
  obtain ⟨h0, h1, h2, h3, h4, h5⟩ := h c
  exact ⟨real_of_finite _ _ h0, real_of_finite _ _ h1, real_of_finite _ _ h2, real_of_finite _ _ h3, real_of_finite _ _ h4,
    real_of_finite _ _ h5⟩

section
open Cert.ReferenceIdeal Cert.ReferenceIdeal.Gen

variable (m : (ℓ : Loc Cert.KernelIdeal.nD Cert.KernelIdeal.τ Cert.KernelIdeal.sig) → Buf (Elt Ideal) ℓ)
  (hpre : Cert.Pre_KernelIdeal_finite m) (m' : (ℓ : Loc nD τ sig) → Buf (Elt Ideal) ℓ) (c : Dev nD)
  (h0 : m' ((c.tc : Thread nD τ).loc main_arg0) = m ((c.tc : Thread nD τ).loc Cert.KernelIdeal.main_arg0))
  (h1 : m' ((c.tc : Thread nD τ).loc main_arg1) = m ((c.tc : Thread nD τ).loc Cert.KernelIdeal.main_arg1))
  (h2 : m' ((c.tc : Thread nD τ).loc main_arg2) = m ((c.tc : Thread nD τ).loc Cert.KernelIdeal.main_arg2))
  (h3 : m' ((c.tc : Thread nD τ).loc main_arg3) = m ((c.tc : Thread nD τ).loc Cert.KernelIdeal.main_arg3))
  (h4 : m' ((c.tc : Thread nD τ).loc main_arg4) = m ((c.tc : Thread nD τ).loc Cert.KernelIdeal.main_arg4))
  (h5 : m' ((c.tc : Thread nD τ).loc main_arg5) = m ((c.tc : Thread nD τ).loc Cert.KernelIdeal.main_arg5))
include hpre h0 h1 h2 h3 h4 h5

theorem result_dx : Value.res_main_v57 m' c = (dats m 0 c).arrAt 5 Cert.KernelIdeal.cfg0.N := by
  obtain ⟨f0, f1, f2, f3, f4, f5⟩ := finite_args m hpre c
  rw [Read.val_main_v57_eq, h0, h1, h2, h3, h4, h5, array_dx]
  funext i
  rw [eq_ix2 i]
  exact ref_dx f0 f1 f2 f3 f4 f5 (i 0) (i 1)

theorem result_dgate : Value.res_main_v58 m' c = (dats m 0 c).arrAt 6 Cert.KernelIdeal.cfg0.N := by
  obtain ⟨f0, f1, f2, f3, f4, f5⟩ := finite_args m hpre c
  rw [Read.val_main_v58_eq, h0, h1, h2, h3, h4, h5, array_dgate]
  funext i
  rw [eq_ix2 i]
  exact ref_dgate f0 f1 f2 f3 f4 f5 (i 0) (i 1)

omit hpre h3 in
theorem result_dup : Read.val_main_v59 (F := Ideal) (m' ((c.tc : Thread nD τ).loc main_arg0)) (m' ((c.tc : Thread nD τ).loc main_arg1))
      (m' ((c.tc : Thread nD τ).loc main_arg2)) (m' ((c.tc : Thread nD τ).loc main_arg4)) (m' ((c.tc : Thread nD τ).loc main_arg5))
    = (dats m 0 c).arrAt 7 Cert.KernelIdeal.cfg0.N := by
  rw [h0, h1, h2, h4, h5, array_dup]
  funext i
  rw [eq_ix2 i]
  exact ref_dup _ _ _ _ _ (i 0) (i 1)

theorem result_dgain : Value.res_main_v60 m' c = (dats m 0 c).arrAt 8 Cert.KernelIdeal.cfg0.N := by
  obtain ⟨f0, f1, f2, f3, f4, f5⟩ := finite_args m hpre c
  rw [Read.val_main_v60_eq, h0, h1, h2, h3, h4, h5, array_dgain]
  funext i
  rw [eq_ix2 i]
  exact ref_dgain f0 f1 f2 f3 f4 f5 (i 0) (i 1)

end

theorem value : Cert.algebraic_KernelIdeal_ReferenceIdeal_pre_finite := fun m g m' g' hpre hagree =>
  ⟨_, _, _, _,
    (θ_run _ _ _).mono (fun r h c => ⟨(h.1 c).1 5, (h.1 c).1 6, (h.1 c).1 7, (h.1 c).1 8, kept m r h.1 c⟩) (run m g),
    (θ_run _ _ _).mono (fun r h c => by
      obtain ⟨a0, a1, a2, a3, a4, a5⟩ := hagree c
      obtain ⟨r0, r1, r2, r3, rest⟩ := h c
      exact ⟨r0.trans (result_dx m hpre m' c a0 a1 a2 a3 a4 a5), r1.trans (result_dgate m hpre m' c a0 a1 a2 a3 a4 a5),
        (r2.trans (Cert.ReferenceIdeal.Read.val_main_v59_eq _ _ _ _ _)).trans (result_dup m m' c a0 a1 a2 a4 a5),
        r3.trans (result_dgain m hpre m' c a0 a1 a2 a3 a4 a5), rest⟩)
      (Cert.ReferenceIdeal.Value.run m' g')⟩

end Cert.Proof.Dgrad

end
-- ==== Proof.Dgrad.Loose.lean ====
module

public import proofs.«01_k».proof.Proof.Dgrad.Frame
public import proofs.«01_k».proof.Proof.Gen.Kernel
public import proofs.«01_k».proof.Defs

@[expose] public section

set_option maxRecDepth 16384

noncomputable section

namespace Cert.Proof.Dgrad.Loose

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] (m : (ℓ : Loc nD τ sig) → Buf (Elt F) ℓ) (ρ : Dev nD → PrngReg)

local notation "𝕄" => MT nD τ sig Unit (Elt F) ℕ (Pipeline.UD sig nD τ) ℕ

/-! The run over any float values, with nothing said of what the outputs hold. -/

/-- The outputs' windows. -/
def unread : Fin cfg0.W → Bool := fun w => match w with
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true

theorem scratch_owns (c : Dev nD) (d : Vec F S3x2816x1024 .bf16) :
    (owns (c : Thread nD τ) wVmem fullShare d : sProp 𝕄)
      = iprop(∃ f, ⌜View.read (Elt F) wVmem.view f = d⌝ ∗ wVmem.view.loc (c : Thread nD τ) ↦[wVmem.view.set]{fullShare} f) := rfl

theorem launch_parts (c : Dev nD) :
    (Pipeline.ΦD copySems spec0 moved (V m) c : sProp 𝕄) = iprop((∃ d, owns (c : Thread nD τ) wVmem fullShare d)
      ∗ (∃ r, prngReg c r) ∗ (semVal ((c : Thread nD τ), SemLoc.dma 16) 0 ∗ semVal ((c : Thread nD τ), SemLoc.dma 17) 0
        ∗ semVal ((c : Thread nD τ), SemLoc.dma 18) 0) ∗ heldAt c wHbm (V m c main_v6)) := by
  rw [Pipeline.ΦD_eq, scopedRest0_eq, Pipeline.ownSems0_eq_of_list c copySems [0, 1, 2] (by decide) (by decide), moved,
    BI.bigSep_eq_bigSepL_of_eq [main_v6] (by decide) (by decide)]
  simp only [owns_whole]
  rfl

/-- What each point finds and leaves: the inputs at their blocks, the outputs unnamed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ _ := Pipeline.ΦD copySems spec0 moved (V m) c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans (by unfold Dat.fetched Dat.blockOf iblk; rw [dats_A]; rfl)

theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans (by unfold Dat.fetched Dat.blockOf iblk; rw [dats_A]; rfl)

theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans (by unfold Dat.fetched Dat.blockOf iblk; rw [dats_A]; rfl)

theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans (by unfold Dat.fetched Dat.blockOf iblk; rw [dats_A]; rfl)

theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans (by unfold Dat.fetched Dat.blockOf iblk; rw [dats_A]; rfl)

/-- What a point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-- What a point ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-- A buffer that was stored to is owned at something. -/
theorem owns_some (c : Dev nD) {sp : Space} {S : Shape} {e : EltTy} (M : Memref sig .tc sp S e) (f : BufOf (F := F) c M) :
    (M.view.loc (c : Thread nD τ) ↦[M.view.set]{fullShare} f : sProp 𝕄) ⊢ iprop(∃ d, owns (c : Thread nD τ) M fullShare d) := by
  iintro H
  unfold owns; iexists _, _; isplitr
  swap; · iexact H
  ipureintro; rfl

set_option maxHeartbeats 6400000 in
/-- The body at the first point. -/
theorem body_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [after_0, after_1, after_2, after_3, after_4, show (dats m 0 c).Φ t.castSucc = Pipeline.ΦD copySems spec0 moved (V m) c from rfl,
    show (dats m 0 c).Φ t.succ = Pipeline.ΦD copySems spec0 moved (V m) c from rfl, launch_parts]
  simp only [scratch_owns]
  unfold Dat.owesAt Pipeline.owesWithin
  rw [show (dats m 0 c).owed t.castSucc = 0 from rfl, show (dats m 0 c).owed t.succ = 0 from rfl]
  have hc := (isFirst_iff t).mpr ht
  iintro ⟨⟨⟨%ds, %g, -, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, H5, H6, H7, H8⟩
  iapply ((runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) wVmem (Memref.isWhole_whole _)
    (iblk m c 0 t) (iblk m c 1 t) (iblk m c 2 t) (iblk m c 3 t) (iblk m c 4 t) hc g (V m c main_v6)).2.2.2.2.property W _)
  isplitl [H0 H1 H2 H3 H4]
  · unfold inputs
    isplitl [H0]; · iexact H0
    isplitl [H1]; · iexact H1
    isplitl [H2]; · iexact H2
    isplitl [H3]; · iexact H3
    iexact H4
  isplitl [H5]; · iexact H5
  isplitl [H6]; · iexact H6
  isplitl [H7]; · iexact H7
  isplitl [H8]; · iexact H8
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1, H2, H3, H4⟩, ⟨%f5, H5⟩, ⟨%f6, H6⟩, ⟨%f7, H7⟩, ⟨%f8, H8⟩, HS, ⟨Hq0, Hq1, Hq2, Hh⟩, ⟨%W', HW'⟩⟩
  isplitl [HS Hg Hq0 Hq1 Hq2 Hh]
  · isplitl [HS]
    · iexists _, _; isplitr
      swap; · iexact HS
      ipureintro; rfl
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iapply (owns_some c); iexact H5
  isplitl [H6]; · iapply (owns_some c); iexact H6
  isplitl [H7]; · iapply (owns_some c); iexact H7
  iapply (owns_some c); iexact H8

set_option maxHeartbeats 6400000 in
/-- The body at a later point. -/
theorem body_rest (c : Dev nD) (t : Fin cfg0.N) (ht : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [after_0, after_1, after_2, after_3, after_4, show (dats m 0 c).Φ t.castSucc = Pipeline.ΦD copySems spec0 moved (V m) c from rfl,
    show (dats m 0 c).Φ t.succ = Pipeline.ΦD copySems spec0 moved (V m) c from rfl, launch_parts]
  simp only [scratch_owns]
  unfold Dat.owesAt Pipeline.owesWithin
  rw [show (dats m 0 c).owed t.castSucc = 0 from rfl, show (dats m 0 c).owed t.succ = 0 from rfl]
  have hc : ¬isFirst (grid0.coords t) := fun h => ht ((isFirst_iff t).mp h)
  iintro ⟨⟨⟨%ds, %g, -, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, H5, H6, H7, ⟨%d8, H8⟩⟩
  iapply ((runRest c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) wVmem (Memref.isWhole_whole _)
    (iblk m c 0 t) (iblk m c 1 t) (iblk m c 2 t) (iblk m c 3 t) (iblk m c 4 t) hc d8 g (V m c main_v6)).2.2.2.property W _)
  isplitl [H0 H1 H2 H3 H4]
  · unfold inputs
    isplitl [H0]; · iexact H0
    isplitl [H1]; · iexact H1
    isplitl [H2]; · iexact H2
    isplitl [H3]; · iexact H3
    iexact H4
  isplitl [H5]; · iexact H5
  isplitl [H6]; · iexact H6
  isplitl [H7]; · iexact H7
  isplitl [H8]; · iexact H8
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1, H2, H3, H4⟩, ⟨%f5, H5⟩, ⟨%f6, H6⟩, ⟨%f7, H7⟩, H8, HS, ⟨Hq0, Hq1, Hq2, Hh⟩, ⟨%W', HW'⟩⟩
  isplitl [HS Hg Hq0 Hq1 Hq2 Hh]
  · isplitl [HS]
    · iexists _, _; isplitr
      swap; · iexact HS
      ipureintro; rfl
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iapply (owns_some c); iexact H5
  isplitl [H6]; · iapply (owns_some c); iexact H6
  isplitl [H7]; · iapply (owns_some c); iexact H7
  iapply (owns_some c); iexact H8

/-- The body at every point. -/
theorem body (c : Dev nD) : BodyObligation (dats m 0 c) (defs₀ (F := F)) Variants.none () Set.univ unread := fun t => by
  rw [bigSep_W0, bigSep_W0, show defs₀ (F := F) .tc cfg0.body (cfg0.bodyArgs t (cfg0.slots t)) = bodyAt0 t by unfold defs₀; rw [Defs.onTc_tc]]
  refine triple_restated ?_ rfl .rfl fun _ => .rfl
  exact if ht : t.val = 0 then body_first m c t ht else body_rest m c t ht

-- the launch's implicit arguments are found by unfolding plain definitions inside types
set_option backward.isDefEq.respectTransparency.types false in
/-- The program runs and every semaphore ends at zero. -/
theorem run : θ_run defs (onTc (τ := τ) (main (F := F))) (s₀ m ρ)
    (fun r => Pipeline.RDat.FramePost (cfgs 0) (fun c => (dats m 0 c).toRForget unread) (V m) r ∧ r.2.sem = fun _ => 0) :=
  Pipeline.θ_run_frame_dma_forget (Q' := _) cfgs (dats m) (0 : Fin 1) launch0 copySems defs₀ Variants.none unread copySems_own moved moved_sub m ρ main
    (hbody := fun c => (body m c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := dats_A m) (hin := fun _ => .rfl) (hout := fun _ => .rfl)

/-- The arguments end as they began. -/
theorem kept : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) ∧ r.2.sem = fun _ => 0) :=
  (θ_run defs _ _).mono (fun _ h => ⟨fun c => ⟨(Pipeline.RDat.FramePost.arr_in h.1 c 1 rfl).trans ((dats_A m c 1).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    (Pipeline.RDat.FramePost.arr_in h.1 c 0 rfl).trans ((dats_A m c 0).trans (V_main_arg5 m c))⟩, h.2⟩) (run m ρ)

/-- The kernel at hardware values has the same text. -/
theorem same_main : Cert.KernelIdeal.main (F := Bits) = Cert.Kernel.main := by sl_kernel_rfl

theorem same_defs : Cert.KernelIdeal.defs (F := Bits) = Cert.Kernel.defs := by sl_kernel_rfl

/-- The kernel's frame at hardware values. -/
theorem kernel_frame : Cert.quiescent_Kernel := fun m ρ _ => by
  rw [← same_main, ← same_defs]
  exact kept (F := Bits) m ρ

end Cert.Proof.Dgrad.Loose

end
-- ==== Proof.Head.Run.lean ====
module

public import proofs.«01_k».proof.Proof.Gen.Kernel2Ideal.Frame
public import proofs.«01_k».proof.Proof.Gen.Kernel2Ideal.Skeleton

@[expose] public section

set_option maxRecDepth 16384

noncomputable section

namespace Cert.Proof.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- The stacked weights, left in HBM. -/
abbrev wHbm : Memref sig .tc .hbm S3x2816x1024 .bf16 := Memref.whole main_v6

abbrev BufOf (c : Dev nD) {sp : Space} {S : Shape} {e : EltTy} (M : Memref sig .tc sp S e) : Type :=
  Buf (Elt F) (M.view.loc (c : Thread nD τ))

/-- The first point's condition, as both of the body's branches test it. -/
abbrev isFirst (i : grid0.Coords) : Prop :=
  (Scalar.cmpi .ne (Scalar.extui (Scalar.cmpi .eq (BitVec.ofNat 32 (i 0).val) 0#32)) 0#32) = 1#1

variable (F) in
/-- What the body stores at a point, by output. -/
structure Stores where
  dx : List (View.Piece (Elt F) S512x1024 .f32)
  dob : List (View.Piece (Elt F) S512x1024 .bf16)
  dgain : List (View.Piece (Elt F) S1x1024 .f32)
  loss : List (View.Piece (Elt F) S1x128 .f32)
  norm : List (View.Piece (Elt F) S512x1024 .bf16)
  dau : List (View.Piece (Elt F) S512x2816 .bf16)
  dag : List (View.Piece (Elt F) S512x2816 .bf16)
  act : List (View.Piece (Elt F) S512x2816 .bf16)

section
variable (c : Dev nD) (i : grid0.Coords)
  (a1 : Memref sig .tc .vmem S512x1024 .f32) (h1 : a1.IsWhole)
  (a2 : Memref sig .tc .vmem S1x1024 .f32) (h2 : a2.IsWhole)
  (a4 : Memref sig .tc .vmem S1x1024 .f32) (h4 : a4.IsWhole)
  (a5 : Memref sig .tc .vmem S512x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x128 .f32) (h9 : a9.IsWhole)
  (a10 : Memref sig .tc .vmem S512x1024 .bf16) (h10 : a10.IsWhole)
  (a11 : Memref sig .tc .vmem S512x2816 .bf16) (h11 : a11.IsWhole)
  (a12 : Memref sig .tc .vmem S512x2816 .bf16) (h12 : a12.IsWhole)
  (a13 : Memref sig .tc .vmem S512x2816 .bf16) (h13 : a13.IsWhole)
  (a14 : Memref sig .tc .vmem S3x2816x1024 .bf16) (h14 : a14.IsWhole)
  (x0 : Vec F S512x1024 .f32) (x1 x2 : Vec F S1x1024 .f32) (x3 : Vec F S512x1024 .f32)

/-- What the body reads at a point and leaves as it was. -/
def inputs : sProp 𝕄 :=
  iprop(owns (c : Thread nD τ) a1 fullShare x0 ∗ owns (c : Thread nD τ) a2 fullShare x1 ∗ owns (c : Thread nD τ) a4 fullShare x2
    ∗ owns (c : Thread nD τ) a5 fullShare x3)

/-- The three copy semaphores at zero and the weights in HBM. -/
def copies (fw : BufOf (F := F) c wHbm) : sProp 𝕄 :=
  iprop(semVal ((c : Thread nD τ), SemLoc.dma 20) 0 ∗ semVal ((c : Thread nD τ), SemLoc.dma 21) 0
    ∗ semVal ((c : Thread nD τ), SemLoc.dma 22) 0 ∗ wHbm.view.loc (c : Thread nD τ) ↦{fullShare} fw)

set_option maxHeartbeats 1600000 in
set_option sl_exec.dmaWindow true in
set_option sl_exec.dmaWindowSet true in
/-- The body at the first grid point, which copies the weights and clears the two sums. -/
def runFirst (hc : isFirst i) (fs0 : BufOf (F := F) c a14) (fw : BufOf (F := F) c wHbm) :
    { L : Stores F × BufOf (F := F) c a14 //
      ∀ (W : Waits sig Unit) (K : PUnit → sProp 𝕄),
        iprop(inputs c a1 a2 a4 a5 x0 x1 x2 x3
            ∗ (∃ d, owns (c : Thread nD τ) a6 fullShare d)
            ∗ (∃ d, owns (c : Thread nD τ) a7 fullShare d)
            ∗ (∃ d, owns (c : Thread nD τ) a8 fullShare d)
            ∗ (∃ d, owns (c : Thread nD τ) a9 fullShare d)
            ∗ (∃ d, owns (c : Thread nD τ) a10 fullShare d)
            ∗ (∃ d, owns (c : Thread nD τ) a11 fullShare d)
            ∗ (∃ d, owns (c : Thread nD τ) a12 fullShare d)
            ∗ (∃ d, owns (c : Thread nD τ) a13 fullShare d)
            ∗ (a14.view.loc (c : Thread nD τ) ↦[a14.view.set]{fullShare} fs0) ∗ copies c fw ∗ owes (c : Thread nD τ) 0 W
            ∗ (iprop(inputs c a1 a2 a4 a5 x0 x1 x2 x3
              ∗ (∃ f, a6.view.loc (c : Thread nD τ) ↦[a6.view.set]{fullShare} a6.view.writes (Elt F) f L.1.dx)
              ∗ (∃ f, a7.view.loc (c : Thread nD τ) ↦[a7.view.set]{fullShare} a7.view.writes (Elt F) f L.1.dob)
              ∗ (∃ f, a8.view.loc (c : Thread nD τ) ↦[a8.view.set]{fullShare} a8.view.writes (Elt F) f L.1.dgain)
              ∗ (∃ f, a9.view.loc (c : Thread nD τ) ↦[a9.view.set]{fullShare} a9.view.writes (Elt F) f L.1.loss)
              ∗ (∃ f, a10.view.loc (c : Thread nD τ) ↦[a10.view.set]{fullShare} a10.view.writes (Elt F) f L.1.norm)
              ∗ (∃ f, a11.view.loc (c : Thread nD τ) ↦[a11.view.set]{fullShare} a11.view.writes (Elt F) f L.1.dau)
              ∗ (∃ f, a12.view.loc (c : Thread nD τ) ↦[a12.view.set]{fullShare} a12.view.writes (Elt F) f L.1.dag)
              ∗ (∃ f, a13.view.loc (c : Thread nD τ) ↦[a13.view.set]{fullShare} a13.view.writes (Elt F) f L.1.act)
              ∗ (a14.view.loc (c : Thread nD τ) ↦[a14.view.set]{fullShare} L.2) ∗ copies c fw ∗ (∃ W', owes (c : Thread nD τ) 0 W')) -∗ K ⟨⟩))
          ⊢ wp frame (wpE (defs₀ (F := F)) Variants.none c none) Set.univ (cc0_ffn2_fwd_loss i a1 h1 a2 h2 wHbm (Memref.isWhole_whole _) a4 h4 a5 h5 a6 h6 a7 h7 a8 h8 a9 h9 a10 h10 a11 h11 a12 h12 a13 h13 a14 h14 cc0_scratch1) K } := by
  refine ⟨⟨⟨?_, ?_, ?_, ?_, ?_, ?_, ?_, ?_⟩, ?_⟩, fun W K => ?run⟩
  case run =>
    dsimp only
    simp only [cc0_ffn2_fwd_loss_eq_skeleton]; unfold cc0_ffn2_fwd_loss_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold inputs copies owns
    iintro ⟨⟨⟨%f1, %hf1, H1⟩, ⟨%f2, %hf2, H2⟩, ⟨%f4, %hf4, H4⟩, ⟨%f5, %hf5, H5⟩⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, H14, ⟨Hq0, Hq1, Hq2, Hh⟩, HW, Hk⟩
    obtain rfl := h1.eq_unread hf1; obtain rfl := h2.eq_unread hf2; obtain rfl := h4.eq_unread hf4; obtain rfl := h5.eq_unread hf5
    sl_exec (disch := sl_exact hc)
    sl_step
    iapply Hk
    isplitl [H1 H2 H4 H5]
    · isplitl [H1]
      · iexists _; isplitr; · ipureintro; exact h1.read_unread _
        iexact H1
      isplitl [H2]
      · iexists _; isplitr; · ipureintro; exact h2.read_unread _
        iexact H2
      isplitl [H4]
      · iexists _; isplitr; · ipureintro; exact h4.read_unread _
        iexact H4
      iexists _; isplitr; · ipureintro; exact h5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [Hq0 Hq1 Hq2 Hh]
    · isplitl [Hq0]; · iexact Hq0
      isplitl [Hq1]; · iexact Hq1
      isplitl [Hq2]; · iexact Hq2
      iexact Hh
    iexists _; iexact HW

set_option maxHeartbeats 1600000 in
set_option sl_exec.dmaWindow true in
set_option sl_exec.dmaWindowSet true in
/-- The body at a later point: the weights stay as `g` in the scratch and the two sums go on from `s` and `l`. -/
def runRest (hc : ¬isFirst i) (s : Vec F S1x1024 .f32) (l : Vec F S1x128 .f32) (g : BufOf (F := F) c a14) (fw : BufOf (F := F) c wHbm) :
    { L : Stores F //
      ∀ (W : Waits sig Unit) (K : PUnit → sProp 𝕄),
        iprop(inputs c a1 a2 a4 a5 x0 x1 x2 x3
            ∗ (∃ d, owns (c : Thread nD τ) a6 fullShare d)
            ∗ (∃ d, owns (c : Thread nD τ) a7 fullShare d)
            ∗ owns (c : Thread nD τ) a8 fullShare s
            ∗ owns (c : Thread nD τ) a9 fullShare l
            ∗ (∃ d, owns (c : Thread nD τ) a10 fullShare d)
            ∗ (∃ d, owns (c : Thread nD τ) a11 fullShare d)
            ∗ (∃ d, owns (c : Thread nD τ) a12 fullShare d)
            ∗ (∃ d, owns (c : Thread nD τ) a13 fullShare d)
            ∗ (a14.view.loc (c : Thread nD τ) ↦[a14.view.set]{fullShare} g) ∗ copies c fw ∗ owes (c : Thread nD τ) 0 W
            ∗ (iprop(inputs c a1 a2 a4 a5 x0 x1 x2 x3
              ∗ (∃ f, a6.view.loc (c : Thread nD τ) ↦[a6.view.set]{fullShare} a6.view.writes (Elt F) f L.dx)
              ∗ (∃ f, a7.view.loc (c : Thread nD τ) ↦[a7.view.set]{fullShare} a7.view.writes (Elt F) f L.dob)
              ∗ (a8.view.loc (c : Thread nD τ) ↦[a8.view.set]{fullShare} a8.view.writes (Elt F) (h8.unread s) L.dgain)
              ∗ (a9.view.loc (c : Thread nD τ) ↦[a9.view.set]{fullShare} a9.view.writes (Elt F) (h9.unread l) L.loss)
              ∗ (∃ f, a10.view.loc (c : Thread nD τ) ↦[a10.view.set]{fullShare} a10.view.writes (Elt F) f L.norm)
              ∗ (∃ f, a11.view.loc (c : Thread nD τ) ↦[a11.view.set]{fullShare} a11.view.writes (Elt F) f L.dau)
              ∗ (∃ f, a12.view.loc (c : Thread nD τ) ↦[a12.view.set]{fullShare} a12.view.writes (Elt F) f L.dag)
              ∗ (∃ f, a13.view.loc (c : Thread nD τ) ↦[a13.view.set]{fullShare} a13.view.writes (Elt F) f L.act)
              ∗ (a14.view.loc (c : Thread nD τ) ↦[a14.view.set]{fullShare} g) ∗ copies c fw ∗ (∃ W', owes (c : Thread nD τ) 0 W')) -∗ K ⟨⟩))
          ⊢ wp frame (wpE (defs₀ (F := F)) Variants.none c none) Set.univ (cc0_ffn2_fwd_loss i a1 h1 a2 h2 wHbm (Memref.isWhole_whole _) a4 h4 a5 h5 a6 h6 a7 h7 a8 h8 a9 h9 a10 h10 a11 h11 a12 h12 a13 h13 a14 h14 cc0_scratch1) K } := by
  refine ⟨⟨?_, ?_, ?_, ?_, ?_, ?_, ?_, ?_⟩, fun W K => ?run⟩
  case run =>
    dsimp only
    simp only [cc0_ffn2_fwd_loss_eq_skeleton]; unfold cc0_ffn2_fwd_loss_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold inputs copies owns
    iintro ⟨⟨⟨%f1, %hf1, H1⟩, ⟨%f2, %hf2, H2⟩, ⟨%f4, %hf4, H4⟩, ⟨%f5, %hf5, H5⟩⟩, ⟨%d6, %f6, -, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, H14, ⟨Hq0, Hq1, Hq2, Hh⟩, HW, Hk⟩
    obtain rfl := h1.eq_unread hf1; obtain rfl := h2.eq_unread hf2; obtain rfl := h4.eq_unread hf4; obtain rfl := h5.eq_unread hf5
    obtain rfl := h8.eq_unread hf8; obtain rfl := h9.eq_unread hf9
    sl_exec (disch := sl_exact hc)
    sl_step
    iapply Hk
    isplitl [H1 H2 H4 H5]
    · isplitl [H1]
      · iexists _; isplitr; · ipureintro; exact h1.read_unread _
        iexact H1
      isplitl [H2]
      · iexists _; isplitr; · ipureintro; exact h2.read_unread _
        iexact H2
      isplitl [H4]
      · iexists _; isplitr; · ipureintro; exact h4.read_unread _
        iexact H4
      iexists _; isplitr; · ipureintro; exact h5.read_unread _
      iexact H5
    isplitl [H6]; · iexists _; iexact H6
    isplitl [H7]; · iexists _; iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    isplitl [Hq0 Hq1 Hq2 Hh]
    · isplitl [Hq0]; · iexact Hq0
      isplitl [Hq1]; · iexact Hq1
      isplitl [Hq2]; · iexact Hq2
      iexact Hh
    iexists _; iexact HW

end

end Cert.Proof.Head

end
-- ==== Proof.Head.Stores.lean ====
module

public import proofs.«01_k».proof.Proof.Head.Run
public import proofs.«01_k».proof.Proof.Shared.Slab
public import Idealize.ShloMosaic.Lib.WholeRead
public import Idealize.ShloMosaic.Lib.Pipeline.ValueKit

@[expose] public section

set_option maxRecDepth 16384

noncomputable section

namespace Cert.Proof.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

section
variable (c : Dev nD) (i i' : grid0.Coords)
  (a1 : Memref sig .tc .vmem S512x1024 .f32) (h1 : a1.IsWhole)
  (a2 : Memref sig .tc .vmem S1x1024 .f32) (h2 : a2.IsWhole)
  (a4 : Memref sig .tc .vmem S1x1024 .f32) (h4 : a4.IsWhole)
  (a5 : Memref sig .tc .vmem S512x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x128 .f32) (h9 : a9.IsWhole)
  (a10 : Memref sig .tc .vmem S512x1024 .bf16) (h10 : a10.IsWhole)
  (a11 : Memref sig .tc .vmem S512x2816 .bf16) (h11 : a11.IsWhole)
  (a12 : Memref sig .tc .vmem S512x2816 .bf16) (h12 : a12.IsWhole)
  (a13 : Memref sig .tc .vmem S512x2816 .bf16) (h13 : a13.IsWhole)
  (a14 : Memref sig .tc .vmem S3x2816x1024 .bf16) (h14 : a14.IsWhole)
  (x0 : Vec F S512x1024 .f32) (x1 x2 : Vec F S1x1024 .f32) (x3 : Vec F S512x1024 .f32)
  (hc : isFirst i) (hc' : ¬isFirst i') (fs0 : BufOf (F := F) c a14) (fw : BufOf (F := F) c wHbm)

abbrev first := runFirst c i a1 h1 a2 h2 a4 h4 a5 h5 a6 h6 a7 h7 a8 h8 a9 h9 a10 h10 a11 h11 a12 h12 a13 h13 a14 h14 x0 x1 x2 x3 hc fs0 fw

abbrev rest (s : Vec F S1x1024 .f32) (l : Vec F S1x128 .f32) (g : BufOf (F := F) c a14) := runRest c i' a1 h1 a2 h2 a4 h4 a5 h5 a6 h6 a7 h7 a8 h8 a9 h9 a10 h10 a11 h11 a12 h12 a13 h13 a14 h14 x0 x1 x2 x3 hc' s l g fw

/-- The three copied slabs fill the scratch with the weights. -/
theorem scratch : (first c i a1 h1 a2 h2 a4 h4 a5 h5 a6 h6 a7 h7 a8 h8 a9 h9 a10 h10 a11 h11 a12 h12 a13 h13 a14 h14 x0 x1 x2 x3 hc fs0 fw).1.2 = h14.unread (View.read (Elt F) wHbm.view fw) := by
  refine h14.eq_unread ?_
  unfold first runFirst
  dsimp only
  sl_unfold_words
  have H := Slab.copy_slab (Val := Elt F) (s' := S2816x1024) a14.view wHbm.view
  refine Eq.trans (congrArg (View.read (Elt F) a14.view) ((H (Rect.unit ![2, 0, 0] ![1, 2816, 1024] (by decide)) _ _ fw).trans
    (congrArg (fun f => a14.view.writes (Elt F) f _) ((H (Rect.unit ![1, 0, 0] ![1, 2816, 1024] (by decide)) _ _ fw).trans
      (congrArg (fun f => a14.view.writes (Elt F) f _) (H (Rect.unit ![0, 0, 0] ![1, 2816, 1024] (by decide)) _ fs0 fw)))))) ?_
  simp only [← View.writes_append, List.singleton_append]
  refine funext fun y => View.read_writes_apply_of_pieces _ _ _ _ ?_ y (View.cover_of_tiled _ ![1, 2816, 1024] rfl y)
  simp only [List.forall_mem_cons, List.not_mem_nil, false_implies, implies_true, and_true]

/-- The outputs that are not sums get at the first point the stores of a later point over the filled scratch. -/
theorem first_eq (s : Vec F S1x1024 .f32) (l : Vec F S1x128 .f32) :
    let L := (first c i a1 h1 a2 h2 a4 h4 a5 h5 a6 h6 a7 h7 a8 h8 a9 h9 a10 h10 a11 h11 a12 h12 a13 h13 a14 h14 x0 x1 x2 x3 hc fs0 fw).1
    let R := (rest c i' a1 h1 a2 h2 a4 h4 a5 h5 a6 h6 a7 h7 a8 h8 a9 h9 a10 h10 a11 h11 a12 h12 a13 h13 a14 h14 x0 x1 x2 x3 hc' fw s l L.2).1
    L.1.dx = R.dx ∧ L.1.dob = R.dob ∧ L.1.norm = R.norm ∧ L.1.dau = R.dau ∧ L.1.dag = R.dag ∧ L.1.act = R.act := ⟨rfl, rfl, rfl, rfl, rfl, rfl⟩

/-- At the first point the sum of `dgain` starts from the zeros that the body stores. -/
theorem first_dgain (l : Vec F S1x128 .f32) :
    let L := (first c i a1 h1 a2 h2 a4 h4 a5 h5 a6 h6 a7 h7 a8 h8 a9 h9 a10 h10 a11 h11 a12 h12 a13 h13 a14 h14 x0 x1 x2 x3 hc fs0 fw).1
    View.canon L.1.dgain = View.canon (rest c i' a1 h1 a2 h2 a4 h4 a5 h5 a6 h6 a7 h7 a8 h8 a9 h9 a10 h10 a11 h11 a12 h12 a13 h13 a14 h14 x0 x1 x2 x3 hc' fw k0_pay92 l L.2).1.dgain := by
  intro L
  unfold L first runFirst rest runRest
  dsimp only
  refine (View.canon_cons_unit_zero (by decide) _ _ _).trans (Eq.trans ?_ (View.canon_unit_zero (by decide) _ _).symm)
  sl_unfold_words
  refine congrArg (k0_pay3 _ _) ?_
  refine (View.readCov_cons_toLoadRect _ _ _ _).trans (funext fun j => ?_)
  rw [Memref.IsWhole.readAt_unread]
  unfold k0_pay92
  rfl

/-- At the first point the sum of `loss` starts from the zeros that the body stores. -/
theorem first_loss (s : Vec F S1x1024 .f32) :
    let L := (first c i a1 h1 a2 h2 a4 h4 a5 h5 a6 h6 a7 h7 a8 h8 a9 h9 a10 h10 a11 h11 a12 h12 a13 h13 a14 h14 x0 x1 x2 x3 hc fs0 fw).1
    View.canon L.1.loss = View.canon (rest c i' a1 h1 a2 h2 a4 h4 a5 h5 a6 h6 a7 h7 a8 h8 a9 h9 a10 h10 a11 h11 a12 h12 a13 h13 a14 h14 x0 x1 x2 x3 hc' fw s k0_pay93 L.2).1.loss := by
  intro L
  unfold L first runFirst rest runRest
  dsimp only
  refine (View.canon_cons_unit_zero (by decide) _ _ _).trans (Eq.trans ?_ (View.canon_unit_zero (by decide) _ _).symm)
  sl_unfold_words
  refine congrArg (k0_pay98 (F := F) _ _ _ _ _) ?_
  refine (View.readCov_cons_toLoadRect _ _ _ _).trans (funext fun j => ?_)
  rw [Memref.IsWhole.readAt_unread]
  unfold k0_pay93
  rfl

end

end Cert.Proof.Head

end
-- ==== Proof.Head.Frame.lean ====
module

public import proofs.«01_k».proof.Proof.Gen.Kernel2Ideal.Points
public import proofs.«01_k».proof.Proof.Gen.Kernel2Ideal.Launch
public import proofs.«01_k».proof.Proof.Head.Stores
public import proofs.«01_k».proof.Proof.Gen.Kernel2
public import proofs.«01_k».proof.Defs

@[expose] public section

set_option maxRecDepth 16384

noncomputable section

namespace Cert.Proof.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] (m : (ℓ : Loc nD τ sig) → Buf (Elt F) ℓ) (ρ : Dev nD → PrngReg)

local notation "𝕄" => MT nD τ sig Unit (Elt F) ℕ (Pipeline.UD sig nD τ) ℕ

/-! The run over any float values. Each output's window gets exactly what the body's stores say. -/

/-- The semaphores that the body's own copies count on. -/
abbrev copySems : Fin 3 → SemLoc sig := fun j => (![SemLoc.dma 20, SemLoc.dma 21, SemLoc.dma 22] : Fin 3 → SemLoc sig) j

theorem copySems_own : Pipeline.OwnSemFacts spec0 copySems := by decide

/-- The one operand that the body copies by itself. -/
def moved : Finset (Ref sig .tc) := {main_v6}

theorem moved_sub : moved ⊆ Pipeline.restRefs sig spec0 := by decide

/-- The weights that the region finds. -/
def wts (c : Dev nD) : Vec F S3x2816x1024 .bf16 := View.read (Elt F) wHbm.view (V m c main_v6)

/-- The scratch that keeps the weights. -/
abbrev wVmem : Memref sig .tc .vmem S3x2816x1024 .bf16 := Memref.whole cc0_scratch0

/-- The scratch's contents, once it holds the weights. -/
abbrev kept (c : Dev nD) : BufOf (F := F) c wVmem := (Memref.isWhole_whole cc0_scratch0).unread (wts m c)

/-- What a point takes beside its windows and the scratch: the generator register, the copy semaphores, the weights in HBM. -/
def aside (c : Dev nD) : sProp 𝕄 :=
  iprop((∃ r, prngReg c r) ∗ (semVal ((c : Thread nD τ), SemLoc.dma 20) 0 ∗ semVal ((c : Thread nD τ), SemLoc.dma 21) 0
    ∗ semVal ((c : Thread nD τ), SemLoc.dma 22) 0) ∗ wHbm.view.loc (c : Thread nD τ) ↦{fullShare} (V m c main_v6))

theorem scratch_owns (c : Dev nD) (d : Vec F S3x2816x1024 .bf16) :
    (owns (c : Thread nD τ) wVmem fullShare d : sProp 𝕄)
      = iprop(∃ f, ⌜View.read (Elt F) wVmem.view f = d⌝ ∗ wVmem.view.loc (c : Thread nD τ) ↦[wVmem.view.set]{fullShare} f) := rfl

theorem launch_aside (c : Dev nD) :
    (Pipeline.ΦD copySems spec0 moved (V m) c : sProp 𝕄) = iprop((∃ d, owns (c : Thread nD τ) wVmem fullShare d) ∗ aside m c) := by
  rw [Pipeline.ΦD_eq, scopedRest0_eq, Pipeline.ownSems0_eq_of_list c copySems [0, 1, 2] (by decide) (by decide), moved,
    BI.bigSep_eq_bigSepL_of_eq [main_v6] (by decide) (by decide)]
  simp only [owns_whole]
  rfl

/-- What holds between the points: before the first the scratch holds anything, after it the weights. -/
def between (c : Dev nD) : ℕ → sProp 𝕄
  | 0 => Pipeline.ΦD copySems spec0 moved (V m) c
  | _ + 1 => iprop(owns (c : Thread nD τ) wVmem fullShare (wts m c) ∗ aside m c)

theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]
  word_cmp

/-- Some point after the first. -/
abbrev later : Fin cfg0.N := ⟨1, by decide⟩

theorem later_rest : ¬isFirst (grid0.coords later) := fun h => absurd ((isFirst_iff later).mp h) (by decide)

/-- The stores of a later point over the blocks of point `t`, the sums going on from `s` and `l`. -/
def stores (c : Dev nD) (t : Fin cfg0.N) (s : Vec F S1x1024 .f32) (l : Vec F S1x128 .f32) : Stores F :=
  (rest c (grid0.coords later) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (st0_8 t) (hstage0_8 ((cfg0.slots t 8).cast nbuf0_8))
    (st0_9 t) (hstage0_9 ((cfg0.slots t 9).cast nbuf0_9)) (st0_10 t) (hstage0_10 ((cfg0.slots t 10).cast nbuf0_10)) (st0_11 t) (hstage0_11 ((cfg0.slots t 11).cast nbuf0_11))
    wVmem (Memref.isWhole_whole _) (iblk m c 0 t) (iblk m c 1 t) (iblk m c 2 t) (iblk m c 3 t) later_rest (V m c main_v6) s l (kept m c)).1

/-- The two sums after point `n`. -/
def sums (c : Dev nD) : (n : ℕ) → n < cfg0.N → Vec F S1x1024 .f32 × Vec F S1x128 .f32
  | 0, h => (View.canon (stores m c ⟨0, h⟩ k0_pay92 k0_pay93).dgain, View.canon (stores m c ⟨0, h⟩ k0_pay92 k0_pay93).loss)
  | n + 1, h =>
    let p := sums c n (Nat.lt_of_succ_lt h)
    (View.canon (stores m c ⟨n + 1, h⟩ p.1 p.2).dgain, View.canon (stores m c ⟨n + 1, h⟩ p.1 p.2).loss)

/-- The two sums before point `n`. -/
def before (c : Dev nD) : (n : ℕ) → n < cfg0.N → Vec F S1x1024 .f32 × Vec F S1x128 .f32
  | 0, _ => (k0_pay92, k0_pay93)
  | n + 1, h => sums m c n (Nat.lt_of_succ_lt h)

/-- The stores of point `t`. -/
def storesAt (c : Dev nD) (t : Fin cfg0.N) : Stores F := stores m c t (before m c t.val t.isLt).1 (before m c t.val t.isLt).2

theorem sums_eq (c : Dev nD) (t : Fin cfg0.N) :
    sums m c t.val t.isLt = (View.canon (storesAt m c t).dgain, View.canon (storesAt m c t).loss) :=
  match t with
  | ⟨0, _⟩ => rfl
  | ⟨_ + 1, _⟩ => rfl

/-- What each point finds and leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => View.canon (storesAt m c t).dx
    | ⟨5, _⟩ => View.canon (storesAt m c t).dob
    | ⟨6, _⟩ => View.canon (storesAt m c t).dgain
    | ⟨7, _⟩ => View.canon (storesAt m c t).loss
    | ⟨8, _⟩ => View.canon (storesAt m c t).norm
    | ⟨9, _⟩ => View.canon (storesAt m c t).dau
    | ⟨10, _⟩ => View.canon (storesAt m c t).dag
    | ⟨11, _⟩ => View.canon (storesAt m c t).act
  Φ t := between m c t.val
  q _ := fullShare
  owed _ := 0

theorem dats_A (c : Dev nD) (w : Fin cfg0.W) : (dats m 0 c).A w = V m c (Pipeline.arrRef spec0 w) := by dsimp only [dats]

/-! What each point leaves in the windows' buffers. -/

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = iblk m c 2 t := by dsimp only [dats]

theorem after_3 (c : Dev nD) (t : Fin cfg0.N) : (dats m 0 c).after 3 t = iblk m c 3 t := by dsimp only [dats]

theorem after_4 (c : Dev nD) (t : Fin cfg0.N) : (dats m 0 c).after 4 t = View.canon (storesAt m c t).dx := by dsimp only [dats]

theorem after_5 (c : Dev nD) (t : Fin cfg0.N) : (dats m 0 c).after 5 t = View.canon (storesAt m c t).dob := by dsimp only [dats]

theorem after_6 (c : Dev nD) (t : Fin cfg0.N) : (dats m 0 c).after 6 t = View.canon (storesAt m c t).dgain := by dsimp only [dats]

theorem after_7 (c : Dev nD) (t : Fin cfg0.N) : (dats m 0 c).after 7 t = View.canon (storesAt m c t).loss := by dsimp only [dats]

theorem after_8 (c : Dev nD) (t : Fin cfg0.N) : (dats m 0 c).after 8 t = View.canon (storesAt m c t).norm := by dsimp only [dats]

theorem after_9 (c : Dev nD) (t : Fin cfg0.N) : (dats m 0 c).after 9 t = View.canon (storesAt m c t).dau := by dsimp only [dats]

theorem after_10 (c : Dev nD) (t : Fin cfg0.N) : (dats m 0 c).after 10 t = View.canon (storesAt m c t).dag := by dsimp only [dats]

theorem after_11 (c : Dev nD) (t : Fin cfg0.N) : (dats m 0 c).after 11 t = View.canon (storesAt m c t).act := by dsimp only [dats]

/-! An input window holds its block at every point, fetched there or not. -/

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans (by unfold Dat.fetched Dat.blockOf iblk; rw [dats_A]; rfl)

theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans (by unfold Dat.fetched Dat.blockOf iblk; rw [dats_A]; rfl)

theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans (by unfold Dat.fetched Dat.blockOf iblk; rw [dats_A]; rfl)

theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans (by unfold Dat.fetched Dat.blockOf iblk; rw [dats_A]; rfl)

/-! At a later point a sum's window still holds what the point before left. -/

theorem before_6 (c : Dev nD) (n : ℕ) (hn : n + 1 < cfg0.N) (d) :
    (dats m 0 c).before 6 ⟨n + 1, hn⟩ d = (before m c (n + 1) hn).1 := by
  have hN : n + 1 < 16 := lt_of_lt_of_eq hn N_0
  rw [Dat.before_out_kept _ 6 rfl ⟨n + 1, hn⟩ (Nat.succ_ne_zero n)
    (Bool.eq_false_iff.mpr fun h => by have := (flush0_6 _).mp h; dsimp only at this; omega) (fun _ => rfl) (fun _ _ => rfl)]
  have e := congrArg Prod.fst (sums_eq m c ⟨n, Nat.lt_of_succ_lt hn⟩)
  dsimp only at e
  unfold before
  rw [e, after_6]
  rfl

theorem before_7 (c : Dev nD) (n : ℕ) (hn : n + 1 < cfg0.N) (d) :
    (dats m 0 c).before 7 ⟨n + 1, hn⟩ d = (before m c (n + 1) hn).2 := by
  have hN : n + 1 < 16 := lt_of_lt_of_eq hn N_0
  rw [Dat.before_out_kept _ 7 rfl ⟨n + 1, hn⟩ (Nat.succ_ne_zero n)
    (Bool.eq_false_iff.mpr fun h => by have := (flush0_7 _).mp h; dsimp only at this; omega) (fun _ => rfl) (fun _ _ => rfl)]
  have e := congrArg Prod.snd (sums_eq m c ⟨n, Nat.lt_of_succ_lt hn⟩)
  dsimp only at e
  unfold before
  rw [e, after_7]
  rfl

/-- The invariant and what the windows' buffers hold before point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- The invariant and what the windows' buffers hold after point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- A buffer that was stored to all over is owned at what the stores say, whatever it held. -/
theorem owns_written (c : Dev nD) {sp : Space} {S : Shape} {e : EltTy} (M : Memref sig .tc sp S e) (L : List (View.Piece (Elt F) S e))
    (d : Vec F S e) (cov : ∀ y : S.Idx, ∃ p ∈ L, y ∈ p.1.set) (hL : View.canon L = d) :
    (iprop(∃ f, M.view.loc (c : Thread nD τ) ↦[M.view.set]{fullShare} M.view.writes (Elt F) f L) : sProp 𝕄)
      ⊢ owns (c : Thread nD τ) M fullShare d := by
  iintro ⟨%f, H⟩
  unfold owns; iexists _; isplitr
  swap; · iexact H
  ipureintro; exact (View.read_writes_eq_canon _ _ _ cov).trans hL

theorem dats_between (c : Dev nD) (t : Fin cfg0.N) : (dats m 0 c).Φ t.castSucc = between m c t.val := by
  dsimp only [dats]
  exact Pipeline.Dat.Φ_castSucc (fun n _ => between m c n) t

theorem dats_between_succ (c : Dev nD) (t : Fin cfg0.N) :
    (dats m 0 c).Φ t.succ = iprop(owns (c : Thread nD τ) wVmem fullShare (wts m c) ∗ aside m c) := rfl

/-- The body's run at the first point, on the point's buffers. -/
abbrev firstAt (c : Dev nD) (t : Fin cfg0.N) (hc : isFirst (grid0.coords t)) (fs0 : BufOf (F := F) c wVmem) :=
  first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (st0_8 t) (hstage0_8 ((cfg0.slots t 8).cast nbuf0_8))
    (st0_9 t) (hstage0_9 ((cfg0.slots t 9).cast nbuf0_9)) (st0_10 t) (hstage0_10 ((cfg0.slots t 10).cast nbuf0_10)) (st0_11 t) (hstage0_11 ((cfg0.slots t 11).cast nbuf0_11))
    wVmem (Memref.isWhole_whole _) (iblk m c 0 t) (iblk m c 1 t) (iblk m c 2 t) (iblk m c 3 t) hc fs0 (V m c main_v6)

/-- The body's run at a later point, on the point's buffers. -/
abbrev restAt (c : Dev nD) (t : Fin cfg0.N) (s : Vec F S1x1024 .f32) (l : Vec F S1x128 .f32) (hc : ¬isFirst (grid0.coords t)) :=
  rest c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (st0_8 t) (hstage0_8 ((cfg0.slots t 8).cast nbuf0_8))
    (st0_9 t) (hstage0_9 ((cfg0.slots t 9).cast nbuf0_9)) (st0_10 t) (hstage0_10 ((cfg0.slots t 10).cast nbuf0_10)) (st0_11 t) (hstage0_11 ((cfg0.slots t 11).cast nbuf0_11))
    wVmem (Memref.isWhole_whole _) (iblk m c 0 t) (iblk m c 1 t) (iblk m c 2 t) (iblk m c 3 t) hc (V m c main_v6) s l (kept m c)

/-- The first point's stores, by the weights that its own copies brought. -/
theorem firstAt_stores (c : Dev nD) (t : Fin cfg0.N) (ht : t.val = 0) (hc : isFirst (grid0.coords t)) (fs0 : BufOf (F := F) c wVmem) :
    let L := (firstAt m c t hc fs0).1
    L.2 = kept m c ∧ L.1.dx = (storesAt m c t).dx ∧ L.1.dob = (storesAt m c t).dob ∧ L.1.norm = (storesAt m c t).norm
      ∧ L.1.dau = (storesAt m c t).dau ∧ L.1.dag = (storesAt m c t).dag ∧ L.1.act = (storesAt m c t).act
      ∧ View.canon L.1.dgain = View.canon (storesAt m c t).dgain ∧ View.canon L.1.loss = View.canon (storesAt m c t).loss := by
  have hb : before m c t.val t.isLt = (k0_pay92, k0_pay93) := by
    obtain ⟨n, hn⟩ := t
    obtain rfl : n = 0 := ht
    rfl
  have e : (firstAt m c t hc fs0).1.2 = kept m c := scratch ..
  have h1 := first_eq c (grid0.coords t) (grid0.coords later) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (st0_8 t) (hstage0_8 ((cfg0.slots t 8).cast nbuf0_8))
    (st0_9 t) (hstage0_9 ((cfg0.slots t 9).cast nbuf0_9)) (st0_10 t) (hstage0_10 ((cfg0.slots t 10).cast nbuf0_10)) (st0_11 t) (hstage0_11 ((cfg0.slots t 11).cast nbuf0_11))
    wVmem (Memref.isWhole_whole _) (iblk m c 0 t) (iblk m c 1 t) (iblk m c 2 t) (iblk m c 3 t) hc later_rest fs0 (V m c main_v6) k0_pay92 k0_pay93
  have h2 := first_dgain c (grid0.coords t) (grid0.coords later) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (st0_8 t) (hstage0_8 ((cfg0.slots t 8).cast nbuf0_8))
    (st0_9 t) (hstage0_9 ((cfg0.slots t 9).cast nbuf0_9)) (st0_10 t) (hstage0_10 ((cfg0.slots t 10).cast nbuf0_10)) (st0_11 t) (hstage0_11 ((cfg0.slots t 11).cast nbuf0_11))
    wVmem (Memref.isWhole_whole _) (iblk m c 0 t) (iblk m c 1 t) (iblk m c 2 t) (iblk m c 3 t) hc later_rest fs0 (V m c main_v6) k0_pay93
  have h3 := first_loss c (grid0.coords t) (grid0.coords later) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7)) (st0_8 t) (hstage0_8 ((cfg0.slots t 8).cast nbuf0_8))
    (st0_9 t) (hstage0_9 ((cfg0.slots t 9).cast nbuf0_9)) (st0_10 t) (hstage0_10 ((cfg0.slots t 10).cast nbuf0_10)) (st0_11 t) (hstage0_11 ((cfg0.slots t 11).cast nbuf0_11))
    wVmem (Memref.isWhole_whole _) (iblk m c 0 t) (iblk m c 1 t) (iblk m c 2 t) (iblk m c 3 t) hc later_rest fs0 (V m c main_v6) k0_pay92
  unfold storesAt stores
  rw [hb]
  intro L
  refine ⟨e, ?_⟩
  rw [← e]
  exact ⟨h1.1, h1.2.1, h1.2.2.1, h1.2.2.2.1, h1.2.2.2.2.1, h1.2.2.2.2.2, h2, h3⟩

set_option maxHeartbeats 6400000 in
/-- The body at the first point. -/
theorem body_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [dats_between, dats_between_succ, ht, show between m c 0 = Pipeline.ΦD copySems spec0 moved (V m) c from rfl, launch_aside,
    after_0, after_1, after_2, after_3, after_4, after_5, after_6, after_7, after_8, after_9, after_10, after_11]
  unfold Dat.owesAt Pipeline.owesWithin
  have hc := (isFirst_iff t).mpr ht
  rw [show (dats m 0 c).owed t.castSucc = 0 from rfl, show (dats m 0 c).owed t.succ = 0 from rfl]
  simp only [aside, scratch_owns]
  iintro ⟨⟨⟨%ds, %fs0, -, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨e0, e4, e5, e8, e9, e10, e11, eg, el⟩ := firstAt_stores m c t ht hc fs0
  iapply ((firstAt m c t hc fs0).property W _)
  isplitl [H0 H1 H2 H3]
  · unfold inputs
    isplitl [H0]; · iexact H0
    isplitl [H1]; · iexact H1
    isplitl [H2]; · iexact H2
    iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1, H2, H3⟩, H4, H5, H6, H7, H8, H9, H10, H11, HS, ⟨Hq0, Hq1, Hq2, Hh⟩, ⟨%W', HW'⟩⟩
  isplitl [HS Hg Hq0 Hq1 Hq2 Hh]
  · isplitl [HS]
    · iexists _; isplitr
      swap; · iexact HS
      ipureintro; exact (congrArg _ e0).trans ((Memref.isWhole_whole cc0_scratch0).read_unread _)
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iapply (owns_written c _ _ _ (View.cover_of_tiled _ ![512, 1024] rfl) (congrArg View.canon e4)); iexact H4
  isplitl [H5]; · iapply (owns_written c _ _ _ (View.cover_of_tiled _ ![512, 1024] rfl) (congrArg View.canon e5)); iexact H5
  isplitl [H6]; · iapply (owns_written c _ _ _ (View.cover_of_tiled _ ![1, 1024] rfl) eg); iexact H6
  isplitl [H7]; · iapply (owns_written c _ _ _ (View.cover_of_tiled _ ![1, 128] rfl) el); iexact H7
  isplitl [H8]; · iapply (owns_written c _ _ _ (View.cover_of_tiled _ ![512, 1024] rfl) (congrArg View.canon e8)); iexact H8
  isplitl [H9]; · iapply (owns_written c _ _ _ (View.cover_of_tiled _ ![512, 256] rfl) (congrArg View.canon e9)); iexact H9
  isplitl [H10]; · iapply (owns_written c _ _ _ (View.cover_of_tiled _ ![512, 256] rfl) (congrArg View.canon e10)); iexact H10
  iapply (owns_written c _ _ _ (View.cover_of_tiled _ ![512, 256] rfl) (congrArg View.canon e11)); iexact H11

set_option maxHeartbeats 6400000 in
/-- The body at a later point. -/
theorem body_rest (c : Dev nD) (n : ℕ) (hn : n + 1 < cfg0.N) :
    bodyPre m c ⟨n + 1, hn⟩ ⊢ wp frame (wpE (defs₀ (F := F)) Variants.none c none) Set.univ (bodyAt0 ⟨n + 1, hn⟩) (fun _ => bodyPost m c ⟨n + 1, hn⟩) := by
  have hc : ¬isFirst (grid0.coords (⟨n + 1, hn⟩ : Fin cfg0.N)) := fun h => Nat.succ_ne_zero n ((isFirst_iff _).mp h)
  have b6 := before_6 m c n hn
  have b7 := before_7 m c n hn
  have hs : (restAt m c ⟨n + 1, hn⟩ (before m c (n + 1) hn).1 (before m c (n + 1) hn).2 hc).1 = storesAt m c ⟨n + 1, hn⟩ := rfl
  have hb : between m c (n + 1) = iprop(owns (c : Thread nD τ) wVmem fullShare (wts m c) ∗ aside m c) := rfl
  generalize before m c (n + 1) hn = p at b6 b7 hs
  generalize ht : (⟨n + 1, hn⟩ : Fin cfg0.N) = t at hc b6 b7 hs ⊢
  unfold bodyPre bodyPost bodyAt0
  simp only [before_0, before_1, before_2, before_3, b6, b7]
  rw [dats_between, dats_between_succ, show t.val = n + 1 from ht ▸ rfl, hb,
    after_0, after_1, after_2, after_3, after_4, after_5, after_6, after_7, after_8, after_9, after_10, after_11]
  unfold Dat.owesAt Pipeline.owesWithin
  rw [show (dats m 0 c).owed t.castSucc = 0 from rfl, show (dats m 0 c).owed t.succ = 0 from rfl]
  simp only [aside, scratch_owns]
  iintro ⟨⟨⟨%g, %hg, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl : g = kept m c := (Memref.isWhole_whole cc0_scratch0).eq_unread hg
  iapply ((restAt m c t p.1 p.2 hc).property W _)
  isplitl [H0 H1 H2 H3]
  · unfold inputs
    isplitl [H0]; · iexact H0
    isplitl [H1]; · iexact H1
    isplitl [H2]; · iexact H2
    iexact H3
  isplitl [H4]; · iexists _; iexact H4
  isplitl [H5]; · iexists _; iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1, H2, H3⟩, H4, H5, H6, H7, H8, H9, H10, H11, HS, ⟨Hq0, Hq1, Hq2, Hh⟩, ⟨%W', HW'⟩⟩
  isplitl [HS Hg Hq0 Hq1 Hq2 Hh]
  · isplitl [HS]
    · iexists _; isplitr
      swap; · iexact HS
      ipureintro; exact (Memref.isWhole_whole cc0_scratch0).read_unread _
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iapply (owns_written c _ _ _ (View.cover_of_tiled _ ![512, 1024] rfl) (congrArg (fun L : Stores F => View.canon L.dx) hs)); iexact H4
  isplitl [H5]; · iapply (owns_written c _ _ _ (View.cover_of_tiled _ ![512, 1024] rfl) (congrArg (fun L : Stores F => View.canon L.dob) hs)); iexact H5
  isplitl [H6]; · iapply (owns_written c _ _ _ (View.cover_of_tiled _ ![1, 1024] rfl) (congrArg (fun L : Stores F => View.canon L.dgain) hs)); iexists _; iexact H6
  isplitl [H7]; · iapply (owns_written c _ _ _ (View.cover_of_tiled _ ![1, 128] rfl) (congrArg (fun L : Stores F => View.canon L.loss) hs)); iexists _; iexact H7
  isplitl [H8]; · iapply (owns_written c _ _ _ (View.cover_of_tiled _ ![512, 1024] rfl) (congrArg (fun L : Stores F => View.canon L.norm) hs)); iexact H8
  isplitl [H9]; · iapply (owns_written c _ _ _ (View.cover_of_tiled _ ![512, 256] rfl) (congrArg (fun L : Stores F => View.canon L.dau) hs)); iexact H9
  isplitl [H10]; · iapply (owns_written c _ _ _ (View.cover_of_tiled _ ![512, 256] rfl) (congrArg (fun L : Stores F => View.canon L.dag) hs)); iexact H10
  iapply (owns_written c _ _ _ (View.cover_of_tiled _ ![512, 256] rfl) (congrArg (fun L : Stores F => View.canon L.act) hs)); iexact H11

/-- The body at every point. -/
theorem body (c : Dev nD) : BodyObligation (dats m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated ?_ rfl .rfl fun _ => .rfl
  exact match t with
    | ⟨0, h⟩ => body_first m c ⟨0, h⟩ rfl
    | ⟨n + 1, h⟩ => body_rest m c n h

theorem enter (c : Dev nD) : Pipeline.ΦD copySems spec0 moved (V m) c ⊢ (dats m 0 c).Φ 0 := by
  rw [show (dats m 0 c).Φ 0 = Pipeline.ΦD copySems spec0 moved (V m) c from rfl]

/-- After the last point the scratch's contents are forgotten. -/
theorem leave (c : Dev nD) : (dats m 0 c).Φ (Fin.last cfg0.N) ⊢ Pipeline.ΦD copySems spec0 moved (V m) c := by
  rw [show (dats m 0 c).Φ (Fin.last cfg0.N) = iprop(owns (c : Thread nD τ) wVmem fullShare (wts m c) ∗ aside m c) from rfl, launch_aside]
  iintro ⟨HS, Ha⟩
  isplitl [HS]
  · iexists _; iexact HS
  iexact Ha

-- the launch's implicit arguments are found by unfolding plain definitions inside types
set_option backward.isDefEq.respectTransparency.types false in
/-- The program runs, every array of the region ends at what the points left in it, and every semaphore ends at zero. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 copySems defs₀ Variants.none copySems_own moved moved_sub m ρ main
    (hbody := fun c => (body m c).loose) (hshare := fun c => (dats m 0 c).share_full fun _ => rfl)
    (howed := fun _ _ => rfl) (V := V m) (hmain := Pipeline.hmain_prefix cfgs 0 defs₀ Variants.none m main hostOps0 hostOps0_sub hostOps0_fresh main_chain)
    (hA := dats_A m) (hin := enter m) (hout := leave m)

/-- The arguments end as they began. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((h c).1 0).trans (((dats m 0 c).arrAt_in 0 rfl _).trans ((dats_A m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 3).trans (((dats m 0 c).arrAt_in 3 rfl _).trans ((dats_A m c 3).trans (V_main_arg6 m c)))⟩

/-- The kernel at hardware values has the same text. -/
theorem same_main : Cert.Kernel2Ideal.main (F := Bits) = Cert.Kernel2.main := by sl_kernel_rfl

theorem same_defs : Cert.Kernel2Ideal.defs (F := Bits) = Cert.Kernel2.defs := by sl_kernel_rfl

/-- The kernel's frame at hardware values. -/
theorem kernel_frame : Cert.quiescent_Kernel2 := fun m ρ _ => by
  rw [← same_main, ← same_defs]
  exact (θ_run _ _ _).mono (fun r h => ⟨args_kept (F := Bits) m r h.1, h.2⟩) (run (F := Bits) m ρ)

end Cert.Proof.Head

end
-- ==== Proof.Shared.FfnHead.lean ====
module

public import proofs.«01_k».proof.Proof.Shared.FfnReals

@[expose] public section

noncomputable section

/-! The gated feed-forward block forwards on one row, and the head that follows the last one: the norm with gain `gf`, the distance to the
target row `t`, half the mean of its squares, and that loss's derivative. -/

namespace Cert.Proof.Ffn

open Idealize.ShloMosaic

variable (x g : Fin 1024 → EReal) (wg wu : Fin 1024 → Fin 2816 → EReal) (wd : Fin 2816 → Fin 1024 → EReal) (y gf t : Fin 1024 → EReal)

/-- The hidden activation. -/
def act (f : Fin 2816) : EReal := slopeUp (proj x g wg f) * proj x g wu f

/-- The block's output. -/
def out (k : Fin 1024) : EReal := x k + half * ∑ f, act x g wg wu f * wd f k

/-- The distance of the normalised row to the target. -/
def err (k : Fin 1024) : EReal := y k * rstd y * gf k - t k

/-- One over the row's length, as the kernel spells it. -/
abbrev invWidth : EReal := Ideal.ofBits .f32 0x3A800000#32

/-- One half over the row's length, as the kernel spells it. -/
abbrev halfInvWidth : EReal := Ideal.ofBits .f32 0x3A000000#32

/-- The loss's cotangent of the normalised row. -/
def derr (k : Fin 1024) : EReal := err y gf t k * invWidth

/-- The loss's cotangent of the row. -/
def headDx (k : Fin 1024) : EReal :=
  rstd y * (derr y gf t k * gf k - y k * rstd y * Ideal.div (∑ j, derr y gf t j * gf j * (y j * rstd y)) width)

/-- The row's part of the loss's cotangent of the gain. -/
def headDgain (k : Fin 1024) : EReal := derr y gf t k * (y k * rstd y)

/-- The row's sum of squares. -/
def sq : EReal := ∑ k, err y gf t k * err y gf t k

section
variable {x g wg wu wd y gf t}

/-- The gate's slope by the product rule. -/
theorem slopeGate_eq {z u : EReal} (hz : IsReal z) (hu : IsReal u) :
    u * sig z + z * u * (sig z * (1 - sig z)) = slopeGate z u := by
  unfold slopeGate
  obtain ⟨s, hs⟩ := isReal_sig hz
  obtain ⟨z, rfl⟩ := hz
  obtain ⟨u, rfl⟩ := hu
  rw [← hs, ← EReal.coe_one]
  simp only [← EReal.coe_mul, ← EReal.coe_add, ← EReal.coe_sub]
  congr 1; ring

theorem isReal_out (hx : ∀ k, IsReal (x k)) (hg : ∀ k, IsReal (g k)) (hwg : ∀ k f, IsReal (wg k f)) (hwu : ∀ k f, IsReal (wu k f))
    (hwd : ∀ f k, IsReal (wd f k)) (k : Fin 1024) : IsReal (out x g wg wu wd k) :=
  (hx k).add (isReal_half.mul (IsReal.sum _ fun f =>
    (((isReal_proj hx hg hwg f).mul (isReal_sig (isReal_proj hx hg hwg f))).mul (isReal_proj hx hg hwu f)).mul (hwd f k)))

theorem invWidth_eq : invWidth = ((1 / 1024 : ℝ) : EReal) := by
  simp [Ideal.ofBits, Ideal.ieee, -EReal.coe_mul]; norm_num

theorem halfInvWidth_eq : halfInvWidth = ((1 / 2048 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

variable (hy : ∀ k, IsReal (y k)) (hgf : ∀ k, IsReal (gf k)) (ht : ∀ k, IsReal (t k))
include hy hgf ht

theorem isReal_err (k : Fin 1024) : IsReal (err y gf t k) := (((hy k).mul (isReal_rstd hy)).mul (hgf k)).sub (ht k)

/-- The cotangent of the distance by rules: half of one over the row's length, times twice the distance. -/
theorem derr_eq (k : Fin 1024) :
    Ideal.div (half * 1) width * (Ideal.ofBits .f32 0x40000000#32 * err y gf t k) = derr y gf t k := by
  unfold derr
  obtain ⟨e, he⟩ := isReal_err hy hgf ht k
  rw [← he, mul_one, half, half_eq, width, width_eq, two_eq, invWidth_eq, div_coe _ (by norm_num)]
  simp only [← EReal.coe_mul]
  congr 1; ring

theorem isReal_sq : IsReal (sq y gf t) := IsReal.sum _ fun k => (isReal_err hy hgf ht k).mul (isReal_err hy hgf ht k)

theorem isReal_derr (k : Fin 1024) : IsReal (derr y gf t k) := (isReal_err hy hgf ht k).mul ⟨_, invWidth_eq.symm⟩

/-- The loss's cotangent of the row by rules. -/
theorem headDx_eq (k : Fin 1024) {c : EReal} (hc : c = Ideal.div ((∑ j, y j * (derr y gf t j * gf j)) * (Ideal.ofBits .f32 0xBF000000#32
      * Ideal.div (rstd y) (Ideal.div (∑ k, y k * y k) width + Ideal.ofBits .f32 0x358637BD#32))) width) :
    derr y gf t k * gf k * rstd y + y k * c + c * y k = headDx y gf t k := by
  have h := norm_back (e := fun _ => 0) hy (fun _ => IsReal.zero) (fun j => (isReal_derr hy hgf ht j).mul (hgf j)) k hc
  rw [zero_add, zero_add] at h
  exact h

end

/-- The loss over all rows: the kernel scales each tile's sum of squares, the reference takes half the sum of the rows' means. -/
theorem loss_eq {n : ℕ} (s : Fin n → EReal) (hs : ∀ r, IsReal (s r)) :
    half * ∑ r, Ideal.div (s r) width = ∑ r, halfInvWidth * s r := by
  choose S hS using hs
  obtain rfl : (fun r => (S r : EReal)) = s := funext hS
  rw [half, half_eq, width, width_eq]
  simp only [halfInvWidth_eq, div_coe _ (show (1024 : ℝ) ≠ 0 by norm_num), ← EReal.coe_mul, ← coe_sum]
  congr 1
  rw [Finset.mul_sum]
  exact Finset.sum_congr rfl fun r _ => by ring

/-- A tile's scaled sum of squares, row by row. -/
theorem half_sum {n : ℕ} (s : Fin n → EReal) (hs : ∀ r, IsReal (s r)) : halfInvWidth * ∑ r, s r = ∑ r, halfInvWidth * s r := by
  choose S hS using hs
  obtain rfl : (fun r => (S r : EReal)) = s := funext hS
  simp only [halfInvWidth_eq, ← EReal.coe_mul, ← coe_sum]
  congr 1
  rw [Finset.mul_sum]

end Cert.Proof.Ffn

end
-- ==== Proof.Head.Tile.lean ====
module

public import proofs.«01_k».proof.Proof.Head.Stores
public import proofs.«01_k».proof.Proof.Shared.FfnHead
public import Idealize.ShloMosaic.Lib.Pointwise

@[expose] public section

set_option maxRecDepth 16384

noncomputable section

/-! What the body stores at a point, by the rows of the point's blocks. -/

namespace Cert.Proof.Head

open Idealize.ShloMosaic Idealize.ShloMosaic.TcCoe Idealize.ShloMosaic.Tactic
open Cert.Kernel2Ideal Cert.Kernel2Ideal.Gen

/-- A row of a block. -/
abbrev rowOf {n : ℕ} (x : Vec Ideal ⟨2, ![n, 1024]⟩ .f32) (r : Fin n) (k : Fin 1024) : EReal := x (ix2 r k)

/-- The stacked weights, one by one. -/
abbrev gateOf (w : Vec Ideal S3x2816x1024 .bf16) (k : Fin 1024) (f : Fin 2816) : EReal := w (ix3 0 f k)
abbrev upOf (w : Vec Ideal S3x2816x1024 .bf16) (k : Fin 1024) (f : Fin 2816) : EReal := w (ix3 1 f k)
abbrev downOf (w : Vec Ideal S3x2816x1024 .bf16) (f : Fin 2816) (k : Fin 1024) : EReal := w (ix3 2 f k)

section
variable (x0 : Vec Ideal S512x1024 .f32) (x1 x2 : Vec Ideal S1x1024 .f32) (x3 : Vec Ideal S512x1024 .f32) (w : Vec Ideal S3x2816x1024 .bf16)

/-- A tile of the normalised rows. -/
def normTile : Vec Ideal S512x1024 .bf16 := fun j => Ffn.normed (rowOf x0 (j 0)) (rowOf x1 0) (j 1)

/-- A tile of the activation's slope in the up projection. -/
def dauTile : Vec Ideal S512x2816 .bf16 := fun j => Ffn.slopeUp (Ffn.proj (rowOf x0 (j 0)) (rowOf x1 0) (gateOf w) (j 1))

/-- A tile of the activation's slope in the gate. -/
def dagTile : Vec Ideal S512x2816 .bf16 := fun j =>
  Ffn.slopeGate (Ffn.proj (rowOf x0 (j 0)) (rowOf x1 0) (gateOf w) (j 1)) (Ffn.proj (rowOf x0 (j 0)) (rowOf x1 0) (upOf w) (j 1))

/-- A tile of the activation. -/
def actTile : Vec Ideal S512x2816 .bf16 := fun j => Ffn.act (rowOf x0 (j 0)) (rowOf x1 0) (gateOf w) (upOf w) (j 1)

/-- A row of the block's output. -/
abbrev outRow (r : Fin 512) : Fin 1024 → EReal := Ffn.out (rowOf x0 r) (rowOf x1 0) (gateOf w) (upOf w) (downOf w)

/-- A tile of the loss's cotangent of the block's output. -/
def dxTile : Vec Ideal S512x1024 .f32 := fun j => Ffn.headDx (outRow x0 x1 w (j 0)) (rowOf x2 0) (rowOf x3 (j 0)) (j 1)

/-- Half of it, the cotangent of the block's branch. -/
def dobTile : Vec Ideal S512x1024 .bf16 := fun j =>
  Ffn.half * Ffn.headDx (outRow x0 x1 w (j 0)) (rowOf x2 0) (rowOf x3 (j 0)) (j 1)

/-- A tile's addend to the cotangent of the last gain. -/
def dgainTile : Vec Ideal S1x1024 .f32 := fun j =>
  ∑ r : Fin 512, Ffn.headDgain (outRow x0 x1 w r) (rowOf x2 0) (rowOf x3 r) (j 1)

/-- A tile's addend to the loss. -/
def lossTile : EReal := Ffn.halfInvWidth * ∑ r : Fin 512, Ffn.sq (outRow x0 x1 w r) (rowOf x2 0) (rowOf x3 r)

end

/-! The payloads that depend on the block's output `y`. -/

section
variable (a : Vec Ideal S512x1024 .f32) (b d : FVec Ideal S512x1024 .f32) (gf : Vec Ideal S1x1024 .f32) (t : Vec Ideal S512x1024 .f32)

theorem rstd_at (r : Fin 512) : k0_pay94 a b d (ix2 r 0) = Ffn.rstd (rowOf (k0_pay91 a b d) r) := by
  unfold k0_pay94
  generalize k0_pay91 a b d = y
  pointwise
  rfl

theorem unit_at (r : Fin 512) (k : Fin 1024) :
    k0_pay95 a b d (ix2 r k) = rowOf (k0_pay91 a b d) r k * Ffn.rstd (rowOf (k0_pay91 a b d) r) := by
  unfold k0_pay95
  pointwise [rstd_at]

theorem err_at (r : Fin 512) (k : Fin 1024) :
    k0_pay97 a b d gf t (ix2 r k) = Ffn.err (rowOf (k0_pay91 a b d) r) (rowOf gf 0) (rowOf t r) k := by
  unfold k0_pay97 k0_pay96
  pointwise [unit_at]
  rfl

theorem derr_at (r : Fin 512) (k : Fin 1024) :
    k0_pay99 a b d gf t (ix2 r k) = Ffn.derr (rowOf (k0_pay91 a b d) r) (rowOf gf 0) (rowOf t r) k := by
  unfold k0_pay99
  pointwise [err_at]
  rfl

theorem scaled_at (r : Fin 512) (k : Fin 1024) :
    k0_pay100 a b d gf t (ix2 r k) = Ffn.derr (rowOf (k0_pay91 a b d) r) (rowOf gf 0) (rowOf t r) k * rowOf gf 0 k := by
  unfold k0_pay100 k0_pay96
  pointwise [derr_at]

theorem inner_at (r : Fin 512) : k0_pay101 a b d gf t (ix2 r 0)
    = ∑ k, Ffn.derr (rowOf (k0_pay91 a b d) r) (rowOf gf 0) (rowOf t r) k * rowOf gf 0 k
        * (rowOf (k0_pay91 a b d) r k * Ffn.rstd (rowOf (k0_pay91 a b d) r)) := by
  unfold k0_pay101
  pointwise [scaled_at, unit_at]

theorem dx_at (r : Fin 512) (k : Fin 1024) :
    k0_pay1 (k0_pay94 a b d) (k0_pay95 a b d) (k0_pay100 a b d gf t) (k0_pay101 a b d gf t) k0_pay102 (ix2 r k)
      = Ffn.headDx (rowOf (k0_pay91 a b d) r) (rowOf gf 0) (rowOf t r) k := by
  unfold k0_pay1 k0_pay102
  pointwise [rstd_at, unit_at, scaled_at, inner_at]
  rfl

theorem dob_at (r : Fin 512) (k : Fin 1024) :
    k0_pay2 (k0_pay94 a b d) (k0_pay95 a b d) (k0_pay100 a b d gf t) (k0_pay101 a b d gf t) k0_pay102 (ix2 r k)
      = Ffn.half * Ffn.headDx (rowOf (k0_pay91 a b d) r) (rowOf gf 0) (rowOf t r) k := by
  unfold k0_pay2
  pointwise [dx_at]

theorem dgain_at (s : Vec Ideal S1x1024 .f32) (k : Fin 1024) :
    k0_pay3 (k0_pay95 a b d) (k0_pay99 a b d gf t) s (ix2 0 k)
      = s (ix2 0 k) + ∑ r : Fin 512, Ffn.headDgain (rowOf (k0_pay91 a b d) r) (rowOf gf 0) (rowOf t r) k := by
  unfold k0_pay3
  pointwise [unit_at, derr_at]
  rfl

theorem loss_at (l : Vec Ideal S1x128 .f32) (k : Fin 128) :
    k0_pay98 a b d gf t l (ix2 0 k)
      = l (ix2 0 k) + Ffn.halfInvWidth * ∑ r : Fin 512, Ffn.sq (rowOf (k0_pay91 a b d) r) (rowOf gf 0) (rowOf t r) := by
  unfold k0_pay98
  pointwise [err_at]
  rfl

end

section
variable {a : Vec Ideal S512x1024 .f32} {b d : FVec Ideal S512x1024 .f32} {gf : Vec Ideal S1x1024 .f32} {t : Vec Ideal S512x1024 .f32}
  {Y Z : Fin 512 → Fin 1024 → EReal} {G : Fin 1024 → EReal} (hy : ∀ r k, k0_pay91 a b d (ix2 r k) = Y r k)
  (hg : ∀ k, gf (ix2 0 k) = G k) (ht : ∀ r k, t (ix2 r k) = Z r k)
include hy hg ht

theorem dx_of (r : Fin 512) (k : Fin 1024) :
    k0_pay1 (k0_pay94 a b d) (k0_pay95 a b d) (k0_pay100 a b d gf t) (k0_pay101 a b d gf t) k0_pay102 (ix2 r k) = Ffn.headDx (Y r) G (Z r) k := by
  rw [dx_at, ← funext (hy r), ← funext hg, ← funext (ht r)]

theorem dob_of (r : Fin 512) (k : Fin 1024) :
    k0_pay2 (k0_pay94 a b d) (k0_pay95 a b d) (k0_pay100 a b d gf t) (k0_pay101 a b d gf t) k0_pay102 (ix2 r k)
      = Ffn.half * Ffn.headDx (Y r) G (Z r) k := by
  rw [dob_at, ← funext (hy r), ← funext hg, ← funext (ht r)]

theorem dgain_of (s : Vec Ideal S1x1024 .f32) (k : Fin 1024) :
    k0_pay3 (k0_pay95 a b d) (k0_pay99 a b d gf t) s (ix2 0 k) = s (ix2 0 k) + ∑ r : Fin 512, Ffn.headDgain (Y r) G (Z r) k := by
  rw [dgain_at, ← funext fun r => funext (hy r), ← funext hg, ← funext fun r => funext (ht r)]

theorem loss_of (l : Vec Ideal S1x128 .f32) (k : Fin 128) :
    k0_pay98 a b d gf t l (ix2 0 k) = l (ix2 0 k) + Ffn.halfInvWidth * ∑ r : Fin 512, Ffn.sq (Y r) G (Z r) := by
  rw [loss_at, ← funext fun r => funext (hy r), ← funext hg, ← funext fun r => funext (ht r)]

end

section
variable (c : Dev nD) (i : grid0.Coords)
  (a1 : Memref sig .tc .vmem S512x1024 .f32) (h1 : a1.IsWhole)
  (a2 : Memref sig .tc .vmem S1x1024 .f32) (h2 : a2.IsWhole)
  (a4 : Memref sig .tc .vmem S1x1024 .f32) (h4 : a4.IsWhole)
  (a5 : Memref sig .tc .vmem S512x1024 .f32) (h5 : a5.IsWhole)
  (a6 : Memref sig .tc .vmem S512x1024 .f32) (h6 : a6.IsWhole)
  (a7 : Memref sig .tc .vmem S512x1024 .bf16) (h7 : a7.IsWhole)
  (a8 : Memref sig .tc .vmem S1x1024 .f32) (h8 : a8.IsWhole)
  (a9 : Memref sig .tc .vmem S1x128 .f32) (h9 : a9.IsWhole)
  (a10 : Memref sig .tc .vmem S512x1024 .bf16) (h10 : a10.IsWhole)
  (a11 : Memref sig .tc .vmem S512x2816 .bf16) (h11 : a11.IsWhole)
  (a12 : Memref sig .tc .vmem S512x2816 .bf16) (h12 : a12.IsWhole)
  (a13 : Memref sig .tc .vmem S512x2816 .bf16) (h13 : a13.IsWhole)
  (a14 : Memref sig .tc .vmem S3x2816x1024 .bf16) (h14 : a14.IsWhole)
  (x0 : Vec Ideal S512x1024 .f32) (x1 x2 : Vec Ideal S1x1024 .f32) (x3 : Vec Ideal S512x1024 .f32)
  (hc : ¬isFirst i) (s : Vec Ideal S1x1024 .f32) (l : Vec Ideal S1x128 .f32) (fw : BufOf (F := Ideal) c wHbm)
  (w : Vec Ideal S3x2816x1024 .bf16)

/-- A later point's stores, with the weights in the scratch. -/
abbrev at' := (rest c i a1 h1 a2 h2 a4 h4 a5 h5 a6 h6 a7 h7 a8 h8 a9 h9 a10 h10 a11 h11 a12 h12 a13 h13 a14 h14 x0 x1 x2 x3 hc fw s l (h14.unread w)).1

theorem norm_canon : View.canon (at' c i a1 h1 a2 h2 a4 h4 a5 h5 a6 h6 a7 h7 a8 h8 a9 h9 a10 h10 a11 h11 a12 h12 a13 h13 a14 h14 x0 x1 x2 x3 hc s l fw w).norm
    = normTile x0 x1 := by
  refine funext fun y => View.canon_apply_of_pieces _ _ ?_ y (View.cover_of_tiled _ ![512, 1024] rfl y)
  unfold at' rest runRest
  dsimp only
  sl_unfold_words
  simp only [List.forall_mem_cons, List.not_mem_nil, false_implies, implies_true, and_true]
  intro x
  idx_vars x
  rw [Slab.emb_eq_idx]
  unfold_payloads
  pointwise [Memref.IsWhole.readAt_unread, normTile, Ffn.normed, Ffn.rstd]

theorem dau_canon : View.canon (at' c i a1 h1 a2 h2 a4 h4 a5 h5 a6 h6 a7 h7 a8 h8 a9 h9 a10 h10 a11 h11 a12 h12 a13 h13 a14 h14 x0 x1 x2 x3 hc s l fw w).dau
    = dauTile x0 x1 w := by
  refine funext fun y => View.canon_apply_of_pieces _ _ ?_ y (View.cover_of_tiled _ ![512, 256] rfl y)
  unfold at' rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [Memref.IsWhole.readAt_unread, dauTile, Ffn.slopeUp, Ffn.sig, Ffn.proj, Ffn.normed, Ffn.rstd, zero_sub]

theorem dag_canon : View.canon (at' c i a1 h1 a2 h2 a4 h4 a5 h5 a6 h6 a7 h7 a8 h8 a9 h9 a10 h10 a11 h11 a12 h12 a13 h13 a14 h14 x0 x1 x2 x3 hc s l fw w).dag
    = dagTile x0 x1 w := by
  refine funext fun y => View.canon_apply_of_pieces _ _ ?_ y (View.cover_of_tiled _ ![512, 256] rfl y)
  unfold at' rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [Memref.IsWhole.readAt_unread, dagTile, Ffn.slopeGate, Ffn.sig, Ffn.proj, Ffn.normed, Ffn.rstd, zero_sub]

theorem act_canon : View.canon (at' c i a1 h1 a2 h2 a4 h4 a5 h5 a6 h6 a7 h7 a8 h8 a9 h9 a10 h10 a11 h11 a12 h12 a13 h13 a14 h14 x0 x1 x2 x3 hc s l fw w).act
    = actTile x0 x1 w := by
  refine funext fun y => View.canon_apply_of_pieces _ _ ?_ y (View.cover_of_tiled _ ![512, 256] rfl y)
  unfold at' rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [Memref.IsWhole.readAt_unread, actTile, Ffn.act, Ffn.slopeUp, Ffn.sig, Ffn.proj, Ffn.normed, Ffn.rstd, zero_sub]

theorem dx_canon : View.canon (at' c i a1 h1 a2 h2 a4 h4 a5 h5 a6 h6 a7 h7 a8 h8 a9 h9 a10 h10 a11 h11 a12 h12 a13 h13 a14 h14 x0 x1 x2 x3 hc s l fw w).dx
    = dxTile x0 x1 x2 x3 w := by
  have hA := act_canon c i a1 h1 a2 h2 a4 h4 a5 h5 a6 h6 a7 h7 a8 h8 a9 h9 a10 h10 a11 h11 a12 h12 a13 h13 a14 h14 x0 x1 x2 x3 hc s l fw w
  revert hA
  unfold at' rest runRest
  dsimp only
  sl_unfold_words
  intro hA
  refine funext fun y => View.canon_apply_of_pieces (dxTile x0 x1 x2 x3 w) _ ?_ y (View.cover_of_tiled _ ![512, 1024] rfl y)
  simp only [List.forall_mem_cons, List.not_mem_nil, false_implies, implies_true, and_true, View.readCov_eq_canon', hA]
  clear hA
  intro z
  idx_vars z
  rw [Slab.emb_eq_idx]
  refine (dx_of (Y := outRow x0 x1 w) (G := rowOf x2 0) (Z := rowOf x3) ?_ ?_ ?_ ..).trans ?_
  · intro r k
    unfold k0_pay91 k0_pay89 k0_pay90
    pointwise [Memref.IsWhole.readAt_unread, actTile, Ffn.out]
  · intro k
    pointwise [Memref.IsWhole.readAt_unread]
  · intro r k
    pointwise [Memref.IsWhole.readAt_unread]
  pointwise [Memref.IsWhole.readAt_unread, dxTile]

theorem dob_canon : View.canon (at' c i a1 h1 a2 h2 a4 h4 a5 h5 a6 h6 a7 h7 a8 h8 a9 h9 a10 h10 a11 h11 a12 h12 a13 h13 a14 h14 x0 x1 x2 x3 hc s l fw w).dob
    = dobTile x0 x1 x2 x3 w := by
  have hA := act_canon c i a1 h1 a2 h2 a4 h4 a5 h5 a6 h6 a7 h7 a8 h8 a9 h9 a10 h10 a11 h11 a12 h12 a13 h13 a14 h14 x0 x1 x2 x3 hc s l fw w
  revert hA
  unfold at' rest runRest
  dsimp only
  sl_unfold_words
  intro hA
  refine funext fun y => View.canon_apply_of_pieces (dobTile x0 x1 x2 x3 w) _ ?_ y (View.cover_of_tiled _ ![512, 1024] rfl y)
  simp only [List.forall_mem_cons, List.not_mem_nil, false_implies, implies_true, and_true, View.readCov_eq_canon', hA]
  clear hA
  intro z
  idx_vars z
  rw [Slab.emb_eq_idx]
  refine (dob_of (Y := outRow x0 x1 w) (G := rowOf x2 0) (Z := rowOf x3) ?_ ?_ ?_ ..).trans ?_
  · intro r k
    unfold k0_pay91 k0_pay89 k0_pay90
    pointwise [Memref.IsWhole.readAt_unread, actTile, Ffn.out]
  · intro k
    pointwise [Memref.IsWhole.readAt_unread]
  · intro r k
    pointwise [Memref.IsWhole.readAt_unread]
  pointwise [Memref.IsWhole.readAt_unread, dobTile]

theorem dgain_canon : View.canon (at' c i a1 h1 a2 h2 a4 h4 a5 h5 a6 h6 a7 h7 a8 h8 a9 h9 a10 h10 a11 h11 a12 h12 a13 h13 a14 h14 x0 x1 x2 x3 hc s l fw w).dgain
    = fun j => s j + dgainTile x0 x1 x2 x3 w j := by
  have hA := act_canon c i a1 h1 a2 h2 a4 h4 a5 h5 a6 h6 a7 h7 a8 h8 a9 h9 a10 h10 a11 h11 a12 h12 a13 h13 a14 h14 x0 x1 x2 x3 hc s l fw w
  revert hA
  unfold at' rest runRest
  dsimp only
  sl_unfold_words
  intro hA
  refine funext fun y => View.canon_apply_of_pieces (fun j => s j + dgainTile x0 x1 x2 x3 w j) _ ?_ y (View.cover_of_tiled _ ![1, 1024] rfl y)
  simp only [List.forall_mem_cons, List.not_mem_nil, false_implies, implies_true, and_true, View.readCov_eq_canon', hA]
  clear hA
  intro z
  idx_vars z
  obtain rfl : z0 = 0 := Subsingleton.elim _ _
  rw [Slab.emb_eq_idx]
  refine (dgain_of (Y := outRow x0 x1 w) (G := rowOf x2 0) (Z := rowOf x3) ?_ ?_ ?_ ..).trans ?_
  · intro r k
    unfold k0_pay91 k0_pay89 k0_pay90
    pointwise [Memref.IsWhole.readAt_unread, actTile, Ffn.out]
  · intro k
    pointwise [Memref.IsWhole.readAt_unread]
  · intro r k
    pointwise [Memref.IsWhole.readAt_unread]
  pointwise [Memref.IsWhole.readAt_unread, dgainTile]

theorem loss_canon : View.canon (at' c i a1 h1 a2 h2 a4 h4 a5 h5 a6 h6 a7 h7 a8 h8 a9 h9 a10 h10 a11 h11 a12 h12 a13 h13 a14 h14 x0 x1 x2 x3 hc s l fw w).loss
    = fun j => l j + lossTile x0 x1 x2 x3 w := by
  have hA := act_canon c i a1 h1 a2 h2 a4 h4 a5 h5 a6 h6 a7 h7 a8 h8 a9 h9 a10 h10 a11 h11 a12 h12 a13 h13 a14 h14 x0 x1 x2 x3 hc s l fw w
  revert hA
  unfold at' rest runRest
  dsimp only
  sl_unfold_words
  intro hA
  refine funext fun y => View.canon_apply_of_pieces (fun j => l j + lossTile x0 x1 x2 x3 w) _ ?_ y (View.cover_of_tiled _ ![1, 128] rfl y)
  simp only [List.forall_mem_cons, List.not_mem_nil, false_implies, implies_true, and_true, View.readCov_eq_canon', hA]
  clear hA
  intro z
  idx_vars z
  obtain rfl : z0 = 0 := Subsingleton.elim _ _
  rw [Slab.emb_eq_idx]
  refine (loss_of (Y := outRow x0 x1 w) (G := rowOf x2 0) (Z := rowOf x3) ?_ ?_ ?_ ..).trans ?_
  · intro r k
    unfold k0_pay91 k0_pay89 k0_pay90
    pointwise [Memref.IsWhole.readAt_unread, actTile, Ffn.out]
  · intro k
    pointwise [Memref.IsWhole.readAt_unread]
  · intro r k
    pointwise [Memref.IsWhole.readAt_unread]
  pointwise [Memref.IsWhole.readAt_unread, lossTile]

end

end Cert.Proof.Head

end
-- ==== Proof.Head.Result.lean ====
module

public import proofs.«01_k».proof.Proof.Head.Frame
public import proofs.«01_k».proof.Proof.Head.Tile
public import proofs.«01_k».proof.Proof.Shared.Stack
public import Idealize.ShloMosaic.Lib.Pipeline.ValueKit
public import Idealize.ShloMosaic.Lib.Claim

@[expose] public section

set_option maxRecDepth 16384

noncomputable section

/-! The arrays that the last block with its head leaves, by the arguments' rows. -/

namespace Cert.Proof.Head

open Idealize.ShloMosaic Idealize.ShloMosaic.TcCoe Idealize.ShloMosaic.Tactic
open Idealize.ShloMosaic.Pipeline (Dat Cfg Window BodyObligation cellOf)
open Cert.Kernel2Ideal Cert.Kernel2Ideal.Gen

variable (m : (ℓ : Loc nD τ sig) → Buf (Elt Ideal) ℓ) (c : Dev nD)

/-! The arguments, by their rows and columns. -/

abbrev argX (r : Fin 8192) (k : Fin 1024) : EReal := m ((c.tc : Thread nD τ).loc main_arg0) (ix2 r k)
abbrev argG (k : Fin 1024) : EReal := m ((c.tc : Thread nD τ).loc main_arg1) (ix1 k)
abbrev argWg (k : Fin 1024) (f : Fin 2816) : EReal := m ((c.tc : Thread nD τ).loc main_arg2) (ix2 k f)
abbrev argWu (k : Fin 1024) (f : Fin 2816) : EReal := m ((c.tc : Thread nD τ).loc main_arg3) (ix2 k f)
abbrev argWd (f : Fin 2816) (k : Fin 1024) : EReal := m ((c.tc : Thread nD τ).loc main_arg4) (ix2 f k)
abbrev argGf (k : Fin 1024) : EReal := m ((c.tc : Thread nD τ).loc main_arg5) (ix1 k)
abbrev argT (r : Fin 8192) (k : Fin 1024) : EReal := m ((c.tc : Thread nD τ).loc main_arg6) (ix2 r k)

/-- A row of the block's output. -/
abbrev outAt (r : Fin 8192) : Fin 1024 → EReal := Ffn.out (argX m c r) (argG m c) (argWg m c) (argWu m c) (argWd m c)

theorem host_gain (k : Fin 1024) : V m c main_v7 (ix2 0 k) = argG m c k := by
  entry_read
  pointwise

theorem host_last (k : Fin 1024) : V m c main_v8 (ix2 0 k) = argGf m c k := by
  entry_read
  pointwise

/-- The rows of point `t`. -/
def row (t : Fin cfg0.N) (r : Fin 512) : Fin 8192 :=
  ⟨t.val * 512 + r.val, by have : t.val < 16 := lt_of_lt_of_eq t.isLt N_0; have := r.isLt; omega⟩

theorem index (t : Fin cfg0.N) : win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_8.index t = ![t.val, 0]
    ∧ win0_9.index t = ![t.val, 0] ∧ win0_10.index t = ![t.val, 0] ∧ win0_11.index t = ![t.val, 0]) t

/-! The blocks that a point reads. -/

theorem x_at (t : Fin cfg0.N) (r : Fin 512) (k : Fin 1024) : iblk m c 0 t (ix2 r k) = argX m c (row t r) k := by
  refine Eq.trans ?_ (congrFun (V_main_arg0 m c) (ix2 (row t r) k))
  blk_ext [iblk, index t, row]

theorem g_at (t : Fin cfg0.N) (k : Fin 1024) : iblk m c 1 t (ix2 0 k) = argG m c k := by
  refine Eq.trans ?_ (host_gain m c k)
  blk_ext [iblk, index t]

theorem gf_at (t : Fin cfg0.N) (k : Fin 1024) : iblk m c 2 t (ix2 0 k) = argGf m c k := by
  refine Eq.trans ?_ (host_last m c k)
  blk_ext [iblk, index t]

theorem t_at (t : Fin cfg0.N) (r : Fin 512) (k : Fin 1024) : iblk m c 3 t (ix2 r k) = argT m c (row t r) k := by
  refine Eq.trans ?_ (congrFun (V_main_arg6 m c) (ix2 (row t r) k))
  blk_ext [iblk, index t, row]

theorem block_x (t : Fin cfg0.N) (r : Fin 512) : rowOf (iblk m c 0 t) r = argX m c (row t r) := funext (x_at m c t r)
theorem block_g (t : Fin cfg0.N) : rowOf (iblk m c 1 t) 0 = argG m c := funext (g_at m c t)
theorem block_gf (t : Fin cfg0.N) : rowOf (iblk m c 2 t) 0 = argGf m c := funext (gf_at m c t)
theorem block_t (t : Fin cfg0.N) (r : Fin 512) : rowOf (iblk m c 3 t) r = argT m c (row t r) := funext (t_at m c t r)

/-- The stacked weights of the region are the three arguments, the first two turned. -/
theorem wts_stack (f : Fin 2816) (k : Fin 1024) :
    wts m c (ix3 0 f k) = argWg m c k f ∧ wts m c (ix3 1 f k) = argWu m c k f ∧ wts m c (ix3 2 f k) = argWd m c f k := by
  have h : wts m c = truncf (F := Ideal) .bf16 (concatenate S3x2816x1024 0
      [⟨S1x2816x1024, broadcastInDim S1x2816x1024 ![1, 2] bcast_S2816x1024_S1x2816x1024_1_2
          (transpose S2816x1024 [1, 0] (m ((c.tc : Thread nD τ).loc main_arg2)) transposes_S1024x2816_S2816x1024_1_0)⟩,
        ⟨S1x2816x1024, broadcastInDim S1x2816x1024 ![1, 2] bcast_S2816x1024_S1x2816x1024_1_2
          (transpose S2816x1024 [1, 0] (m ((c.tc : Thread nD τ).loc main_arg3)) transposes_S1024x2816_S2816x1024_1_0)⟩,
        ⟨S1x2816x1024, broadcastInDim S1x2816x1024 ![1, 2] bcast_S2816x1024_S1x2816x1024_1_2 (m ((c.tc : Thread nD τ).loc main_arg4))⟩]
      concatenates_S1x2816x1024_S1x2816x1024_S1x2816x1024_S3x2816x1024_d0) bitsLt_bf16_f32 := by
    rw [show wts m c = V m c main_v6 from rfl]
    unfold V
    simp only [hostOps0]
    after_results_simp
    dsimp only [Matrix.cons_val]
    refine congrArg (truncf .bf16 · bitsLt_bf16_f32) (stack_congr _ _ ?_ ?_ ?_) <;> after_results_simp <;> rfl
  rw [h]
  refine ⟨?_, ?_, ?_⟩ <;> pointwise

theorem wts_gate : gateOf (wts m c) = argWg m c := funext fun k => funext fun f => (wts_stack m c f k).1
theorem wts_up : upOf (wts m c) = argWu m c := funext fun k => funext fun f => (wts_stack m c f k).2.1
theorem wts_down : downOf (wts m c) = argWd m c := funext fun f => funext fun k => (wts_stack m c f k).2.2

theorem tile_out (t : Fin cfg0.N) (r : Fin 512) : outRow (iblk m c 0 t) (iblk m c 1 t) (wts m c) r = outAt m c (row t r) := by
  rw [outRow, block_x, block_g, wts_gate, wts_up, wts_down]

/-! The arrays that the region leaves. -/

theorem array_dx : (dats m 0 c).arrAt 4 cfg0.N
    = fun i => Ffn.headDx (outAt m c (i 0)) (argGf m c) (argT m c (i 0)) (i 1) := by
  refine (dats m 0 c).arrAt_eq_of_covers 4 _ (by decide +kernel) fun t hf y => ?_
  blk_simp
  rw [after_4, show View.canon (storesAt m c t).dx = dxTile (iblk m c 0 t) (iblk m c 1 t) (iblk m c 2 t) (iblk m c 3 t) (wts m c) from dx_canon ..]
  idx_vars y
  rw [show ((View.whole main_v9_0).slice (win0_4.rect t)).emb (ix2 y0 y1) = ix2 (row t y0) y1 from by blk_ext [index t, row]]
  dsimp only [ix2_0, ix2_1, dxTile]
  rw [tile_out, block_gf, block_t]

theorem array_dob : (dats m 0 c).arrAt 5 cfg0.N
    = fun i => Ffn.half * Ffn.headDx (outAt m c (i 0)) (argGf m c) (argT m c (i 0)) (i 1) := by
  refine (dats m 0 c).arrAt_eq_of_covers 5 _ (by decide +kernel) fun t hf y => ?_
  blk_simp
  rw [after_5, show View.canon (storesAt m c t).dob = dobTile (iblk m c 0 t) (iblk m c 1 t) (iblk m c 2 t) (iblk m c 3 t) (wts m c) from dob_canon ..]
  idx_vars y
  rw [show ((View.whole main_v9_1).slice (win0_5.rect t)).emb (ix2 y0 y1) = ix2 (row t y0) y1 from by blk_ext [index t, row]]
  dsimp only [ix2_0, ix2_1, dobTile]
  rw [tile_out, block_gf, block_t]

theorem array_norm : (dats m 0 c).arrAt 8 cfg0.N
    = fun i => Ffn.normed (argX m c (i 0)) (argG m c) (i 1) := by
  refine (dats m 0 c).arrAt_eq_of_covers 8 _ (by decide +kernel) fun t hf y => ?_
  blk_simp
  rw [after_8, show View.canon (storesAt m c t).norm = normTile (iblk m c 0 t) (iblk m c 1 t) from norm_canon ..]
  idx_vars y
  rw [show ((View.whole main_v9_4).slice (win0_8.rect t)).emb (ix2 y0 y1) = ix2 (row t y0) y1 from by blk_ext [index t, row]]
  dsimp only [ix2_0, ix2_1, normTile]
  rw [block_x, block_g]

theorem array_dau : (dats m 0 c).arrAt 9 cfg0.N
    = fun i => Ffn.slopeUp (Ffn.proj (argX m c (i 0)) (argG m c) (argWg m c) (i 1)) := by
  refine (dats m 0 c).arrAt_eq_of_covers 9 _ (by decide +kernel) fun t hf y => ?_
  blk_simp
  rw [after_9, show View.canon (storesAt m c t).dau = dauTile (iblk m c 0 t) (iblk m c 1 t) (wts m c) from dau_canon ..]
  idx_vars y
  rw [show ((View.whole main_v9_5).slice (win0_9.rect t)).emb (ix2 y0 y1) = ix2 (row t y0) y1 from by blk_ext [index t, row]]
  dsimp only [ix2_0, ix2_1, dauTile]
  rw [block_x, block_g, wts_gate]

theorem array_dag : (dats m 0 c).arrAt 10 cfg0.N
    = fun i => Ffn.slopeGate (Ffn.proj (argX m c (i 0)) (argG m c) (argWg m c) (i 1)) (Ffn.proj (argX m c (i 0)) (argG m c) (argWu m c) (i 1)) := by
  refine (dats m 0 c).arrAt_eq_of_covers 10 _ (by decide +kernel) fun t hf y => ?_
  blk_simp
  rw [after_10, show View.canon (storesAt m c t).dag = dagTile (iblk m c 0 t) (iblk m c 1 t) (wts m c) from dag_canon ..]
  idx_vars y
  rw [show ((View.whole main_v9_6).slice (win0_10.rect t)).emb (ix2 y0 y1) = ix2 (row t y0) y1 from by blk_ext [index t, row]]
  dsimp only [ix2_0, ix2_1, dagTile]
  rw [block_x, block_g, wts_gate, wts_up]

theorem array_act : (dats m 0 c).arrAt 11 cfg0.N
    = fun i => Ffn.act (argX m c (i 0)) (argG m c) (argWg m c) (argWu m c) (i 1) := by
  refine (dats m 0 c).arrAt_eq_of_covers 11 _ (by decide +kernel) fun t hf y => ?_
  blk_simp
  rw [after_11, show View.canon (storesAt m c t).act = actTile (iblk m c 0 t) (iblk m c 1 t) (wts m c) from act_canon ..]
  idx_vars y
  rw [show ((View.whole main_v9_7).slice (win0_11.rect t)).emb (ix2 y0 y1) = ix2 (row t y0) y1 from by blk_ext [index t, row]]
  dsimp only [ix2_0, ix2_1, actTile]
  rw [block_x, block_g, wts_gate, wts_up]

/-- The addends of point `t` to the two sums. -/
abbrev dgainAt (t : Fin cfg0.N) : Vec Ideal S1x1024 .f32 := dgainTile (iblk m c 0 t) (iblk m c 1 t) (iblk m c 2 t) (iblk m c 3 t) (wts m c)
abbrev lossAt (t : Fin cfg0.N) : EReal := lossTile (iblk m c 0 t) (iblk m c 1 t) (iblk m c 2 t) (iblk m c 3 t) (wts m c)

theorem stores_dgain (t : Fin cfg0.N) (s : Vec Ideal S1x1024 .f32) (l : Vec Ideal S1x128 .f32) :
    View.canon (stores m c t s l).dgain = fun j => s j + dgainAt m c t j := dgain_canon ..

theorem stores_loss (t : Fin cfg0.N) (s : Vec Ideal S1x1024 .f32) (l : Vec Ideal S1x128 .f32) :
    View.canon (stores m c t s l).loss = fun j => l j + lossAt m c t := loss_canon ..

theorem sums_start (h : 0 < cfg0.N) : sums m c 0 h = (View.canon (stores m c ⟨0, h⟩ (k0_pay92 (F := Ideal)) (k0_pay93 (F := Ideal))).dgain,
    View.canon (stores m c ⟨0, h⟩ (k0_pay92 (F := Ideal)) (k0_pay93 (F := Ideal))).loss) := sums_eq m c ⟨0, h⟩

theorem sums_step (n : ℕ) (h : n + 1 < cfg0.N) : sums m c (n + 1) h
    = (View.canon (stores m c ⟨n + 1, h⟩ (sums m c n (Nat.lt_of_succ_lt h)).1 (sums m c n (Nat.lt_of_succ_lt h)).2).dgain,
      View.canon (stores m c ⟨n + 1, h⟩ (sums m c n (Nat.lt_of_succ_lt h)).1 (sums m c n (Nat.lt_of_succ_lt h)).2).loss) :=
  sums_eq m c ⟨n + 1, h⟩

theorem dgain_zero (k : Fin 1024) : k0_pay92 (F := Ideal) (ix2 0 k) = 0 := by
  unfold k0_pay92
  pointwise

theorem sums_dgain (n : ℕ) (hn : n < cfg0.N) (k : Fin 1024) :
    (sums m c n hn).1 (ix2 0 k) = ∑ s : Fin (n + 1), dgainAt m c ⟨s.val, by omega⟩ (ix2 0 k) := by
  induction n with
  | zero =>
    rw [sums_start]
    dsimp only
    rw [stores_dgain]
    dsimp only
    rw [dgain_zero, zero_add]
    exact (Fin.sum_univ_one fun s : Fin 1 => dgainAt m c ⟨s.val, by omega⟩ (ix2 0 k)).symm
  | succ n ih =>
    rw [sums_step]
    dsimp only
    rw [stores_dgain, Fin.sum_univ_castSucc]
    exact congrArg (· + _) (ih (by omega))

theorem loss_zero (k : Fin 128) : k0_pay93 (F := Ideal) (ix2 0 k) = 0 := by
  unfold k0_pay93
  pointwise

theorem sums_loss (n : ℕ) (hn : n < cfg0.N) (k : Fin 128) :
    (sums m c n hn).2 (ix2 0 k) = ∑ s : Fin (n + 1), lossAt m c ⟨s.val, by omega⟩ := by
  induction n with
  | zero =>
    rw [sums_start]
    dsimp only
    rw [stores_loss]
    dsimp only
    rw [loss_zero, zero_add]
    exact (Fin.sum_univ_one fun s : Fin 1 => lossAt m c ⟨s.val, by omega⟩).symm
  | succ n ih =>
    rw [sums_step]
    dsimp only
    rw [stores_loss, Fin.sum_univ_castSucc]
    exact congrArg (· + _) (ih (by omega))

theorem tile_dgain (t : Fin cfg0.N) (k : Fin 1024) :
    dgainAt m c t (ix2 0 k) = ∑ r : Fin 512, Ffn.headDgain (outAt m c (row t r)) (argGf m c) (argT m c (row t r)) k := by
  unfold dgainAt dgainTile
  simp only [tile_out, block_gf, block_t]
  dsimp only [ix2_1]

theorem tile_loss (t : Fin cfg0.N) :
    lossAt m c t = Ffn.halfInvWidth * ∑ r : Fin 512, Ffn.sq (outAt m c (row t r)) (argGf m c) (argT m c (row t r)) := by
  unfold lossAt lossTile
  simp only [tile_out, block_gf, block_t]

theorem array_dgain : (dats m 0 c).arrAt 6 cfg0.N
    = fun i => ∑ r : Fin 8192, Ffn.headDgain (outAt m c r) (argGf m c) (argT m c r) (i 1) := by
  refine (dats m 0 c).arrAt_eq_of_after_last 6 ⟨15, by decide⟩ (by decide +kernel) _ fun j => ?_
  blk_simp
  refine (congrFun ((after_6 m c ⟨15, by decide⟩).trans (congrArg Prod.fst (sums_eq m c ⟨15, by decide⟩)).symm) _).trans ?_
  idx_vars j
  obtain rfl : j0 = 0 := Subsingleton.elim _ _
  refine (sums_dgain m c 15 _ j1).trans ?_
  refine (Finset.sum_congr rfl fun s _ => tile_dgain m c _ j1).trans ?_
  exact Fin.sum_mul_add_congr fun s r h => rfl

/-- The loss, tile by tile. -/
theorem array_loss : (dats m 0 c).arrAt 7 cfg0.N
    = fun _ => ∑ s : Fin 16, Ffn.halfInvWidth
        * ∑ r : Fin 512, Ffn.sq (outAt m c (row ⟨s.val, s.isLt⟩ r)) (argGf m c) (argT m c (row ⟨s.val, s.isLt⟩ r)) := by
  refine (dats m 0 c).arrAt_eq_of_after_last 7 ⟨15, by decide⟩ (by decide +kernel) _ fun j => ?_
  blk_simp
  refine (congrFun ((after_7 m c ⟨15, by decide⟩).trans (congrArg Prod.snd (sums_eq m c ⟨15, by decide⟩)).symm) _).trans ?_
  idx_vars j
  obtain rfl : j0 = 0 := Subsingleton.elim _ _
  refine (sums_loss m c 15 _ j1).trans ?_
  exact Finset.sum_congr rfl fun s _ => tile_loss m c _

end Cert.Proof.Head

end
-- ==== Proof.Head.Reference.lean ====
module

public import proofs.«01_k».proof.Proof.Gen.Reference2Ideal.Run
public import proofs.«01_k».proof.Proof.Gen.Reference2Ideal.Read
public import proofs.«01_k».proof.Proof.Shared.FfnHead
public import Idealize.ShloMosaic.Lib.Pipeline.ValueKit
public import Idealize.ShloMosaic.Lib.Claim

@[expose] public section

noncomputable section

/-! The reference's last block with its loss and the loss's derivative, read row by row. -/

namespace Cert.Proof.Head

open Idealize.ShloMosaic
open Cert.Reference2Ideal Cert.Reference2Ideal.Read

variable (x : (⟨S8192x1024, .f32⟩ : BufTy).Contents (Elt Ideal)) (g : (⟨S1024, .f32⟩ : BufTy).Contents (Elt Ideal))
  (wg wu : (⟨S1024x2816, .f32⟩ : BufTy).Contents (Elt Ideal)) (wd : (⟨S2816x1024, .f32⟩ : BufTy).Contents (Elt Ideal))
  (gf : (⟨S1024, .f32⟩ : BufTy).Contents (Elt Ideal)) (t : (⟨S8192x1024, .f32⟩ : BufTy).Contents (Elt Ideal))

/-! The arrays by their coordinates. -/

abbrev wide (a : (⟨S8192x1024, .f32⟩ : BufTy).Contents (Elt Ideal)) (r : Fin 8192) (k : Fin 1024) : EReal := a (ix2 r k)
abbrev gain (a : (⟨S1024, .f32⟩ : BufTy).Contents (Elt Ideal)) (k : Fin 1024) : EReal := a (ix1 k)
abbrev inward (a : (⟨S1024x2816, .f32⟩ : BufTy).Contents (Elt Ideal)) (k : Fin 1024) (f : Fin 2816) : EReal := a (ix2 k f)
abbrev outward (a : (⟨S2816x1024, .f32⟩ : BufTy).Contents (Elt Ideal)) (f : Fin 2816) (k : Fin 1024) : EReal := a (ix2 f k)

/-- A row of the block's output. -/
abbrev outOf (r : Fin 8192) : Fin 1024 → EReal := Ffn.out (wide x r) (gain g) (inward wg) (inward wu) (outward wd)

theorem ref_unit (r : Fin 8192) (k : Fin 1024) : val_main_v9 (F := Ideal) x (ix2 r k) = x (ix2 r k) * Ffn.rstd (wide x r) := by
  pointwise [val_main_v9, val_main_v8, val_main_v7, val_main_v6, val_main_v5, val_main_v4, val_main_v3, val_main_v2, val_main_v1,
    val_main_v0, val_main_cst, val_main_cst_0, val_main_cst_1]
  rfl

theorem ref_normed (r : Fin 8192) (k : Fin 1024) : val_main_v12 (F := Ideal) x g (ix2 r k) = Ffn.normed (wide x r) (gain g) k := by
  pointwise [val_main_v12, val_main_v11, val_main_v10, ref_unit]
  rfl

theorem ref_gate (r : Fin 8192) (f : Fin 2816) :
    val_main_v13 (F := Ideal) x g wg (ix2 r f) = Ffn.proj (wide x r) (gain g) (inward wg) f := by
  pointwise [val_main_v13, ref_normed]
  rfl

theorem ref_up (r : Fin 8192) (f : Fin 2816) :
    val_main_v14 (F := Ideal) x g wu (ix2 r f) = Ffn.proj (wide x r) (gain g) (inward wu) f := by
  pointwise [val_main_v14, ref_normed]
  rfl

theorem ref_sig (r : Fin 8192) (f : Fin 2816) :
    val_main_v15_2 (F := Ideal) x g wg (ix2 r f) = Ffn.sig (Ffn.proj (wide x r) (gain g) (inward wg) f) := by
  pointwise [val_main_v15_2, val_main_call0_v4, val_main_call0_cst_0, val_main_call0_v3, val_main_call0_v2, val_main_call0_cst,
    val_main_call0_v1, val_main_call0_v0, ref_gate]
  rfl

theorem ref_silu (r : Fin 8192) (f : Fin 2816) :
    val_main_v15_0 (F := Ideal) x g wg (ix2 r f) = Ffn.slopeUp (Ffn.proj (wide x r) (gain g) (inward wg) f) := by
  pointwise [val_main_v15_0, ref_gate, ref_sig]
  rfl

theorem ref_act (r : Fin 8192) (f : Fin 2816) :
    val_main_v16 (F := Ideal) x g wg wu (ix2 r f) = Ffn.act (wide x r) (gain g) (inward wg) (inward wu) f := by
  pointwise [val_main_v16, ref_silu, ref_up]
  rfl

theorem ref_out (r : Fin 8192) (k : Fin 1024) : val_main_v24 (F := Ideal) x g wg wu wd (ix2 r k) = outOf x g wg wu wd r k := by
  pointwise [val_main_v24, val_main_v23, val_main_v22, val_main_v21, val_main_cst_3, ref_act]
  rfl

theorem ref_mean (r : Fin 8192) : val_main_v31 (F := Ideal) x g wg wu wd (ix2 r 0)
    = Ideal.div (∑ k, outOf x g wg wu wd r k * outOf x g wg wu wd r k) Ffn.width + Ideal.ofBits .f32 0x358637BD#32 := by
  pointwise [val_main_v31, val_main_v30, val_main_v29, val_main_v28, val_main_v27, val_main_v26, val_main_v25, val_main_cst_4,
    val_main_cst_5, val_main_cst_6, ref_out]

theorem ref_last_rstd (r : Fin 8192) : val_main_v32 (F := Ideal) x g wg wu wd (ix2 r 0) = Ffn.rstd (outOf x g wg wu wd r) := by
  pointwise [val_main_v32, ref_mean]
  rfl

theorem ref_last_unit (r : Fin 8192) (k : Fin 1024) : val_main_v37 (F := Ideal) x g wg wu wd (ix2 r k)
    = outOf x g wg wu wd r k * Ffn.rstd (outOf x g wg wu wd r) := by
  pointwise [val_main_v37, val_main_v36, ref_out, ref_last_rstd]

theorem ref_err (r : Fin 8192) (k : Fin 1024) : val_main_v41 (F := Ideal) x g wg wu wd gf t (ix2 r k)
    = Ffn.err (outOf x g wg wu wd r) (gain gf) (wide t r) k := by
  pointwise [val_main_v41, val_main_v40, val_main_v39, val_main_v38, ref_last_unit]
  rfl

theorem ref_norm (r : Fin 8192) (k : Fin 1024) : val_main_v81 (F := Ideal) x g (ix2 r k) = Ffn.normed (wide x r) (gain g) k := by
  pointwise [val_main_v81, ref_normed]

theorem ref_dau (r : Fin 8192) (f : Fin 2816) :
    val_main_v82 (F := Ideal) x g wg (ix2 r f) = Ffn.slopeUp (Ffn.proj (wide x r) (gain g) (inward wg) f) := by
  pointwise [val_main_v82, val_main_v18, val_main_v17, val_main_cst_2, ref_silu]

theorem ref_actb (r : Fin 8192) (f : Fin 2816) :
    val_main_v84 (F := Ideal) x g wg wu (ix2 r f) = Ffn.act (wide x r) (gain g) (inward wg) (inward wu) f := by
  pointwise [val_main_v84, ref_act]

section
variable {x g wg wu wd gf t}
variable (hx : ∀ i, IsReal (x i)) (hg : ∀ i, IsReal (g i)) (hwg : ∀ i, IsReal (wg i)) (hwu : ∀ i, IsReal (wu i))
include hx hg hwg hwu

theorem ref_dag (r : Fin 8192) (f : Fin 2816) : val_main_v83 (F := Ideal) x g wg wu (ix2 r f)
    = Ffn.slopeGate (Ffn.proj (wide x r) (gain g) (inward wg) f) (Ffn.proj (wide x r) (gain g) (inward wu) f) := by
  refine Eq.trans ?_ (Ffn.slopeGate_eq (Ffn.isReal_proj (fun _ => hx _) (fun _ => hg _) (fun _ _ => hwg _) f)
    (Ffn.isReal_proj (fun _ => hx _) (fun _ => hg _) (fun _ _ => hwu _) f))
  pointwise [val_main_v83, val_main_v20, val_main_call1_v2, val_main_call1_v1, val_main_call1_v0, val_main_v19, val_main_v17,
    val_main_cst_2, val_main_v15_1, val_main_call0_v7, val_main_call0_v6, val_main_call0_cst_1, ref_gate, ref_up, ref_sig]

variable (hwd : ∀ i, IsReal (wd i)) (hgf : ∀ i, IsReal (gf i)) (ht : ∀ i, IsReal (t i))
include hwd

theorem real_out (r : Fin 8192) (k : Fin 1024) : IsReal (outOf x g wg wu wd r k) :=
  Ffn.isReal_out (fun _ => hx _) (fun _ => hg _) (fun _ _ => hwg _) (fun _ _ => hwu _) (fun _ _ => hwd _) k

include hgf ht

theorem ref_derr (r : Fin 8192) (k : Fin 1024) : val_main_v55 (F := Ideal) x g wg wu wd gf t (ix2 r k)
    = Ffn.derr (outOf x g wg wu wd r) (gain gf) (wide t r) k := by
  refine Eq.trans ?_ (Ffn.derr_eq (real_out hx hg hwg hwu hwd r) (fun _ => hgf _) (fun _ => ht _) k)
  pointwise [val_main_v55, val_main_v54, val_main_v53, val_main_v52, val_main_v51, val_main_v50, val_main_v44, val_main_v43,
    val_main_cst_8, val_main_cst_13, val_main_cst_14, val_main_cst_15, ref_err]

theorem ref_dgain (a : Fin 1) (k : Fin 1024) : val_main_v79 (F := Ideal) x g wg wu wd gf t (ix2 a k)
    = ∑ r : Fin 8192, Ffn.headDgain (outOf x g wg wu wd r) (gain gf) (wide t r) k := by
  obtain rfl : a = 0 := Subsingleton.elim _ _
  pointwise [val_main_v79, val_main_v61, val_main_v58, val_main_v57, val_main_v56, val_main_cst_16, val_main_cst_17, ref_last_unit,
    ref_derr hx hg hwg hwu hwd hgf ht]
  simp only [Fin.sum_univ_one]
  exact Finset.sum_congr rfl fun r _ => mul_comm _ _

theorem ref_loss (a : Fin 1) (k : Fin 128) : val_main_v80 (F := Ideal) x g wg wu wd gf t (ix2 a k)
    = ∑ r : Fin 8192, Ffn.halfInvWidth * Ffn.sq (outOf x g wg wu wd r) (gain gf) (wide t r) := by
  refine Eq.trans ?_ (Ffn.loss_eq _ fun r => Ffn.isReal_sq (real_out hx hg hwg hwu hwd r) (fun _ => hgf _) (fun _ => ht _))
  pointwise [val_main_v80, val_main_v49, val_main_v48, val_main_v47, val_main_v46, val_main_v45, val_main_v42, val_main_cst_9,
    val_main_cst_10, val_main_cst_11, val_main_cst_12, ref_err]
  rfl

theorem ref_dx (r : Fin 8192) (k : Fin 1024) : val_main_v75 (F := Ideal) x g wg wu wd gf t (ix2 r k)
    = Ffn.headDx (outOf x g wg wu wd r) (gain gf) (wide t r) k := by
  refine Eq.trans ?_ (Ffn.headDx_eq (real_out hx hg hwg hwu hwd r) (fun _ => hgf _) (fun _ => ht _) k rfl)
  pointwise [val_main_v75, val_main_v74, val_main_v73, val_main_v72, val_main_v71, val_main_v70, val_main_v69, val_main_v68, val_main_v67,
    val_main_v66, val_main_v65, val_main_v64, val_main_v63, val_main_v62, val_main_v60, val_main_v59, val_main_v38, val_main_v35, val_main_v34, val_main_v33,
    val_main_cst_7, val_main_cst_18, val_main_cst_19, val_main_cst_20, ref_out, ref_mean, ref_last_rstd,
    ref_derr hx hg hwg hwu hwd hgf ht]
  simp only [Fin.sum_univ_one, ref_mean, ref_last_rstd]

theorem ref_dob (r : Fin 8192) (k : Fin 1024) : val_main_v78 (F := Ideal) x g wg wu wd gf t (ix2 r k)
    = Ffn.half * Ffn.headDx (outOf x g wg wu wd r) (gain gf) (wide t r) k := by
  pointwise [val_main_v78, val_main_v77, val_main_v76, val_main_cst_21, ref_dx hx hg hwg hwu hwd hgf ht]

end

end Cert.Proof.Head

end
-- ==== Proof.Head.Claim.lean ====
module

public import proofs.«01_k».proof.Defs
public import proofs.«01_k».proof.Proof.Gen.Pre_finite2
public import proofs.«01_k».proof.Proof.Head.Result
public import proofs.«01_k».proof.Proof.Head.Reference

@[expose] public section

noncomputable section

/-! The last feed-forward block with its loss: the kernel runs and leaves its arguments, and on real arguments its results are the
reference's. -/

namespace Cert.Proof.Head

open Idealize.ShloMosaic Idealize.SL.Sem

theorem frame : Cert.quiescent_Kernel2Ideal := fun m g _ =>
  (θ_run _ _ _).mono (fun r h => ⟨fun c => args_kept m r h.1 c, h.2⟩) (run m g)

theorem reference_frame : Cert.quiescent_Reference2Ideal := fun m g _ =>
  (θ_run _ _ _).mono (fun r h => ⟨fun c => (h c).2.2.2.2.2.2.2.2, sem_eq_zero_of_no_sems rfl r.2⟩) (Cert.Reference2Ideal.Value.run m g)

/-- The precondition, argument by argument. -/
theorem finite_args (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    (∀ i, IsReal (m ((c.tc : Thread Cert.Kernel2Ideal.nD Cert.Kernel2Ideal.τ).loc Cert.Kernel2Ideal.main_arg0) i))
    ∧ (∀ i, IsReal (m ((c.tc : Thread Cert.Kernel2Ideal.nD Cert.Kernel2Ideal.τ).loc Cert.Kernel2Ideal.main_arg1) i))
    ∧ (∀ i, IsReal (m ((c.tc : Thread Cert.Kernel2Ideal.nD Cert.Kernel2Ideal.τ).loc Cert.Kernel2Ideal.main_arg2) i))
    ∧ (∀ i, IsReal (m ((c.tc : Thread Cert.Kernel2Ideal.nD Cert.Kernel2Ideal.τ).loc Cert.Kernel2Ideal.main_arg3) i))
    ∧ (∀ i, IsReal (m ((c.tc : Thread Cert.Kernel2Ideal.nD Cert.Kernel2Ideal.τ).loc Cert.Kernel2Ideal.main_arg4) i))
    ∧ (∀ i, IsReal (m ((c.tc : Thread Cert.Kernel2Ideal.nD Cert.Kernel2Ideal.τ).loc Cert.Kernel2Ideal.main_arg5) i))
    ∧ (∀ i, IsReal (m ((c.tc : Thread Cert.Kernel2Ideal.nD Cert.Kernel2Ideal.τ).loc Cert.Kernel2Ideal.main_arg6) i)) := by
  obtain ⟨h0, h1, h2, h3, h4, h5, h6⟩ := h c
  exact ⟨real_of_finite _ _ h0, real_of_finite _ _ h1, real_of_finite _ _ h2, real_of_finite _ _ h3, real_of_finite _ _ h4,
    real_of_finite _ _ h5, real_of_finite _ _ h6⟩

section
open Cert.Reference2Ideal Cert.Reference2Ideal.Gen

variable (m : (ℓ : Loc Cert.Kernel2Ideal.nD Cert.Kernel2Ideal.τ Cert.Kernel2Ideal.sig) → Buf (Elt Ideal) ℓ)
  (hpre : Cert.Pre_Kernel2Ideal_finite2 m) (m' : (ℓ : Loc nD τ sig) → Buf (Elt Ideal) ℓ) (c : Dev nD)
  (h0 : m' ((c.tc : Thread nD τ).loc main_arg0) = m ((c.tc : Thread nD τ).loc Cert.Kernel2Ideal.main_arg0))
  (h1 : m' ((c.tc : Thread nD τ).loc main_arg1) = m ((c.tc : Thread nD τ).loc Cert.Kernel2Ideal.main_arg1))
  (h2 : m' ((c.tc : Thread nD τ).loc main_arg2) = m ((c.tc : Thread nD τ).loc Cert.Kernel2Ideal.main_arg2))
  (h3 : m' ((c.tc : Thread nD τ).loc main_arg3) = m ((c.tc : Thread nD τ).loc Cert.Kernel2Ideal.main_arg3))
  (h4 : m' ((c.tc : Thread nD τ).loc main_arg4) = m ((c.tc : Thread nD τ).loc Cert.Kernel2Ideal.main_arg4))
  (h5 : m' ((c.tc : Thread nD τ).loc main_arg5) = m ((c.tc : Thread nD τ).loc Cert.Kernel2Ideal.main_arg5))
  (h6 : m' ((c.tc : Thread nD τ).loc main_arg6) = m ((c.tc : Thread nD τ).loc Cert.Kernel2Ideal.main_arg6))
include hpre h0 h1 h2 h3 h4 h5 h6

theorem result_dx : Value.res_main_v75 m' c = (dats m 0 c).arrAt 4 Cert.Kernel2Ideal.cfg0.N := by
  obtain ⟨f0, f1, f2, f3, f4, f5, f6⟩ := finite_args m hpre c
  rw [Read.val_main_v75_eq, h0, h1, h2, h3, h4, h5, h6, array_dx]
  funext i
  rw [eq_ix2 i]
  exact ref_dx f0 f1 f2 f3 f4 f5 f6 (i 0) (i 1)

theorem result_dob : Value.res_main_v78 m' c = (dats m 0 c).arrAt 5 Cert.Kernel2Ideal.cfg0.N := by
  obtain ⟨f0, f1, f2, f3, f4, f5, f6⟩ := finite_args m hpre c
  rw [Read.val_main_v78_eq, h0, h1, h2, h3, h4, h5, h6, array_dob]
  funext i
  rw [eq_ix2 i]
  exact ref_dob f0 f1 f2 f3 f4 f5 f6 (i 0) (i 1)

theorem result_dgain : Value.res_main_v79 m' c = (dats m 0 c).arrAt 6 Cert.Kernel2Ideal.cfg0.N := by
  obtain ⟨f0, f1, f2, f3, f4, f5, f6⟩ := finite_args m hpre c
  rw [Read.val_main_v79_eq, h0, h1, h2, h3, h4, h5, h6, array_dgain]
  funext i
  rw [eq_ix2 i]
  exact ref_dgain f0 f1 f2 f3 f4 f5 f6 (i 0) (i 1)

theorem result_loss : Value.res_main_v80 m' c = (dats m 0 c).arrAt 7 Cert.Kernel2Ideal.cfg0.N := by
  obtain ⟨f0, f1, f2, f3, f4, f5, f6⟩ := finite_args m hpre c
  rw [Read.val_main_v80_eq, h0, h1, h2, h3, h4, h5, h6, array_loss]
  funext i
  rw [eq_ix2 i]
  refine (ref_loss f0 f1 f2 f3 f4 f5 f6 (i 0) (i 1)).trans (Eq.symm ?_)
  refine (Finset.sum_congr rfl fun s _ => Ffn.half_sum _ fun r => ?_).trans (Fin.sum_mul_add_congr fun s r h => rfl)
  exact Ffn.isReal_sq (real_out f0 f1 f2 f3 f4 _) (fun _ => f5 _) (fun _ => f6 _)

omit hpre h2 h3 h4 h5 h6 in
theorem result_norm : Read.val_main_v81 (F := Ideal) (m' ((c.tc : Thread nD τ).loc main_arg0)) (m' ((c.tc : Thread nD τ).loc main_arg1))
    = (dats m 0 c).arrAt 8 Cert.Kernel2Ideal.cfg0.N := by
  rw [h0, h1, array_norm]
  funext i
  rw [eq_ix2 i]
  exact ref_norm _ _ (i 0) (i 1)

omit hpre h3 h4 h5 h6 in
theorem result_dau : Read.val_main_v82 (F := Ideal) (m' ((c.tc : Thread nD τ).loc main_arg0)) (m' ((c.tc : Thread nD τ).loc main_arg1)) (m' ((c.tc : Thread nD τ).loc main_arg2))
    = (dats m 0 c).arrAt 9 Cert.Kernel2Ideal.cfg0.N := by
  rw [h0, h1, h2, array_dau]
  funext i
  rw [eq_ix2 i]
  exact ref_dau _ _ _ (i 0) (i 1)

omit h4 h5 h6 in
theorem result_dag : Value.res_main_v83 m' c = (dats m 0 c).arrAt 10 Cert.Kernel2Ideal.cfg0.N := by
  obtain ⟨f0, f1, f2, f3, f4, f5, f6⟩ := finite_args m hpre c
  rw [Read.val_main_v83_eq, h0, h1, h2, h3, array_dag]
  funext i
  rw [eq_ix2 i]
  exact ref_dag f0 f1 f2 f3 (i 0) (i 1)

omit hpre h4 h5 h6 in
theorem result_act : Read.val_main_v84 (F := Ideal) (m' ((c.tc : Thread nD τ).loc main_arg0)) (m' ((c.tc : Thread nD τ).loc main_arg1)) (m' ((c.tc : Thread nD τ).loc main_arg2)) (m' ((c.tc : Thread nD τ).loc main_arg3))
    = (dats m 0 c).arrAt 11 Cert.Kernel2Ideal.cfg0.N := by
  rw [h0, h1, h2, h3, array_act]
  funext i
  rw [eq_ix2 i]
  exact ref_actb _ _ _ _ (i 0) (i 1)

end

theorem value : Cert.algebraic_Kernel2Ideal_Reference2Ideal_pre_finite2 := fun m g m' g' hpre hagree =>
  ⟨_, _, _, _, _, _, _, _,
    (θ_run _ _ _).mono (fun r h c => ⟨(h.1 c).1 4, (h.1 c).1 5, (h.1 c).1 6, (h.1 c).1 7, (h.1 c).1 8, (h.1 c).1 9, (h.1 c).1 10,
      (h.1 c).1 11, args_kept m r h.1 c⟩) (run m g),
    (θ_run _ _ _).mono (fun r h c => by
      obtain ⟨a0, a1, a2, a3, a4, a5, a6⟩ := hagree c
      obtain ⟨r0, r1, r2, r3, r4, r5, r6, r7, rest⟩ := h c
      exact ⟨r0.trans (result_dx m hpre m' c a0 a1 a2 a3 a4 a5 a6), r1.trans (result_dob m hpre m' c a0 a1 a2 a3 a4 a5 a6), r2.trans (result_dgain m hpre m' c a0 a1 a2 a3 a4 a5 a6),
        r3.trans (result_loss m hpre m' c a0 a1 a2 a3 a4 a5 a6), (r4.trans (Cert.Reference2Ideal.Read.val_main_v81_eq _ _)).trans (result_norm m m' c a0 a1),
        (r5.trans (Cert.Reference2Ideal.Read.val_main_v82_eq _ _ _)).trans (result_dau m m' c a0 a1 a2),
        r6.trans (result_dag m hpre m' c a0 a1 a2 a3),
        (r7.trans (Cert.Reference2Ideal.Read.val_main_v84_eq _ _ _ _)).trans (result_act m m' c a0 a1 a2 a3), rest⟩)
      (Cert.Reference2Ideal.Value.run m' g')⟩

end Cert.Proof.Head

end
-- ==== Proof.Up.Run.lean ====
module

public import proofs.«01_k».proof.Proof.Gen.Kernel3Ideal.Frame
public import proofs.«01_k».proof.Proof.Gen.Kernel3Ideal.Skeleton

@[expose] public section

set_option maxRecDepth 16384

noncomputable section

namespace Cert.Proof.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

/-- The stacked weights, left in HBM. -/
abbrev wHbm : Memref sig .tc .hbm S3x2816x1024 .bf16 := Memref.whole main_v6

abbrev BufOf (c : Dev nD) {sp : Space} {S : Shape} {e : EltTy} (M : Memref sig .tc sp S e) : Type :=
  Buf (Elt F) (M.view.loc (c : Thread nD τ))

/-- The first point's condition, as both of the body's branches test it. -/
abbrev isFirst (i : grid0.Coords) : Prop :=
  (Scalar.cmpi .ne (Scalar.extui (Scalar.cmpi .eq (BitVec.ofNat 32 (i 0).val) 0#32)) 0#32) = 1#1

variable (F) in
/-- What the body stores at a point, by output. -/
structure Stores where
  xo : List (View.Piece (Elt F) S512x1024 .f32)
  norm : List (View.Piece (Elt F) S512x1024 .bf16)
  dau : List (View.Piece (Elt F) S512x2816 .bf16)
  dag : List (View.Piece (Elt F) S512x2816 .bf16)
  act : List (View.Piece (Elt F) S512x2816 .bf16)

section
variable (c : Dev nD) (i : grid0.Coords)
  (a1 : Memref sig .tc .vmem S512x1024 .f32) (h1 : a1.IsWhole)
  (a2 : Memref sig .tc .vmem S1x1024 .f32) (h2 : a2.IsWhole)
  (a4 : Memref sig .tc .vmem S512x1024 .f32) (h4 : a4.IsWhole)
  (a5 : Memref sig .tc .vmem S512x1024 .bf16) (h5 : a5.IsWhole)
  (a6 : Memref sig .tc .vmem S512x2816 .bf16) (h6 : a6.IsWhole)
  (a7 : Memref sig .tc .vmem S512x2816 .bf16) (h7 : a7.IsWhole)
  (a8 : Memref sig .tc .vmem S512x2816 .bf16) (h8 : a8.IsWhole)
  (a9 : Memref sig .tc .vmem S3x2816x1024 .bf16) (h9 : a9.IsWhole)
  (x0 : Vec F S512x1024 .f32) (x1 : Vec F S1x1024 .f32)

/-- What the body reads at a point and leaves as it was. -/
def inputs : sProp 𝕄 := iprop(owns (c : Thread nD τ) a1 fullShare x0 ∗ owns (c : Thread nD τ) a2 fullShare x1)

/-- The three copy semaphores at zero and the weights in HBM. -/
def copies (fw : BufOf (F := F) c wHbm) : sProp 𝕄 :=
  iprop(semVal ((c : Thread nD τ), SemLoc.dma 13) 0 ∗ semVal ((c : Thread nD τ), SemLoc.dma 14) 0
    ∗ semVal ((c : Thread nD τ), SemLoc.dma 15) 0 ∗ wHbm.view.loc (c : Thread nD τ) ↦{fullShare} fw)

set_option maxHeartbeats 1600000 in
set_option sl_exec.dmaWindow true in
set_option sl_exec.dmaWindowSet true in
/-- The body at the first grid point, which copies the weights. -/
def runFirst (hc : isFirst i) (fs0 : BufOf (F := F) c a9) (fw : BufOf (F := F) c wHbm) :
    { L : Stores F × BufOf (F := F) c a9 //
      ∀ (W : Waits sig Unit) (K : PUnit → sProp 𝕄),
        iprop(inputs c a1 a2 x0 x1
            ∗ (∃ d, owns (c : Thread nD τ) a4 fullShare d)
            ∗ (∃ d, owns (c : Thread nD τ) a5 fullShare d)
            ∗ (∃ d, owns (c : Thread nD τ) a6 fullShare d)
            ∗ (∃ d, owns (c : Thread nD τ) a7 fullShare d)
            ∗ (∃ d, owns (c : Thread nD τ) a8 fullShare d)
            ∗ (a9.view.loc (c : Thread nD τ) ↦[a9.view.set]{fullShare} fs0) ∗ copies c fw ∗ owes (c : Thread nD τ) 0 W
            ∗ (iprop(inputs c a1 a2 x0 x1
              ∗ (∃ f, a4.view.loc (c : Thread nD τ) ↦[a4.view.set]{fullShare} a4.view.writes (Elt F) f L.1.xo)
              ∗ (∃ f, a5.view.loc (c : Thread nD τ) ↦[a5.view.set]{fullShare} a5.view.writes (Elt F) f L.1.norm)
              ∗ (∃ f, a6.view.loc (c : Thread nD τ) ↦[a6.view.set]{fullShare} a6.view.writes (Elt F) f L.1.dau)
              ∗ (∃ f, a7.view.loc (c : Thread nD τ) ↦[a7.view.set]{fullShare} a7.view.writes (Elt F) f L.1.dag)
              ∗ (∃ f, a8.view.loc (c : Thread nD τ) ↦[a8.view.set]{fullShare} a8.view.writes (Elt F) f L.1.act)
              ∗ (a9.view.loc (c : Thread nD τ) ↦[a9.view.set]{fullShare} L.2) ∗ copies c fw ∗ (∃ W', owes (c : Thread nD τ) 0 W')) -∗ K ⟨⟩))
          ⊢ wp frame (wpE (defs₀ (F := F)) Variants.none c none) Set.univ (cc0_ffn1_fwd i a1 h1 a2 h2 wHbm (Memref.isWhole_whole _) a4 h4 a5 h5 a6 h6 a7 h7 a8 h8 a9 h9 cc0_scratch1) K } := by
  refine ⟨⟨⟨?_, ?_, ?_, ?_, ?_⟩, ?_⟩, fun W K => ?run⟩
  case run =>
    dsimp only
    simp only [cc0_ffn1_fwd_eq_skeleton]; unfold cc0_ffn1_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold inputs copies owns
    iintro ⟨⟨⟨%f1, %hf1, H1⟩, ⟨%f2, %hf2, H2⟩⟩, ⟨%d4, %f4, -, H4⟩, ⟨%d5, %f5, -, H5⟩, ⟨%d6, %f6, -, H6⟩, ⟨%d7, %f7, -, H7⟩, ⟨%d8, %f8, -, H8⟩, H9, ⟨Hq0, Hq1, Hq2, Hh⟩, HW, Hk⟩
    obtain rfl := h1.eq_unread hf1; obtain rfl := h2.eq_unread hf2
    sl_exec (disch := sl_exact hc)
    sl_step
    iapply Hk
    isplitl [H1 H2]
    · isplitl [H1]
      · iexists _; isplitr; · ipureintro; exact h1.read_unread _
        iexact H1
      iexists _; isplitr; · ipureintro; exact h2.read_unread _
      iexact H2
    isplitl [H4]; · iexists _; iexact H4
    isplitl [H5]; · iexists _; iexact H5
    isplitl [H6]; · iexists _; iexact H6
    isplitl [H7]; · iexists _; iexact H7
    isplitl [H8]; · iexists _; iexact H8
    isplitl [H9]; · iexact H9
    isplitl [Hq0 Hq1 Hq2 Hh]
    · isplitl [Hq0]; · iexact Hq0
      isplitl [Hq1]; · iexact Hq1
      isplitl [Hq2]; · iexact Hq2
      iexact Hh
    iexists _; iexact HW

set_option maxHeartbeats 1600000 in
set_option sl_exec.dmaWindow true in
set_option sl_exec.dmaWindowSet true in
/-- The body at a later point: the weights stay as `g` in the scratch. -/
def runRest (hc : ¬isFirst i) (g : BufOf (F := F) c a9) (fw : BufOf (F := F) c wHbm) :
    { L : Stores F //
      ∀ (W : Waits sig Unit) (K : PUnit → sProp 𝕄),
        iprop(inputs c a1 a2 x0 x1
            ∗ (∃ d, owns (c : Thread nD τ) a4 fullShare d)
            ∗ (∃ d, owns (c : Thread nD τ) a5 fullShare d)
            ∗ (∃ d, owns (c : Thread nD τ) a6 fullShare d)
            ∗ (∃ d, owns (c : Thread nD τ) a7 fullShare d)
            ∗ (∃ d, owns (c : Thread nD τ) a8 fullShare d)
            ∗ (a9.view.loc (c : Thread nD τ) ↦[a9.view.set]{fullShare} g) ∗ copies c fw ∗ owes (c : Thread nD τ) 0 W
            ∗ (iprop(inputs c a1 a2 x0 x1
              ∗ (∃ f, a4.view.loc (c : Thread nD τ) ↦[a4.view.set]{fullShare} a4.view.writes (Elt F) f L.xo)
              ∗ (∃ f, a5.view.loc (c : Thread nD τ) ↦[a5.view.set]{fullShare} a5.view.writes (Elt F) f L.norm)
              ∗ (∃ f, a6.view.loc (c : Thread nD τ) ↦[a6.view.set]{fullShare} a6.view.writes (Elt F) f L.dau)
              ∗ (∃ f, a7.view.loc (c : Thread nD τ) ↦[a7.view.set]{fullShare} a7.view.writes (Elt F) f L.dag)
              ∗ (∃ f, a8.view.loc (c : Thread nD τ) ↦[a8.view.set]{fullShare} a8.view.writes (Elt F) f L.act)
              ∗ (a9.view.loc (c : Thread nD τ) ↦[a9.view.set]{fullShare} g) ∗ copies c fw ∗ (∃ W', owes (c : Thread nD τ) 0 W')) -∗ K ⟨⟩))
          ⊢ wp frame (wpE (defs₀ (F := F)) Variants.none c none) Set.univ (cc0_ffn1_fwd i a1 h1 a2 h2 wHbm (Memref.isWhole_whole _) a4 h4 a5 h5 a6 h6 a7 h7 a8 h8 a9 h9 cc0_scratch1) K } := by
  refine ⟨⟨?_, ?_, ?_, ?_, ?_⟩, fun W K => ?run⟩
  case run =>
    dsimp only
    simp only [cc0_ffn1_fwd_eq_skeleton]; unfold cc0_ffn1_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold inputs copies owns
    iintro ⟨⟨⟨%f1, %hf1, H1⟩, ⟨%f2, %hf2, H2⟩⟩, ⟨%d4, %f4, -, H4⟩, ⟨%d5, %f5, -, H5⟩, ⟨%d6, %f6, -, H6⟩, ⟨%d7, %f7, -, H7⟩, ⟨%d8, %f8, -, H8⟩, H9, ⟨Hq0, Hq1, Hq2, Hh⟩, HW, Hk⟩
    obtain rfl := h1.eq_unread hf1; obtain rfl := h2.eq_unread hf2
    sl_exec (disch := sl_exact hc)
    sl_step
    iapply Hk
    isplitl [H1 H2]
    · isplitl [H1]
      · iexists _; isplitr; · ipureintro; exact h1.read_unread _
        iexact H1
      iexists _; isplitr; · ipureintro; exact h2.read_unread _
      iexact H2
    isplitl [H4]; · iexists _; iexact H4
    isplitl [H5]; · iexists _; iexact H5
    isplitl [H6]; · iexists _; iexact H6
    isplitl [H7]; · iexists _; iexact H7
    isplitl [H8]; · iexists _; iexact H8
    isplitl [H9]; · iexact H9
    isplitl [Hq0 Hq1 Hq2 Hh]
    · isplitl [Hq0]; · iexact Hq0
      isplitl [Hq1]; · iexact Hq1
      isplitl [Hq2]; · iexact Hq2
      iexact Hh
    iexists _; iexact HW

end

end Cert.Proof.Up

end
-- ==== Proof.Up.Stores.lean ====
module

public import proofs.«01_k».proof.Proof.Up.Run
public import proofs.«01_k».proof.Proof.Shared.Slab
public import Idealize.ShloMosaic.Lib.WholeRead
public import Idealize.ShloMosaic.Lib.Pipeline.ValueKit

@[expose] public section

set_option maxRecDepth 16384

noncomputable section

namespace Cert.Proof.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

section
variable (c : Dev nD) (i i' : grid0.Coords)
  (a1 : Memref sig .tc .vmem S512x1024 .f32) (h1 : a1.IsWhole)
  (a2 : Memref sig .tc .vmem S1x1024 .f32) (h2 : a2.IsWhole)
  (a4 : Memref sig .tc .vmem S512x1024 .f32) (h4 : a4.IsWhole)
  (a5 : Memref sig .tc .vmem S512x1024 .bf16) (h5 : a5.IsWhole)
  (a6 : Memref sig .tc .vmem S512x2816 .bf16) (h6 : a6.IsWhole)
  (a7 : Memref sig .tc .vmem S512x2816 .bf16) (h7 : a7.IsWhole)
  (a8 : Memref sig .tc .vmem S512x2816 .bf16) (h8 : a8.IsWhole)
  (a9 : Memref sig .tc .vmem S3x2816x1024 .bf16) (h9 : a9.IsWhole)
  (x0 : Vec F S512x1024 .f32) (x1 : Vec F S1x1024 .f32)
  (hc : isFirst i) (hc' : ¬isFirst i') (fs0 : BufOf (F := F) c a9) (fw : BufOf (F := F) c wHbm)

abbrev first := runFirst c i a1 h1 a2 h2 a4 h4 a5 h5 a6 h6 a7 h7 a8 h8 a9 h9 x0 x1 hc fs0 fw

abbrev rest (g : BufOf (F := F) c a9) := runRest c i' a1 h1 a2 h2 a4 h4 a5 h5 a6 h6 a7 h7 a8 h8 a9 h9 x0 x1 hc' g fw

/-- The three copied slabs fill the scratch with the weights. -/
theorem scratch : (first c i a1 h1 a2 h2 a4 h4 a5 h5 a6 h6 a7 h7 a8 h8 a9 h9 x0 x1 hc fs0 fw).1.2 = h9.unread (View.read (Elt F) wHbm.view fw) := by
  refine h9.eq_unread ?_
  unfold first runFirst
  dsimp only
  sl_unfold_words
  have H := Slab.copy_slab (Val := Elt F) (s' := S2816x1024) a9.view wHbm.view
  refine Eq.trans (congrArg (View.read (Elt F) a9.view) ((H (Rect.unit ![2, 0, 0] ![1, 2816, 1024] (by decide)) _ _ fw).trans
    (congrArg (fun f => a9.view.writes (Elt F) f _) ((H (Rect.unit ![1, 0, 0] ![1, 2816, 1024] (by decide)) _ _ fw).trans
      (congrArg (fun f => a9.view.writes (Elt F) f _) (H (Rect.unit ![0, 0, 0] ![1, 2816, 1024] (by decide)) _ fs0 fw)))))) ?_
  simp only [← View.writes_append, List.singleton_append]
  refine funext fun y => View.read_writes_apply_of_pieces _ _ _ _ ?_ y (View.cover_of_tiled _ ![1, 2816, 1024] rfl y)
  simp only [List.forall_mem_cons, List.not_mem_nil, false_implies, implies_true, and_true]

/-- The first point gets the stores of a later point over the filled scratch. -/
theorem first_eq :
    let L := (first c i a1 h1 a2 h2 a4 h4 a5 h5 a6 h6 a7 h7 a8 h8 a9 h9 x0 x1 hc fs0 fw).1
    L.1 = (rest c i' a1 h1 a2 h2 a4 h4 a5 h5 a6 h6 a7 h7 a8 h8 a9 h9 x0 x1 hc' fw L.2).1 := rfl

end

end Cert.Proof.Up

end
-- ==== Proof.Up.Frame.lean ====
module

public import proofs.«01_k».proof.Proof.Gen.Kernel3Ideal.Points
public import proofs.«01_k».proof.Proof.Gen.Kernel3Ideal.Launch
public import proofs.«01_k».proof.Proof.Up.Stores
public import proofs.«01_k».proof.Proof.Gen.Kernel3
public import proofs.«01_k».proof.Defs

@[expose] public section

set_option maxRecDepth 16384

noncomputable section

namespace Cert.Proof.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] (m : (ℓ : Loc nD τ sig) → Buf (Elt F) ℓ) (ρ : Dev nD → PrngReg)

local notation "𝕄" => MT nD τ sig Unit (Elt F) ℕ (Pipeline.UD sig nD τ) ℕ

/-! The run over any float values. Each output's window gets exactly what the body's stores say. -/

/-- The semaphores that the body's own copies count on. -/
abbrev copySems : Fin 3 → SemLoc sig := fun j => (![SemLoc.dma 13, SemLoc.dma 14, SemLoc.dma 15] : Fin 3 → SemLoc sig) j

theorem copySems_own : Pipeline.OwnSemFacts spec0 copySems := by decide

/-- The one operand that the body copies by itself. -/
def moved : Finset (Ref sig .tc) := {main_v6}

theorem moved_sub : moved ⊆ Pipeline.restRefs sig spec0 := by decide

/-- The weights that the region finds. -/
def wts (c : Dev nD) : Vec F S3x2816x1024 .bf16 := View.read (Elt F) wHbm.view (V m c main_v6)

/-- The scratch that keeps the weights. -/
abbrev wVmem : Memref sig .tc .vmem S3x2816x1024 .bf16 := Memref.whole cc0_scratch0

/-- The scratch's contents, once it holds the weights. -/
abbrev kept (c : Dev nD) : BufOf (F := F) c wVmem := (Memref.isWhole_whole cc0_scratch0).unread (wts m c)

/-- What a point takes beside its windows and the scratch: the generator register, the copy semaphores, the weights in HBM. -/
def aside (c : Dev nD) : sProp 𝕄 :=
  iprop((∃ r, prngReg c r) ∗ (semVal ((c : Thread nD τ), SemLoc.dma 13) 0 ∗ semVal ((c : Thread nD τ), SemLoc.dma 14) 0
    ∗ semVal ((c : Thread nD τ), SemLoc.dma 15) 0) ∗ wHbm.view.loc (c : Thread nD τ) ↦{fullShare} (V m c main_v6))

theorem scratch_owns (c : Dev nD) (d : Vec F S3x2816x1024 .bf16) :
    (owns (c : Thread nD τ) wVmem fullShare d : sProp 𝕄)
      = iprop(∃ f, ⌜View.read (Elt F) wVmem.view f = d⌝ ∗ wVmem.view.loc (c : Thread nD τ) ↦[wVmem.view.set]{fullShare} f) := rfl

theorem launch_aside (c : Dev nD) :
    (Pipeline.ΦD copySems spec0 moved (V m) c : sProp 𝕄) = iprop((∃ d, owns (c : Thread nD τ) wVmem fullShare d) ∗ aside m c) := by
  rw [Pipeline.ΦD_eq, scopedRest0_eq, Pipeline.ownSems0_eq_of_list c copySems [0, 1, 2] (by decide) (by decide), moved,
    BI.bigSep_eq_bigSepL_of_eq [main_v6] (by decide) (by decide)]
  simp only [owns_whole]
  rfl

/-- What holds between the points: before the first the scratch holds anything, after it the weights. -/
def between (c : Dev nD) : ℕ → sProp 𝕄
  | 0 => Pipeline.ΦD copySems spec0 moved (V m) c
  | _ + 1 => iprop(owns (c : Thread nD τ) wVmem fullShare (wts m c) ∗ aside m c)

theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]
  word_cmp

/-- Some point after the first. -/
abbrev later : Fin cfg0.N := ⟨1, by decide⟩

theorem later_rest : ¬isFirst (grid0.coords later) := fun h => absurd ((isFirst_iff later).mp h) (by decide)

/-- The stores of point `t`. -/
def storesAt (c : Dev nD) (t : Fin cfg0.N) : Stores F :=
  (rest c (grid0.coords later) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) (st0_6 t) (hstage0_6 ((cfg0.slots t 6).cast nbuf0_6))
    wVmem (Memref.isWhole_whole _) (iblk m c 0 t) (iblk m c 1 t) later_rest (V m c main_v6) (kept m c)).1

/-- What each point finds and leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => View.canon (storesAt m c t).xo
    | ⟨3, _⟩ => View.canon (storesAt m c t).norm
    | ⟨4, _⟩ => View.canon (storesAt m c t).dau
    | ⟨5, _⟩ => View.canon (storesAt m c t).dag
    | ⟨6, _⟩ => View.canon (storesAt m c t).act
  Φ t := between m c t.val
  q _ := fullShare
  owed _ := 0

theorem dats_A (c : Dev nD) (w : Fin cfg0.W) : (dats m 0 c).A w = V m c (Pipeline.arrRef spec0 w) := by dsimp only [dats]

/-! What each point leaves in the windows' buffers. -/

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = View.canon (storesAt m c t).xo := by dsimp only [dats]

theorem after_3 (c : Dev nD) (t : Fin cfg0.N) : (dats m 0 c).after 3 t = View.canon (storesAt m c t).norm := by dsimp only [dats]

theorem after_4 (c : Dev nD) (t : Fin cfg0.N) : (dats m 0 c).after 4 t = View.canon (storesAt m c t).dau := by dsimp only [dats]

theorem after_5 (c : Dev nD) (t : Fin cfg0.N) : (dats m 0 c).after 5 t = View.canon (storesAt m c t).dag := by dsimp only [dats]

theorem after_6 (c : Dev nD) (t : Fin cfg0.N) : (dats m 0 c).after 6 t = View.canon (storesAt m c t).act := by dsimp only [dats]

/-! An input window holds its block at every point, fetched there or not. -/

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans (by unfold Dat.fetched Dat.blockOf iblk; rw [dats_A]; rfl)

theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans (by unfold Dat.fetched Dat.blockOf iblk; rw [dats_A]; rfl)

/-- The invariant and what the windows' buffers hold before point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- The invariant and what the windows' buffers hold after point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A buffer that was stored to all over is owned at what the stores say, whatever it held. -/
theorem owns_written (c : Dev nD) {sp : Space} {S : Shape} {e : EltTy} (M : Memref sig .tc sp S e) (L : List (View.Piece (Elt F) S e))
    (d : Vec F S e) (cov : ∀ y : S.Idx, ∃ p ∈ L, y ∈ p.1.set) (hL : View.canon L = d) :
    (iprop(∃ f, M.view.loc (c : Thread nD τ) ↦[M.view.set]{fullShare} M.view.writes (Elt F) f L) : sProp 𝕄)
      ⊢ owns (c : Thread nD τ) M fullShare d := by
  iintro ⟨%f, H⟩
  unfold owns; iexists _; isplitr
  swap; · iexact H
  ipureintro; exact (View.read_writes_eq_canon _ _ _ cov).trans hL

theorem dats_between (c : Dev nD) (t : Fin cfg0.N) : (dats m 0 c).Φ t.castSucc = between m c t.val := by
  dsimp only [dats]
  exact Pipeline.Dat.Φ_castSucc (fun n _ => between m c n) t

theorem dats_between_succ (c : Dev nD) (t : Fin cfg0.N) :
    (dats m 0 c).Φ t.succ = iprop(owns (c : Thread nD τ) wVmem fullShare (wts m c) ∗ aside m c) := rfl

/-- The body's run at the first point, on the point's buffers. -/
abbrev firstAt (c : Dev nD) (t : Fin cfg0.N) (hc : isFirst (grid0.coords t)) (fs0 : BufOf (F := F) c wVmem) :=
  first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) (st0_6 t) (hstage0_6 ((cfg0.slots t 6).cast nbuf0_6))
    wVmem (Memref.isWhole_whole _) (iblk m c 0 t) (iblk m c 1 t) hc fs0 (V m c main_v6)

/-- The body's run at a later point, on the point's buffers. -/
abbrev restAt (c : Dev nD) (t : Fin cfg0.N) (hc : ¬isFirst (grid0.coords t)) :=
  rest c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) (st0_6 t) (hstage0_6 ((cfg0.slots t 6).cast nbuf0_6))
    wVmem (Memref.isWhole_whole _) (iblk m c 0 t) (iblk m c 1 t) hc (V m c main_v6) (kept m c)

/-- The first point's stores, by the weights that its own copies brought. -/
theorem firstAt_stores (c : Dev nD) (t : Fin cfg0.N) (hc : isFirst (grid0.coords t)) (fs0 : BufOf (F := F) c wVmem) :
    (firstAt m c t hc fs0).1.2 = kept m c ∧ (firstAt m c t hc fs0).1.1 = storesAt m c t := by
  have e : (firstAt m c t hc fs0).1.2 = kept m c := scratch ..
  have h := first_eq c (grid0.coords t) (grid0.coords later) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5)) (st0_6 t) (hstage0_6 ((cfg0.slots t 6).cast nbuf0_6))
    wVmem (Memref.isWhole_whole _) (iblk m c 0 t) (iblk m c 1 t) hc later_rest fs0 (V m c main_v6)
  refine ⟨e, ?_⟩
  unfold storesAt
  rw [← e]
  exact h

set_option maxHeartbeats 6400000 in
/-- The body at the first point. -/
theorem body_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before_0, before_1]
  rw [dats_between, dats_between_succ, ht, show between m c 0 = Pipeline.ΦD copySems spec0 moved (V m) c from rfl, launch_aside,
    after_0, after_1, after_2, after_3, after_4, after_5, after_6]
  unfold Dat.owesAt Pipeline.owesWithin
  have hc := (isFirst_iff t).mpr ht
  rw [show (dats m 0 c).owed t.castSucc = 0 from rfl, show (dats m 0 c).owed t.succ = 0 from rfl]
  simp only [aside, scratch_owns]
  iintro ⟨⟨⟨%ds, %fs0, -, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩⟩
  obtain ⟨e0, hs⟩ := firstAt_stores m c t hc fs0
  iapply ((firstAt m c t hc fs0).property W _)
  isplitl [H0 H1]
  · unfold inputs
    isplitl [H0]; · iexact H0
    iexact H1
  isplitl [H2]; · iexists _; iexact H2
  isplitl [H3]; · iexists _; iexact H3
  isplitl [H4]; · iexists _; iexact H4
  isplitl [H5]; · iexists _; iexact H5
  isplitl [H6]; · iexists _; iexact H6
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1⟩, H2, H3, H4, H5, H6, HS, ⟨Hq0, Hq1, Hq2, Hh⟩, ⟨%W', HW'⟩⟩
  isplitl [HS Hg Hq0 Hq1 Hq2 Hh]
  · isplitl [HS]
    · iexists _; isplitr
      swap; · iexact HS
      ipureintro; exact (congrArg _ e0).trans ((Memref.isWhole_whole cc0_scratch0).read_unread _)
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iapply (owns_written c _ _ _ (View.cover_of_tiled _ ![512, 1024] rfl) (congrArg (fun L : Stores F => View.canon L.xo) hs)); iexact H2
  isplitl [H3]; · iapply (owns_written c _ _ _ (View.cover_of_tiled _ ![512, 1024] rfl) (congrArg (fun L : Stores F => View.canon L.norm) hs)); iexact H3
  isplitl [H4]; · iapply (owns_written c _ _ _ (View.cover_of_tiled _ ![512, 256] rfl) (congrArg (fun L : Stores F => View.canon L.dau) hs)); iexact H4
  isplitl [H5]; · iapply (owns_written c _ _ _ (View.cover_of_tiled _ ![512, 256] rfl) (congrArg (fun L : Stores F => View.canon L.dag) hs)); iexact H5
  iapply (owns_written c _ _ _ (View.cover_of_tiled _ ![512, 256] rfl) (congrArg (fun L : Stores F => View.canon L.act) hs)); iexact H6

set_option maxHeartbeats 6400000 in
/-- The body at a later point. -/
theorem body_rest (c : Dev nD) (n : ℕ) (hn : n + 1 < cfg0.N) :
    bodyPre m c ⟨n + 1, hn⟩ ⊢ wp frame (wpE (defs₀ (F := F)) Variants.none c none) Set.univ (bodyAt0 ⟨n + 1, hn⟩) (fun _ => bodyPost m c ⟨n + 1, hn⟩) := by
  have hc : ¬isFirst (grid0.coords (⟨n + 1, hn⟩ : Fin cfg0.N)) := fun h => Nat.succ_ne_zero n ((isFirst_iff _).mp h)
  have hs : (restAt m c ⟨n + 1, hn⟩ hc).1 = storesAt m c ⟨n + 1, hn⟩ := rfl
  have hb : between m c (n + 1) = iprop(owns (c : Thread nD τ) wVmem fullShare (wts m c) ∗ aside m c) := rfl
  generalize ht : (⟨n + 1, hn⟩ : Fin cfg0.N) = t at hc hs ⊢
  unfold bodyPre bodyPost bodyAt0
  simp only [before_0, before_1]
  rw [dats_between, dats_between_succ, show t.val = n + 1 from ht ▸ rfl, hb,
    after_0, after_1, after_2, after_3, after_4, after_5, after_6]
  unfold Dat.owesAt Pipeline.owesWithin
  rw [show (dats m 0 c).owed t.castSucc = 0 from rfl, show (dats m 0 c).owed t.succ = 0 from rfl]
  simp only [aside, scratch_owns]
  iintro ⟨⟨⟨%g, %hg, HS⟩, Hg, ⟨Hq0, Hq1, Hq2⟩, Hh⟩, ⟨%W, -, HW⟩, ⟨%d0, H0⟩, ⟨%d1, H1⟩, ⟨%d2, H2⟩, ⟨%d3, H3⟩, ⟨%d4, H4⟩, ⟨%d5, H5⟩, ⟨%d6, H6⟩⟩
  obtain rfl : g = kept m c := (Memref.isWhole_whole cc0_scratch0).eq_unread hg
  iapply ((restAt m c t hc).property W _)
  isplitl [H0 H1]
  · unfold inputs
    isplitl [H0]; · iexact H0
    iexact H1
  isplitl [H2]; · iexists _; iexact H2
  isplitl [H3]; · iexists _; iexact H3
  isplitl [H4]; · iexists _; iexact H4
  isplitl [H5]; · iexists _; iexact H5
  isplitl [H6]; · iexists _; iexact H6
  isplitl [HS]; · iexact HS
  isplitl [Hq0 Hq1 Hq2 Hh]
  · unfold copies
    isplitl [Hq0]; · iexact Hq0
    isplitl [Hq1]; · iexact Hq1
    isplitl [Hq2]; · iexact Hq2
    iexact Hh
  isplitl [HW]; · iexact HW
  unfold inputs copies
  iintro ⟨⟨H0, H1⟩, H2, H3, H4, H5, H6, HS, ⟨Hq0, Hq1, Hq2, Hh⟩, ⟨%W', HW'⟩⟩
  isplitl [HS Hg Hq0 Hq1 Hq2 Hh]
  · isplitl [HS]
    · iexists _; isplitr
      swap; · iexact HS
      ipureintro; exact (Memref.isWhole_whole cc0_scratch0).read_unread _
    isplitl [Hg]; · iexact Hg
    isplitl [Hq0 Hq1 Hq2]
    · isplitl [Hq0]; · iexact Hq0
      isplitl [Hq1]; · iexact Hq1
      iexact Hq2
    iexact Hh
  isplitl [HW']
  · iexists W'; isplitr; · ipureintro; exact fun _ _ => Or.inl trivial
    iexact HW'
  isplitl [H0]; · iexact H0
  isplitl [H1]; · iexact H1
  isplitl [H2]; · iapply (owns_written c _ _ _ (View.cover_of_tiled _ ![512, 1024] rfl) (congrArg (fun L : Stores F => View.canon L.xo) hs)); iexact H2
  isplitl [H3]; · iapply (owns_written c _ _ _ (View.cover_of_tiled _ ![512, 1024] rfl) (congrArg (fun L : Stores F => View.canon L.norm) hs)); iexact H3
  isplitl [H4]; · iapply (owns_written c _ _ _ (View.cover_of_tiled _ ![512, 256] rfl) (congrArg (fun L : Stores F => View.canon L.dau) hs)); iexact H4
  isplitl [H5]; · iapply (owns_written c _ _ _ (View.cover_of_tiled _ ![512, 256] rfl) (congrArg (fun L : Stores F => View.canon L.dag) hs)); iexact H5
  iapply (owns_written c _ _ _ (View.cover_of_tiled _ ![512, 256] rfl) (congrArg (fun L : Stores F => View.canon L.act) hs)); iexact H6

/-- The body at every point. -/
theorem body (c : Dev nD) : BodyObligation (dats m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated ?_ rfl .rfl fun _ => .rfl
  exact match t with
    | ⟨0, h⟩ => body_first m c ⟨0, h⟩ rfl
    | ⟨n + 1, h⟩ => body_rest m c n h

theorem enter (c : Dev nD) : Pipeline.ΦD copySems spec0 moved (V m) c ⊢ (dats m 0 c).Φ 0 := by
  rw [show (dats m 0 c).Φ 0 = Pipeline.ΦD copySems spec0 moved (V m) c from rfl]

/-- After the last point the scratch's contents are forgotten. -/
theorem leave (c : Dev nD) : (dats m 0 c).Φ (Fin.last cfg0.N) ⊢ Pipeline.ΦD copySems spec0 moved (V m) c := by
  rw [show (dats m 0 c).Φ (Fin.last cfg0.N) = iprop(owns (c : Thread nD τ) wVmem fullShare (wts m c) ∗ aside m c) from rfl, launch_aside]
  iintro ⟨HS, Ha⟩
  isplitl [HS]
  · iexists _; iexact HS
  iexact Ha

-- the launch's implicit arguments are found by unfolding plain definitions inside types
set_option backward.isDefEq.respectTransparency.types false in
/-- The program runs, every array of the region ends at what the points left in it, and every semaphore ends at zero. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 copySems defs₀ Variants.none copySems_own moved moved_sub m ρ main
    (hbody := fun c => (body m c).loose) (hshare := fun c => (dats m 0 c).share_full fun _ => rfl)
    (howed := fun _ _ => rfl) (V := V m) (hmain := Pipeline.hmain_prefix cfgs 0 defs₀ Variants.none m main hostOps0 hostOps0_sub hostOps0_fresh main_chain)
    (hA := dats_A m) (hin := enter m) (hout := leave m)

/-- The arguments end as they began. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((dats_A m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The kernel at hardware values has the same text. -/
theorem same_main : Cert.Kernel3Ideal.main (F := Bits) = Cert.Kernel3.main := by sl_kernel_rfl

theorem same_defs : Cert.Kernel3Ideal.defs (F := Bits) = Cert.Kernel3.defs := by sl_kernel_rfl

/-- The kernel's frame at hardware values. -/
theorem kernel_frame : Cert.quiescent_Kernel3 := fun m ρ _ => by
  rw [← same_main, ← same_defs]
  exact (θ_run _ _ _).mono (fun r h => ⟨args_kept (F := Bits) m r h.1, h.2⟩) (run (F := Bits) m ρ)

end Cert.Proof.Up

end
-- ==== Proof.Up.Tile.lean ====
module

public import proofs.«01_k».proof.Proof.Up.Stores
public import proofs.«01_k».proof.Proof.Shared.FfnHead
public import Idealize.ShloMosaic.Lib.Pointwise

@[expose] public section

set_option maxRecDepth 16384

noncomputable section

/-! What the body stores at a point, by the rows of the point's blocks. -/

namespace Cert.Proof.Up

open Idealize.ShloMosaic Idealize.ShloMosaic.TcCoe Idealize.ShloMosaic.Tactic
open Cert.Kernel3Ideal Cert.Kernel3Ideal.Gen

/-- A row of a block. -/
abbrev rowOf {n : ℕ} (x : Vec Ideal ⟨2, ![n, 1024]⟩ .f32) (r : Fin n) (k : Fin 1024) : EReal := x (ix2 r k)

/-- The stacked weights, one by one. -/
abbrev gateOf (w : Vec Ideal S3x2816x1024 .bf16) (k : Fin 1024) (f : Fin 2816) : EReal := w (ix3 0 f k)
abbrev upOf (w : Vec Ideal S3x2816x1024 .bf16) (k : Fin 1024) (f : Fin 2816) : EReal := w (ix3 1 f k)
abbrev downOf (w : Vec Ideal S3x2816x1024 .bf16) (f : Fin 2816) (k : Fin 1024) : EReal := w (ix3 2 f k)

section
variable (x0 : Vec Ideal S512x1024 .f32) (x1 : Vec Ideal S1x1024 .f32) (w : Vec Ideal S3x2816x1024 .bf16)

/-- A tile of the normalised rows. -/
def normTile : Vec Ideal S512x1024 .bf16 := fun j => Ffn.normed (rowOf x0 (j 0)) (rowOf x1 0) (j 1)

/-- A tile of the activation's slope in the up projection. -/
def dauTile : Vec Ideal S512x2816 .bf16 := fun j => Ffn.slopeUp (Ffn.proj (rowOf x0 (j 0)) (rowOf x1 0) (gateOf w) (j 1))

/-- A tile of the activation's slope in the gate. -/
def dagTile : Vec Ideal S512x2816 .bf16 := fun j =>
  Ffn.slopeGate (Ffn.proj (rowOf x0 (j 0)) (rowOf x1 0) (gateOf w) (j 1)) (Ffn.proj (rowOf x0 (j 0)) (rowOf x1 0) (upOf w) (j 1))

/-- A tile of the activation. -/
def actTile : Vec Ideal S512x2816 .bf16 := fun j => Ffn.act (rowOf x0 (j 0)) (rowOf x1 0) (gateOf w) (upOf w) (j 1)

/-- A row of the block's output. -/
abbrev outRow (r : Fin 512) : Fin 1024 → EReal := Ffn.out (rowOf x0 r) (rowOf x1 0) (gateOf w) (upOf w) (downOf w)

/-- A tile of the block's output. -/
def outTile : Vec Ideal S512x1024 .f32 := fun j => outRow x0 x1 w (j 0) (j 1)

end

section
variable (c : Dev nD) (i : grid0.Coords)
  (a1 : Memref sig .tc .vmem S512x1024 .f32) (h1 : a1.IsWhole)
  (a2 : Memref sig .tc .vmem S1x1024 .f32) (h2 : a2.IsWhole)
  (a4 : Memref sig .tc .vmem S512x1024 .f32) (h4 : a4.IsWhole)
  (a5 : Memref sig .tc .vmem S512x1024 .bf16) (h5 : a5.IsWhole)
  (a6 : Memref sig .tc .vmem S512x2816 .bf16) (h6 : a6.IsWhole)
  (a7 : Memref sig .tc .vmem S512x2816 .bf16) (h7 : a7.IsWhole)
  (a8 : Memref sig .tc .vmem S512x2816 .bf16) (h8 : a8.IsWhole)
  (a9 : Memref sig .tc .vmem S3x2816x1024 .bf16) (h9 : a9.IsWhole)
  (x0 : Vec Ideal S512x1024 .f32) (x1 : Vec Ideal S1x1024 .f32)
  (hc : ¬isFirst i) (fw : BufOf (F := Ideal) c wHbm) (w : Vec Ideal S3x2816x1024 .bf16)

/-- A later point's stores, with the weights in the scratch. -/
abbrev at' := (rest c i a1 h1 a2 h2 a4 h4 a5 h5 a6 h6 a7 h7 a8 h8 a9 h9 x0 x1 hc fw (h9.unread w)).1

theorem norm_canon : View.canon (at' c i a1 h1 a2 h2 a4 h4 a5 h5 a6 h6 a7 h7 a8 h8 a9 h9 x0 x1 hc fw w).norm
    = normTile x0 x1 := by
  refine funext fun y => View.canon_apply_of_pieces _ _ ?_ y (View.cover_of_tiled _ ![512, 1024] rfl y)
  unfold at' rest runRest
  dsimp only
  sl_unfold_words
  simp only [List.forall_mem_cons, List.not_mem_nil, false_implies, implies_true, and_true]
  intro x
  idx_vars x
  rw [Slab.emb_eq_idx]
  unfold_payloads
  pointwise [Memref.IsWhole.readAt_unread, normTile, Ffn.normed, Ffn.rstd]

theorem dau_canon : View.canon (at' c i a1 h1 a2 h2 a4 h4 a5 h5 a6 h6 a7 h7 a8 h8 a9 h9 x0 x1 hc fw w).dau
    = dauTile x0 x1 w := by
  refine funext fun y => View.canon_apply_of_pieces _ _ ?_ y (View.cover_of_tiled _ ![512, 256] rfl y)
  unfold at' rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [Memref.IsWhole.readAt_unread, dauTile, Ffn.slopeUp, Ffn.sig, Ffn.proj, Ffn.normed, Ffn.rstd, zero_sub]

theorem dag_canon : View.canon (at' c i a1 h1 a2 h2 a4 h4 a5 h5 a6 h6 a7 h7 a8 h8 a9 h9 x0 x1 hc fw w).dag
    = dagTile x0 x1 w := by
  refine funext fun y => View.canon_apply_of_pieces _ _ ?_ y (View.cover_of_tiled _ ![512, 256] rfl y)
  unfold at' rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [Memref.IsWhole.readAt_unread, dagTile, Ffn.slopeGate, Ffn.sig, Ffn.proj, Ffn.normed, Ffn.rstd, zero_sub]

theorem act_canon : View.canon (at' c i a1 h1 a2 h2 a4 h4 a5 h5 a6 h6 a7 h7 a8 h8 a9 h9 x0 x1 hc fw w).act
    = actTile x0 x1 w := by
  refine funext fun y => View.canon_apply_of_pieces _ _ ?_ y (View.cover_of_tiled _ ![512, 256] rfl y)
  unfold at' rest runRest
  dsimp only
  sl_unfold_words
  simp only [List.forall_mem_cons, List.not_mem_nil, false_implies, implies_true, and_true]
  refine ⟨?_, ?_, ?_, ?_, ?_, ?_, ?_, ?_, ?_, ?_, ?_⟩
  all_goals
    intro x
    idx_vars x
    rw [Slab.emb_eq_idx]
    unfold_payloads
    pointwise [Memref.IsWhole.readAt_unread, actTile, Ffn.act, Ffn.slopeUp, Ffn.sig, Ffn.proj, Ffn.normed, Ffn.rstd, zero_sub]

theorem xo_canon : View.canon (at' c i a1 h1 a2 h2 a4 h4 a5 h5 a6 h6 a7 h7 a8 h8 a9 h9 x0 x1 hc fw w).xo
    = outTile x0 x1 w := by
  have hA := act_canon c i a1 h1 a2 h2 a4 h4 a5 h5 a6 h6 a7 h7 a8 h8 a9 h9 x0 x1 hc fw w
  revert hA
  unfold at' rest runRest
  dsimp only
  sl_unfold_words
  intro hA
  refine funext fun y => View.canon_apply_of_pieces (outTile x0 x1 w) _ ?_ y (View.cover_of_tiled _ ![512, 1024] rfl y)
  simp only [List.forall_mem_cons, List.not_mem_nil, false_implies, implies_true, and_true, View.readCov_eq_canon', hA]
  clear hA
  intro z
  idx_vars z
  rw [Slab.emb_eq_idx]
  unfold k0_pay1 k0_pay87 k0_pay88
  pointwise [Memref.IsWhole.readAt_unread, actTile, outTile, Ffn.out]

end

end Cert.Proof.Up

end
-- ==== Proof.Up.Result.lean ====
module

public import proofs.«01_k».proof.Proof.Up.Frame
public import proofs.«01_k».proof.Proof.Up.Tile
public import proofs.«01_k».proof.Proof.Shared.Stack
public import Idealize.ShloMosaic.Lib.Pipeline.ValueKit
public import Idealize.ShloMosaic.Lib.Claim

@[expose] public section

set_option maxRecDepth 16384

noncomputable section

/-! The arrays that a feed-forward block leaves, by the arguments' rows. -/

namespace Cert.Proof.Up

open Idealize.ShloMosaic Idealize.ShloMosaic.TcCoe Idealize.ShloMosaic.Tactic
open Idealize.ShloMosaic.Pipeline (Dat Cfg Window BodyObligation cellOf)
open Cert.Kernel3Ideal Cert.Kernel3Ideal.Gen

variable (m : (ℓ : Loc nD τ sig) → Buf (Elt Ideal) ℓ) (c : Dev nD)

/-! The arguments, by their rows and columns. -/

abbrev argX (r : Fin 8192) (k : Fin 1024) : EReal := m ((c.tc : Thread nD τ).loc main_arg0) (ix2 r k)
abbrev argG (k : Fin 1024) : EReal := m ((c.tc : Thread nD τ).loc main_arg1) (ix1 k)
abbrev argWg (k : Fin 1024) (f : Fin 2816) : EReal := m ((c.tc : Thread nD τ).loc main_arg2) (ix2 k f)
abbrev argWu (k : Fin 1024) (f : Fin 2816) : EReal := m ((c.tc : Thread nD τ).loc main_arg3) (ix2 k f)
abbrev argWd (f : Fin 2816) (k : Fin 1024) : EReal := m ((c.tc : Thread nD τ).loc main_arg4) (ix2 f k)

/-- A row of the block's output. -/
abbrev outAt (r : Fin 8192) : Fin 1024 → EReal := Ffn.out (argX m c r) (argG m c) (argWg m c) (argWu m c) (argWd m c)

theorem host_gain (k : Fin 1024) : V m c main_v7 (ix2 0 k) = argG m c k := by
  entry_read
  pointwise

/-- The rows of point `t`. -/
def row (t : Fin cfg0.N) (r : Fin 512) : Fin 8192 :=
  ⟨t.val * 512 + r.val, by have : t.val < 16 := lt_of_lt_of_eq t.isLt N_0; have := r.isLt; omega⟩

theorem index (t : Fin cfg0.N) : win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]) t

/-! The blocks that a point reads. -/

theorem x_at (t : Fin cfg0.N) (r : Fin 512) (k : Fin 1024) : iblk m c 0 t (ix2 r k) = argX m c (row t r) k := by
  refine Eq.trans ?_ (congrFun (V_main_arg0 m c) (ix2 (row t r) k))
  blk_ext [iblk, index t, row]

theorem g_at (t : Fin cfg0.N) (k : Fin 1024) : iblk m c 1 t (ix2 0 k) = argG m c k := by
  refine Eq.trans ?_ (host_gain m c k)
  blk_ext [iblk, index t]

theorem block_x (t : Fin cfg0.N) (r : Fin 512) : rowOf (iblk m c 0 t) r = argX m c (row t r) := funext (x_at m c t r)
theorem block_g (t : Fin cfg0.N) : rowOf (iblk m c 1 t) 0 = argG m c := funext (g_at m c t)

/-- The stacked weights of the region are the three arguments, the first two turned. -/
theorem wts_stack (f : Fin 2816) (k : Fin 1024) :
    wts m c (ix3 0 f k) = argWg m c k f ∧ wts m c (ix3 1 f k) = argWu m c k f ∧ wts m c (ix3 2 f k) = argWd m c f k := by
  have h : wts m c = truncf (F := Ideal) .bf16 (concatenate S3x2816x1024 0
      [⟨S1x2816x1024, broadcastInDim S1x2816x1024 ![1, 2] bcast_S2816x1024_S1x2816x1024_1_2
          (transpose S2816x1024 [1, 0] (m ((c.tc : Thread nD τ).loc main_arg2)) transposes_S1024x2816_S2816x1024_1_0)⟩,
        ⟨S1x2816x1024, broadcastInDim S1x2816x1024 ![1, 2] bcast_S2816x1024_S1x2816x1024_1_2
          (transpose S2816x1024 [1, 0] (m ((c.tc : Thread nD τ).loc main_arg3)) transposes_S1024x2816_S2816x1024_1_0)⟩,
        ⟨S1x2816x1024, broadcastInDim S1x2816x1024 ![1, 2] bcast_S2816x1024_S1x2816x1024_1_2 (m ((c.tc : Thread nD τ).loc main_arg4))⟩]
      concatenates_S1x2816x1024_S1x2816x1024_S1x2816x1024_S3x2816x1024_d0) bitsLt_bf16_f32 := by
    rw [show wts m c = V m c main_v6 from rfl]
    unfold V
    simp only [hostOps0]
    after_results_simp
    dsimp only [Matrix.cons_val]
    refine congrArg (truncf .bf16 · bitsLt_bf16_f32) (stack_congr _ _ ?_ ?_ ?_) <;> after_results_simp <;> rfl
  rw [h]
  refine ⟨?_, ?_, ?_⟩ <;> pointwise

theorem wts_gate : gateOf (wts m c) = argWg m c := funext fun k => funext fun f => (wts_stack m c f k).1
theorem wts_up : upOf (wts m c) = argWu m c := funext fun k => funext fun f => (wts_stack m c f k).2.1
theorem wts_down : downOf (wts m c) = argWd m c := funext fun f => funext fun k => (wts_stack m c f k).2.2

theorem tile_out (t : Fin cfg0.N) (r : Fin 512) : outRow (iblk m c 0 t) (iblk m c 1 t) (wts m c) r = outAt m c (row t r) := by
  rw [outRow, block_x, block_g, wts_gate, wts_up, wts_down]

/-! The arrays that the region leaves. -/

theorem array_xo : (dats m 0 c).arrAt 2 cfg0.N = fun i => outAt m c (i 0) (i 1) := by
  refine (dats m 0 c).arrAt_eq_of_covers 2 _ (by decide +kernel) fun t hf y => ?_
  blk_simp
  rw [after_2, show View.canon (storesAt m c t).xo = outTile (iblk m c 0 t) (iblk m c 1 t) (wts m c) from xo_canon ..]
  idx_vars y
  rw [show ((View.whole main_v8_0).slice (win0_2.rect t)).emb (ix2 y0 y1) = ix2 (row t y0) y1 from by blk_ext [index t, row]]
  dsimp only [ix2_0, ix2_1, outTile]
  rw [tile_out]

theorem array_norm : (dats m 0 c).arrAt 3 cfg0.N
    = fun i => Ffn.normed (argX m c (i 0)) (argG m c) (i 1) := by
  refine (dats m 0 c).arrAt_eq_of_covers 3 _ (by decide +kernel) fun t hf y => ?_
  blk_simp
  rw [after_3, show View.canon (storesAt m c t).norm = normTile (iblk m c 0 t) (iblk m c 1 t) from norm_canon ..]
  idx_vars y
  rw [show ((View.whole main_v8_1).slice (win0_3.rect t)).emb (ix2 y0 y1) = ix2 (row t y0) y1 from by blk_ext [index t, row]]
  dsimp only [ix2_0, ix2_1, normTile]
  rw [block_x, block_g]

theorem array_dau : (dats m 0 c).arrAt 4 cfg0.N
    = fun i => Ffn.slopeUp (Ffn.proj (argX m c (i 0)) (argG m c) (argWg m c) (i 1)) := by
  refine (dats m 0 c).arrAt_eq_of_covers 4 _ (by decide +kernel) fun t hf y => ?_
  blk_simp
  rw [after_4, show View.canon (storesAt m c t).dau = dauTile (iblk m c 0 t) (iblk m c 1 t) (wts m c) from dau_canon ..]
  idx_vars y
  rw [show ((View.whole main_v8_2).slice (win0_4.rect t)).emb (ix2 y0 y1) = ix2 (row t y0) y1 from by blk_ext [index t, row]]
  dsimp only [ix2_0, ix2_1, dauTile]
  rw [block_x, block_g, wts_gate]

theorem array_dag : (dats m 0 c).arrAt 5 cfg0.N
    = fun i => Ffn.slopeGate (Ffn.proj (argX m c (i 0)) (argG m c) (argWg m c) (i 1)) (Ffn.proj (argX m c (i 0)) (argG m c) (argWu m c) (i 1)) := by
  refine (dats m 0 c).arrAt_eq_of_covers 5 _ (by decide +kernel) fun t hf y => ?_
  blk_simp
  rw [after_5, show View.canon (storesAt m c t).dag = dagTile (iblk m c 0 t) (iblk m c 1 t) (wts m c) from dag_canon ..]
  idx_vars y
  rw [show ((View.whole main_v8_3).slice (win0_5.rect t)).emb (ix2 y0 y1) = ix2 (row t y0) y1 from by blk_ext [index t, row]]
  dsimp only [ix2_0, ix2_1, dagTile]
  rw [block_x, block_g, wts_gate, wts_up]

theorem array_act : (dats m 0 c).arrAt 6 cfg0.N
    = fun i => Ffn.act (argX m c (i 0)) (argG m c) (argWg m c) (argWu m c) (i 1) := by
  refine (dats m 0 c).arrAt_eq_of_covers 6 _ (by decide +kernel) fun t hf y => ?_
  blk_simp
  rw [after_6, show View.canon (storesAt m c t).act = actTile (iblk m c 0 t) (iblk m c 1 t) (wts m c) from act_canon ..]
  idx_vars y
  rw [show ((View.whole main_v8_4).slice (win0_6.rect t)).emb (ix2 y0 y1) = ix2 (row t y0) y1 from by blk_ext [index t, row]]
  dsimp only [ix2_0, ix2_1, actTile]
  rw [block_x, block_g, wts_gate, wts_up]

end Cert.Proof.Up

end
-- ==== Proof.Up.Reference.lean ====
module

public import proofs.«01_k».proof.Proof.Gen.Reference3Ideal.Run
public import proofs.«01_k».proof.Proof.Gen.Reference3Ideal.Read
public import proofs.«01_k».proof.Proof.Shared.FfnHead
public import Idealize.ShloMosaic.Lib.Pipeline.ValueKit
public import Idealize.ShloMosaic.Lib.Claim

@[expose] public section

noncomputable section

/-! The reference's feed-forward block, read row by row. -/

namespace Cert.Proof.Up

open Idealize.ShloMosaic
open Cert.Reference3Ideal Cert.Reference3Ideal.Read

variable (x : (⟨S8192x1024, .f32⟩ : BufTy).Contents (Elt Ideal)) (g : (⟨S1024, .f32⟩ : BufTy).Contents (Elt Ideal))
  (wg wu : (⟨S1024x2816, .f32⟩ : BufTy).Contents (Elt Ideal)) (wd : (⟨S2816x1024, .f32⟩ : BufTy).Contents (Elt Ideal))

/-! The arrays by their coordinates. -/

abbrev wide (a : (⟨S8192x1024, .f32⟩ : BufTy).Contents (Elt Ideal)) (r : Fin 8192) (k : Fin 1024) : EReal := a (ix2 r k)
abbrev gain (a : (⟨S1024, .f32⟩ : BufTy).Contents (Elt Ideal)) (k : Fin 1024) : EReal := a (ix1 k)
abbrev inward (a : (⟨S1024x2816, .f32⟩ : BufTy).Contents (Elt Ideal)) (k : Fin 1024) (f : Fin 2816) : EReal := a (ix2 k f)
abbrev outward (a : (⟨S2816x1024, .f32⟩ : BufTy).Contents (Elt Ideal)) (f : Fin 2816) (k : Fin 1024) : EReal := a (ix2 f k)

/-- A row of the block's output. -/
abbrev outOf (r : Fin 8192) : Fin 1024 → EReal := Ffn.out (wide x r) (gain g) (inward wg) (inward wu) (outward wd)

theorem ref_unit (r : Fin 8192) (k : Fin 1024) : val_main_v9 (F := Ideal) x (ix2 r k) = x (ix2 r k) * Ffn.rstd (wide x r) := by
  pointwise [val_main_v9, val_main_v8, val_main_v7, val_main_v6, val_main_v5, val_main_v4, val_main_v3, val_main_v2, val_main_v1,
    val_main_v0, val_main_cst, val_main_cst_0, val_main_cst_1]
  rfl

theorem ref_normed (r : Fin 8192) (k : Fin 1024) : val_main_v12 (F := Ideal) x g (ix2 r k) = Ffn.normed (wide x r) (gain g) k := by
  pointwise [val_main_v12, val_main_v11, val_main_v10, ref_unit]
  rfl

theorem ref_gate (r : Fin 8192) (f : Fin 2816) :
    val_main_v13 (F := Ideal) x g wg (ix2 r f) = Ffn.proj (wide x r) (gain g) (inward wg) f := by
  pointwise [val_main_v13, ref_normed]
  rfl

theorem ref_up (r : Fin 8192) (f : Fin 2816) :
    val_main_v14 (F := Ideal) x g wu (ix2 r f) = Ffn.proj (wide x r) (gain g) (inward wu) f := by
  pointwise [val_main_v14, ref_normed]
  rfl

theorem ref_sig (r : Fin 8192) (f : Fin 2816) :
    val_main_v15_2 (F := Ideal) x g wg (ix2 r f) = Ffn.sig (Ffn.proj (wide x r) (gain g) (inward wg) f) := by
  pointwise [val_main_v15_2, val_main_call0_v4, val_main_call0_cst_0, val_main_call0_v3, val_main_call0_v2, val_main_call0_cst,
    val_main_call0_v1, val_main_call0_v0, ref_gate]
  rfl

theorem ref_silu (r : Fin 8192) (f : Fin 2816) :
    val_main_v15_0 (F := Ideal) x g wg (ix2 r f) = Ffn.slopeUp (Ffn.proj (wide x r) (gain g) (inward wg) f) := by
  pointwise [val_main_v15_0, ref_gate, ref_sig]
  rfl

theorem ref_act (r : Fin 8192) (f : Fin 2816) :
    val_main_v16 (F := Ideal) x g wg wu (ix2 r f) = Ffn.act (wide x r) (gain g) (inward wg) (inward wu) f := by
  pointwise [val_main_v16, ref_silu, ref_up]
  rfl

theorem ref_out (r : Fin 8192) (k : Fin 1024) : val_main_v24 (F := Ideal) x g wg wu wd (ix2 r k) = outOf x g wg wu wd r k := by
  pointwise [val_main_v24, val_main_v23, val_main_v22, val_main_v21, val_main_cst_3, ref_act]
  rfl

theorem ref_norm (r : Fin 8192) (k : Fin 1024) : val_main_v25 (F := Ideal) x g (ix2 r k) = Ffn.normed (wide x r) (gain g) k := by
  pointwise [val_main_v25, ref_normed]

theorem ref_dau (r : Fin 8192) (f : Fin 2816) :
    val_main_v26 (F := Ideal) x g wg (ix2 r f) = Ffn.slopeUp (Ffn.proj (wide x r) (gain g) (inward wg) f) := by
  pointwise [val_main_v26, val_main_v18, val_main_v17, val_main_cst_2, ref_silu]

theorem ref_actb (r : Fin 8192) (f : Fin 2816) :
    val_main_v28 (F := Ideal) x g wg wu (ix2 r f) = Ffn.act (wide x r) (gain g) (inward wg) (inward wu) f := by
  pointwise [val_main_v28, ref_act]

section
variable {x g wg wu}
variable (hx : ∀ i, IsReal (x i)) (hg : ∀ i, IsReal (g i)) (hwg : ∀ i, IsReal (wg i)) (hwu : ∀ i, IsReal (wu i))
include hx hg hwg hwu

theorem ref_dag (r : Fin 8192) (f : Fin 2816) : val_main_v27 (F := Ideal) x g wg wu (ix2 r f)
    = Ffn.slopeGate (Ffn.proj (wide x r) (gain g) (inward wg) f) (Ffn.proj (wide x r) (gain g) (inward wu) f) := by
  refine Eq.trans ?_ (Ffn.slopeGate_eq (Ffn.isReal_proj (fun _ => hx _) (fun _ => hg _) (fun _ _ => hwg _) f)
    (Ffn.isReal_proj (fun _ => hx _) (fun _ => hg _) (fun _ _ => hwu _) f))
  pointwise [val_main_v27, val_main_v20, val_main_call1_v2, val_main_call1_v1, val_main_call1_v0, val_main_v19, val_main_v17,
    val_main_cst_2, val_main_v15_1, val_main_call0_v7, val_main_call0_v6, val_main_call0_cst_1, ref_gate, ref_up, ref_sig]

end

end Cert.Proof.Up

end
-- ==== Proof.Up.Claim.lean ====
module

public import proofs.«01_k».proof.Defs
public import proofs.«01_k».proof.Proof.Gen.Pre_finite3
public import proofs.«01_k».proof.Proof.Up.Result
public import proofs.«01_k».proof.Proof.Up.Reference

@[expose] public section

noncomputable section

/-! A feed-forward block with the slopes that its gradient needs: the kernel runs and leaves its arguments, and on real arguments its results are the
reference's. -/

namespace Cert.Proof.Up

open Idealize.ShloMosaic Idealize.SL.Sem

theorem frame : Cert.quiescent_Kernel3Ideal := fun m g _ =>
  (θ_run _ _ _).mono (fun r h => ⟨fun c => args_kept m r h.1 c, h.2⟩) (run m g)

theorem reference_frame : Cert.quiescent_Reference3Ideal := fun m g _ =>
  (θ_run _ _ _).mono (fun r h => ⟨fun c => (h c).2.2.2.2.2, sem_eq_zero_of_no_sems rfl r.2⟩) (Cert.Reference3Ideal.Value.run m g)

/-- The precondition, argument by argument. -/
theorem finite_args (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) :
    (∀ i, IsReal (m ((c.tc : Thread Cert.Kernel3Ideal.nD Cert.Kernel3Ideal.τ).loc Cert.Kernel3Ideal.main_arg0) i))
    ∧ (∀ i, IsReal (m ((c.tc : Thread Cert.Kernel3Ideal.nD Cert.Kernel3Ideal.τ).loc Cert.Kernel3Ideal.main_arg1) i))
    ∧ (∀ i, IsReal (m ((c.tc : Thread Cert.Kernel3Ideal.nD Cert.Kernel3Ideal.τ).loc Cert.Kernel3Ideal.main_arg2) i))
    ∧ (∀ i, IsReal (m ((c.tc : Thread Cert.Kernel3Ideal.nD Cert.Kernel3Ideal.τ).loc Cert.Kernel3Ideal.main_arg3) i))
    ∧ (∀ i, IsReal (m ((c.tc : Thread Cert.Kernel3Ideal.nD Cert.Kernel3Ideal.τ).loc Cert.Kernel3Ideal.main_arg4) i)) := by
  obtain ⟨h0, h1, h2, h3, h4⟩ := h c
  exact ⟨real_of_finite _ _ h0, real_of_finite _ _ h1, real_of_finite _ _ h2, real_of_finite _ _ h3, real_of_finite _ _ h4⟩

section
open Cert.Reference3Ideal Cert.Reference3Ideal.Gen

variable (m : (ℓ : Loc Cert.Kernel3Ideal.nD Cert.Kernel3Ideal.τ Cert.Kernel3Ideal.sig) → Buf (Elt Ideal) ℓ)
  (hpre : Cert.Pre_Kernel3Ideal_finite3 m) (m' : (ℓ : Loc nD τ sig) → Buf (Elt Ideal) ℓ) (c : Dev nD)
  (h0 : m' ((c.tc : Thread nD τ).loc main_arg0) = m ((c.tc : Thread nD τ).loc Cert.Kernel3Ideal.main_arg0))
  (h1 : m' ((c.tc : Thread nD τ).loc main_arg1) = m ((c.tc : Thread nD τ).loc Cert.Kernel3Ideal.main_arg1))
  (h2 : m' ((c.tc : Thread nD τ).loc main_arg2) = m ((c.tc : Thread nD τ).loc Cert.Kernel3Ideal.main_arg2))
  (h3 : m' ((c.tc : Thread nD τ).loc main_arg3) = m ((c.tc : Thread nD τ).loc Cert.Kernel3Ideal.main_arg3))
  (h4 : m' ((c.tc : Thread nD τ).loc main_arg4) = m ((c.tc : Thread nD τ).loc Cert.Kernel3Ideal.main_arg4))
include hpre h0 h1 h2 h3 h4

omit hpre in
theorem result_xo : Read.val_main_v24 (F := Ideal) (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4))
    = (dats m 0 c).arrAt 2 Cert.Kernel3Ideal.cfg0.N := by
  rw [h0, h1, h2, h3, h4, array_xo]
  funext i
  rw [eq_ix2 i]
  exact ref_out _ _ _ _ _ (i 0) (i 1)

omit hpre h2 h3 h4 in
theorem result_norm : Read.val_main_v25 (F := Ideal) (m' ((c.tc : Thread nD τ).loc main_arg0)) (m' ((c.tc : Thread nD τ).loc main_arg1))
    = (dats m 0 c).arrAt 3 Cert.Kernel3Ideal.cfg0.N := by
  rw [h0, h1, array_norm]
  funext i
  rw [eq_ix2 i]
  exact ref_norm _ _ (i 0) (i 1)

omit hpre h3 h4 in
theorem result_dau : Read.val_main_v26 (F := Ideal) (m' ((c.tc : Thread nD τ).loc main_arg0)) (m' ((c.tc : Thread nD τ).loc main_arg1)) (m' ((c.tc : Thread nD τ).loc main_arg2))
    = (dats m 0 c).arrAt 4 Cert.Kernel3Ideal.cfg0.N := by
  rw [h0, h1, h2, array_dau]
  funext i
  rw [eq_ix2 i]
  exact ref_dau _ _ _ (i 0) (i 1)

omit h4 in
theorem result_dag : Value.res_main_v27 m' c = (dats m 0 c).arrAt 5 Cert.Kernel3Ideal.cfg0.N := by
  obtain ⟨f0, f1, f2, f3, f4⟩ := finite_args m hpre c
  rw [Read.val_main_v27_eq, h0, h1, h2, h3, array_dag]
  funext i
  rw [eq_ix2 i]
  exact ref_dag f0 f1 f2 f3 (i 0) (i 1)

omit hpre h4 in
theorem result_act : Read.val_main_v28 (F := Ideal) (m' ((c.tc : Thread nD τ).loc main_arg0)) (m' ((c.tc : Thread nD τ).loc main_arg1)) (m' ((c.tc : Thread nD τ).loc main_arg2)) (m' ((c.tc : Thread nD τ).loc main_arg3))
    = (dats m 0 c).arrAt 6 Cert.Kernel3Ideal.cfg0.N := by
  rw [h0, h1, h2, h3, array_act]
  funext i
  rw [eq_ix2 i]
  exact ref_actb _ _ _ _ (i 0) (i 1)

end

theorem value : Cert.algebraic_Kernel3Ideal_Reference3Ideal_pre_finite3 := fun m g m' g' hpre hagree =>
  ⟨_, _, _, _, _,
    (θ_run _ _ _).mono (fun r h c => ⟨(h.1 c).1 2, (h.1 c).1 3, (h.1 c).1 4, (h.1 c).1 5, (h.1 c).1 6, args_kept m r h.1 c⟩) (run m g),
    (θ_run _ _ _).mono (fun r h c => by
      obtain ⟨a0, a1, a2, a3, a4⟩ := hagree c
      obtain ⟨r0, r1, r2, r3, r4, rest⟩ := h c
      exact ⟨(r0.trans (Cert.Reference3Ideal.Read.val_main_v24_eq _ _ _ _ _)).trans (result_xo m m' c a0 a1 a2 a3 a4),
        (r1.trans (Cert.Reference3Ideal.Read.val_main_v25_eq _ _)).trans (result_norm m m' c a0 a1),
        (r2.trans (Cert.Reference3Ideal.Read.val_main_v26_eq _ _ _)).trans (result_dau m m' c a0 a1 a2),
        r3.trans (result_dag m hpre m' c a0 a1 a2 a3),
        (r4.trans (Cert.Reference3Ideal.Read.val_main_v28_eq _ _ _ _)).trans (result_act m m' c a0 a1 a2 a3), rest⟩)
      (Cert.Reference3Ideal.Value.run m' g')⟩

end Cert.Proof.Up

end
-- ==== Proof.Shared.Conv.lean ====
module

public import Idealize.ShloMosaic.PureOps.Ideal.Laws

@[expose] public section

noncomputable section

/-! A causal convolution over a sequence that starts after zeros. -/

namespace Cert.Proof.Conv

open Idealize.ShloMosaic

/-- The sequence with `h` zeros before it. -/
def padded (h : ℕ) (s : ℕ → EReal) (n : ℕ) : EReal := if h ≤ n then s (n - h) else 0

/-- Place `n` of the convolution with `K + 1` taps: the last tap meets place `n` of the sequence. -/
def conv {K : ℕ} (w : Fin (K + 1) → EReal) (b : EReal) (s : ℕ → EReal) (n : ℕ) : EReal :=
  b + ∑ i, w i * padded K s (n + i.val)

/-- More zeros before the sequence move its places on. -/
theorem padded_add (h d : ℕ) (s : ℕ → EReal) (n : ℕ) : padded (h + d) s (n + d) = padded h s n := by
  unfold padded
  rw [Nat.add_sub_add_right]
  simp only [Nat.add_le_add_iff_right]

/-- A place past the zeros. -/
theorem padded_past (h : ℕ) (s : ℕ → EReal) (n : ℕ) : padded h s (h + n) = s n := by
  unfold padded
  rw [if_pos (Nat.le_add_right h n), Nat.add_sub_cancel_left]

/-- A place in the zeros. -/
theorem padded_before {h n : ℕ} (s : ℕ → EReal) (hn : n < h) : padded h s n = 0 := if_neg (by omega)

/-- A column of 8192 rows as a sequence. -/
def seq (a : Fin 8192 → EReal) (n : ℕ) : EReal := if h : n < 8192 then a ⟨n, h⟩ else 0

theorem seq_of_lt (a : Fin 8192 → EReal) {n : ℕ} (h : n < 8192) : seq a n = a ⟨n, h⟩ := dif_pos h

/-- A place of the padded column, by the rows. -/
theorem padded_seq {h : ℕ} (n : Fin (8192 + h)) (a : Fin 8192 → EReal) :
    (if hn : n.val < h then 0 else a ⟨n.val - h, by have := n.isLt; omega⟩) = padded h (seq a) n.val := by
  unfold padded
  split
  · next hn => rw [if_neg (by omega)]
  · next hn => rw [if_pos (by omega), seq_of_lt]

end Cert.Proof.Conv

end
-- ==== Proof.Mix.Tile.lean ====
module

public import proofs.«01_k».proof.Proof.Gen.Kernel4Ideal.Skeleton
public import proofs.«01_k».proof.Proof.Shared.Conv
public import proofs.«01_k».proof.Proof.Shared.Ffn
public import Idealize.ShloMosaic.Lib.Pointwise

@[expose] public section

set_option maxRecDepth 16384

noncomputable section

/-! The tiles that the mixer's body computes, by their rows. -/

namespace Cert.Proof.Mix

open Idealize.ShloMosaic Idealize.ShloMosaic.TcCoe Idealize.ShloMosaic.Tactic
open Cert.Kernel4Ideal Cert.Kernel4Ideal.Gen

/-- The order in which the body adds the 31 taps. -/
theorem tap_order {M : Type} [AddCommMonoid M] (b : M) (f : Fin 31 → M) :
    b + f 6 + f 14 + f 22 + f 30 + f 7 + f 15 + f 23 + f 0 + f 8 + f 16 + f 24 + f 1 + f 9 + f 17 + f 25 + f 2 + f 10 + f 18 + f 26
      + f 3 + f 11 + f 19 + f 27 + f 4 + f 12 + f 20 + f 28 + f 5 + f 13 + f 21 + f 29 = b + ∑ i, f i := by
  have h : ([6, 14, 22, 30, 7, 15, 23, 0, 8, 16, 24, 1, 9, 17, 25, 2, 10, 18, 26, 3, 11, 19, 27, 4, 12, 20, 28, 5, 13, 21, 29] :
      List (Fin 31)).Perm (List.finRange 31) := by decide
  rw [Fin.sum_univ_def, ← (h.map f).sum_eq]
  simp only [List.map_cons, List.map_nil, List.sum_cons, List.sum_nil, add_zero, add_assoc]

section
variable (s : Vec Ideal S544x512 .f32) (b : Vec Ideal S1x512 .f32) (w : Fin 31 → Vec Ideal S1x512 .f32)

/-- A row of the buffer against a tap. -/
abbrev tap (r k : Fin 512) (i : Fin 31) : EReal :=
  w i (ix2 0 k) * s (ix2 ⟨r.val + i.val + 2, by have := r.isLt; have := i.isLt; omega⟩ k)

abbrev sum1 := k0_pay9 (F := Ideal) b s (w 6) (w 14) (w 22) (w 30) (w 7) (w 15)
abbrev sum2 := k0_pay11 (F := Ideal) s (k0_pay8 s) (sum1 s b w) (w 23) (w 0) (w 8) (w 16) (w 24) (w 1) (w 9) (w 17)
abbrev sum3 := k0_pay13 (F := Ideal) s (k0_pay10 s) (sum2 s b w) (w 25) (w 2) (w 10) (w 18) (w 26) (w 3) (w 11) (w 19)
abbrev sum4 := k0_pay15 (F := Ideal) s (k0_pay12 s) (sum3 s b w) (w 27) (w 4) (w 12) (w 20) (w 28) (w 5) (w 13) (w 21)
abbrev sum5 := k0_pay16 (F := Ideal) (k0_pay14 s) (sum4 s b w) (w 29)

variable {s w} in
theorem tap_eq {r k : Fin 512} {i : Fin 31} {n : ℕ} {hn : n < 544} (h : n = r.val + i.val + 2) :
    w i (ix2 0 k) * s (ix2 ⟨n, hn⟩ k) = tap s w r k i := by subst h; rfl

theorem sum1_at (r k : Fin 512) : sum1 s b w (ix2 r k) = b (ix2 0 k) + tap s w r k 6 + tap s w r k 14 + tap s w r k 22
    + tap s w r k 30 + tap s w r k 7 + tap s w r k 15 := by
  unfold sum1 k0_pay9 k0_pay8
  pointwise
  iterate 6 refine congrArg₂ (· + ·) ?_ (tap_eq (by have := r.isLt; dsimp; omega))
  rfl

theorem sum2_at (r k : Fin 512) : sum2 s b w (ix2 r k) = sum1 s b w (ix2 r k) + tap s w r k 23 + tap s w r k 0 + tap s w r k 8
    + tap s w r k 16 + tap s w r k 24 + tap s w r k 1 + tap s w r k 9 + tap s w r k 17 := by
  unfold sum2 k0_pay11 k0_pay8 k0_pay10
  pointwise
  iterate 8 refine congrArg₂ (· + ·) ?_ (tap_eq (by have := r.isLt; dsimp; omega))
  rfl

theorem sum3_at (r k : Fin 512) : sum3 s b w (ix2 r k) = sum2 s b w (ix2 r k) + tap s w r k 25 + tap s w r k 2 + tap s w r k 10
    + tap s w r k 18 + tap s w r k 26 + tap s w r k 3 + tap s w r k 11 + tap s w r k 19 := by
  unfold sum3 k0_pay13 k0_pay10 k0_pay12
  pointwise
  iterate 8 refine congrArg₂ (· + ·) ?_ (tap_eq (by have := r.isLt; dsimp; omega))
  rfl

theorem sum4_at (r k : Fin 512) : sum4 s b w (ix2 r k) = sum3 s b w (ix2 r k) + tap s w r k 27 + tap s w r k 4 + tap s w r k 12
    + tap s w r k 20 + tap s w r k 28 + tap s w r k 5 + tap s w r k 13 + tap s w r k 21 := by
  unfold sum4 k0_pay15 k0_pay12 k0_pay14
  pointwise
  iterate 8 refine congrArg₂ (· + ·) ?_ (tap_eq (by have := r.isLt; dsimp; omega))
  rfl

theorem sum5_at (r k : Fin 512) : sum5 s b w (ix2 r k) = sum4 s b w (ix2 r k) + tap s w r k 29 := by
  unfold sum5 k0_pay16 k0_pay14
  pointwise
  exact congrArg₂ (· + ·) rfl (tap_eq (by have := r.isLt; dsimp; omega))

/-- The long convolution of a tile: the buffer holds the tile's rows from row 32 on, and the rows before them. -/
theorem conv_at (r k : Fin 512) : sum5 s b w (ix2 r k) = b (ix2 0 k) + ∑ i, tap s w r k i := by
  rw [sum5_at, sum4_at, sum3_at, sum2_at, sum1_at, tap_order]

end

/-- The short convolution of a tile. -/
theorem short_at (b w0 w1 w2 w3 : Vec Ideal S1x512 .f32) (s0 s1 s2 s3 : Vec Ideal S512x512 .f32) (r k : Fin 512) :
    k0_pay23 (F := Ideal) (k0_pay22 b w0 s0 w1 s1 w2 s2) w3 s3 (ix2 r k) = b (ix2 0 k) + (w0 (ix2 0 k) * s0 (ix2 r k)
      + w1 (ix2 0 k) * s1 (ix2 r k) + w2 (ix2 0 k) * s2 (ix2 r k) + w3 (ix2 0 k) * s3 (ix2 r k)) := by
  unfold k0_pay23 k0_pay22
  pointwise
  simp only [add_assoc]

/-- A row of a block. -/
abbrev rowOf {n : ℕ} (x : Vec Ideal ⟨2, ![n, 1024]⟩ .f32) (r : Fin n) (k : Fin 1024) : EReal := x (ix2 r k)

/-- The gated values of the two first quarters of a row. -/
theorem glu_at (v g : Vec Ideal S512x512 .f32) (r k : Fin 512) :
    k0_pay6 (F := Ideal) v g (ix2 r k) = v (ix2 r k) * Ffn.sig (g (ix2 r k)) := by
  unfold k0_pay6
  pointwise [Ffn.sig, zero_sub]

/-- The projected rows of a tile. -/
theorem proj_at (x : Vec Ideal S512x1024 .f32) (g : Vec Ideal S1x1024 .f32) (w : Vec Ideal S2048x1024 .bf16) (r : Fin 512) (j : Fin 2048) :
    k0_pay5 (F := Ideal) x g w (ix2 r j) = ∑ k, Ffn.normed (rowOf x r) (rowOf g 0) k * w (ix2 j k) := by
  unfold k0_pay5
  pointwise [Ffn.normed, Ffn.rstd]

end Cert.Proof.Mix

end
-- ==== Proof.Mix.Stores.lean ====
module

public import proofs.«01_k».proof.Proof.Gen.Kernel4Ideal.Value
public import proofs.«01_k».proof.Proof.Mix.Tile
public import proofs.«01_k».proof.Proof.Shared.Slab
public import Idealize.ShloMosaic.Lib.WholeRead
public import Idealize.ShloMosaic.Lib.WritesUnit
public import Idealize.ShloMosaic.Lib.Pipeline.ValueKit

@[expose] public section

set_option maxRecDepth 16384

noncomputable section

/-! What the body stores at a point, by the rows of its blocks. -/

namespace Cert.Proof.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

theorem hz : (![0, 0] : Fin 2 → ℕ) = fun _ => 0 := funext fun a => by fin_cases a <;> rfl

/-- A load of a whole buffer. -/
theorem load_whole {S : Shape} {e : EltTy} (m : Memref sig .tc .vmem S e) (h : m.IsWhole) (x : Vec Ideal S e) {off : Fin S.rank → ℕ}
    (ho : off = fun _ => 0) (inb : ∀ a, off a + S.size a ≤ S.size a) :
    View.readAt (Elt Ideal) m.view (Rect.unit off S.size inb).toLoadRect (h.unread x) = x := by
  rw [View.readAt_eq_ld, h.read_unread, View.ld_unit_zero ho]

/-- A load of one row. -/
theorem load_row {N a : ℕ} (m : Memref sig .tc .vmem ⟨2, ![N, 512]⟩ .f32) (h : m.IsWhole) (x : Vec Ideal ⟨2, ![N, 512]⟩ .f32)
    (inb : ∀ b, (![a, 0] : Fin 2 → ℕ) b + (![1, 512] : Fin 2 → ℕ) b ≤ (![N, 512] : Fin 2 → ℕ) b) (q : Fin N) (hq : q.val = a) (k : Fin 512) :
    View.readAt (Elt Ideal) m.view (Rect.unit (s := ⟨2, ![N, 512]⟩) ![a, 0] ![1, 512] inb).toLoadRect (h.unread x) (ix2 0 k) = x (ix2 q k) := by
  rw [View.readAt_eq_ld, h.read_unread]
  refine View.ld_unit_apply_of _ _ _ _ _ _ fun b => ?_
  fin_cases b
  · exact hq.trans (Nat.add_zero _).symm
  · exact (Nat.zero_add _).symm

section
variable {N o W a n : ℕ} (v : View sig .tc .vmem ⟨2, ![N, 512]⟩ .f32) (f : v.ty.Contents (Elt Ideal))
  (inb : ∀ a, (![o, 0] : Fin 2 → ℕ) a + (![W, 512] : Fin 2 → ℕ) a ≤ (![N, 512] : Fin 2 → ℕ) a)
  (w : Vec Ideal ⟨2, ![W, 512]⟩ .f32) (L : List (View.Piece (Elt Ideal) ⟨2, ![N, 512]⟩ .f32)) (k : Fin 512) (P : ℕ → EReal)

/-- A load of rows. -/
theorem window_at (inb' : ∀ b, (![a, 0] : Fin 2 → ℕ) b + (![n, 512] : Fin 2 → ℕ) b ≤ (![N, 512] : Fin 2 → ℕ) b) (j : Fin n) (q : Fin N)
    (hq : q.val = a + j.val) :
    v.readAt (Elt Ideal) (Rect.unit (s := ⟨2, ![N, 512]⟩) ![a, 0] ![n, 512] inb').toLoadRect f (ix2 j k) = v.read (Elt Ideal) f (ix2 q k) := by
  refine congrArg (v.read (Elt Ideal) f) (funext fun b => Fin.ext ?_)
  fin_cases b
  · exact (congrArg (a + ·) (Nat.one_mul _)).trans hq.symm
  · exact (congrArg (0 + ·) (Nat.one_mul _)).trans (Nat.zero_add _)

/-- A row that the newest store wrote. -/
theorem read_past (q : Fin N) (j : Fin W) (h : q.val = o + j.val) :
    v.read (Elt Ideal) (v.writes (Elt Ideal) f (⟨Rect.unit (s := ⟨2, ![N, 512]⟩) ![o, 0] ![W, 512] inb, w⟩ :: L)) (ix2 q k) = w (ix2 j k) :=
  View.read_writes_cons_rows_of_mem v f inb w L _ (ix2 j k) rfl h rfl

/-- A buffer whose rows, before and in the newest store, are places of a sequence. -/
theorem buffer_at (hN : N = o + W) (hb : ∀ q : Fin N, q.val < o → v.read (Elt Ideal) (v.writes (Elt Ideal) f L) (ix2 q k) = P q.val)
    (ht : ∀ q : Fin W, w (ix2 q k) = P (o + q.val)) (q : Fin N) :
    v.read (Elt Ideal) (v.writes (Elt Ideal) f (⟨Rect.unit (s := ⟨2, ![N, 512]⟩) ![o, 0] ![W, 512] inb, w⟩ :: L)) (ix2 q k) = P q.val := by
  by_cases h : q.val < o
  · exact (View.read_writes_cons_rows_of_not_mem v f inb w L _ rfl rfl (Or.inl h)).trans (hb q h)
  · have hq : q.val = o + (q.val - o) := by omega
    exact (read_past v f inb w L k q ⟨q.val - o, by have := q.isLt; omega⟩ hq).trans ((ht _).trans (congrArg P hq.symm))

end

/-- A quarter of the stored projection, loaded again. -/
theorem quarter_at (v : View sig .tc .vmem S512x2048 .f32) (z : Vec Ideal S512x2048 .f32) (o : ℕ) (ho : o + 512 ≤ 2048)
    (inb : ∀ a, (![0, 0] : Fin 2 → ℕ) a + S512x2048.size a ≤ S512x2048.size a)
    (inb' : ∀ a, (![0, o] : Fin 2 → ℕ) a + S512x512.size a ≤ S512x2048.size a) (r k : Fin 512) :
    v.readCov [⟨Rect.unit ![0, 0] S512x2048.size inb, z⟩] (Rect.unit (s := S512x2048) ![0, o] S512x512.size inb').toLoadRect (ix2 r k)
      = z (ix2 r ⟨o + k.val, by have := k.isLt; omega⟩) := by
  rw [View.readCov_eq_canon', View.canon_unit_zero hz]
  refine congrArg z (funext fun b => Fin.ext ?_)
  fin_cases b
  · exact (congrArg (0 + ·) (Nat.one_mul _)).trans (Nat.zero_add _)
  · exact congrArg (o + ·) (Nat.one_mul _)

theorem pay2_at (x : S32x512.Idx) : k0_pay2 (F := Ideal) x = 0 := by
  unfold k0_pay2
  rw [shapeCast_self]
  exact Ideal.ofBits_zero_f32
theorem pay3_at (x : S8x512.Idx) : k0_pay3 (F := Ideal) x = 0 := by
  unfold k0_pay3
  rw [shapeCast_self]
  exact Ideal.ofBits_zero_f32
theorem pay7_eq (v : Vec Ideal S512x512 .f32) : k0_pay7 (F := Ideal) v = v := shapeCast_self _ _
theorem pay17_eq (v : Vec Ideal S32x512 .f32) : k0_pay17 (F := Ideal) v = v := shapeCast_self _ _
theorem pay21_eq (v : Vec Ideal S512x512 .f32) : k0_pay21 (F := Ideal) v = v := (shapeCast_self _ _).trans (shapeCast_self _ _)
theorem pay24_eq (v : Vec Ideal S8x512 .f32) : k0_pay24 (F := Ideal) v = v := shapeCast_self _ _

/-- The gated values of a tile. -/
def gluTile (z : Vec Ideal S512x2048 .f32) (r k : Fin 512) : EReal :=
  z (ix2 r ⟨0 + k.val, by have := k.isLt; omega⟩) * Ffn.sig (z (ix2 r ⟨512 + k.val, by have := k.isLt; omega⟩))

/-- The third quarter of a tile. -/
def thirdTile (z : Vec Ideal S512x2048 .f32) (r k : Fin 512) : EReal := z (ix2 r ⟨1024 + k.val, by have := k.isLt; omega⟩)

section
variable (v : View sig .tc .vmem S512x2048 .f32) (z : Vec Ideal S512x2048 .f32)
    (inb : ∀ a, (![0, 0] : Fin 2 → ℕ) a + S512x2048.size a ≤ S512x2048.size a)

/-- What the body stores in the first buffer. -/
abbrev putU (i0 : ∀ a, (![0, 0] : Fin 2 → ℕ) a + S512x512.size a ≤ S512x2048.size a)
    (i1 : ∀ a, (![0, 512] : Fin 2 → ℕ) a + S512x512.size a ≤ S512x2048.size a) : Vec Ideal S512x512 .f32 :=
  k0_pay7 (F := Ideal) (k0_pay6 (v.readCov [⟨Rect.unit ![0, 0] S512x2048.size inb, z⟩] (Rect.unit (s := S512x2048) ![0, 0] S512x512.size i0).toLoadRect)
    (v.readCov [⟨Rect.unit ![0, 0] S512x2048.size inb, z⟩] (Rect.unit (s := S512x2048) ![0, 512] S512x512.size i1).toLoadRect))

theorem putU_at (i0) (i1) (r k : Fin 512) : putU v z inb i0 i1 (ix2 r k) = gluTile z r k := by
  refine (congrFun (pay7_eq _) _).trans ((glu_at _ _ r k).trans ?_)
  rw [quarter_at v z 0 (by decide), quarter_at v z 512 (by decide)]
  rfl

/-- What the body stores in the second buffer. -/
abbrev putR (i2 : ∀ a, (![0, 1024] : Fin 2 → ℕ) a + S512x512.size a ≤ S512x2048.size a) : Vec Ideal S512x512 .f32 :=
  k0_pay21 (F := Ideal) (v.readCov [⟨Rect.unit ![0, 0] S512x2048.size inb, z⟩] (Rect.unit (s := S512x2048) ![0, 1024] S512x512.size i2).toLoadRect)

theorem putR_at (i2) (r k : Fin 512) : putR v z inb i2 (ix2 r k) = thirdTile z r k := by
  exact (congrFun (pay21_eq _) _).trans (quarter_at v z 1024 (by decide) _ _ r k)

end

section
variable (c : Dev nD) (i : grid0.Coords)
  (a1 : Memref sig .tc .vmem S512x1024 .f32) (h1 : a1.IsWhole)
  (a2 : Memref sig .tc .vmem S1x1024 .f32) (h2 : a2.IsWhole)
  (a3 : Memref sig .tc .vmem S2048x1024 .bf16) (h3 : a3.IsWhole)
  (a4 : Memref sig .tc .vmem S1024x1024 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S31x512 .f32) (h7 : a7.IsWhole)
  (a8 : Memref sig .tc .vmem S4x512 .f32) (h8 : a8.IsWhole)
  (a9 : Memref sig .tc .vmem S56x512 .f32) (h9 : a9.IsWhole)
  (a10 : Memref sig .tc .vmem S512x1024 .f32) (h10 : a10.IsWhole)
  (a11 : Memref sig .tc .vmem S512x2048 .f32) (h11 : a11.IsWhole)
  (a12 : Memref sig .tc .vmem S512x1024 .bf16) (h12 : a12.IsWhole)
  (a13 : Memref sig .tc .vmem S512x512 .f32) (h13 : a13.IsWhole)
  (a14 : Memref sig .tc .vmem S512x512 .f32) (h14 : a14.IsWhole)
  (a15 : Memref sig .tc .vmem S512x512 .f32) (h15 : a15.IsWhole)
  (a16 : Memref sig .tc .vmem S544x512 .f32) (h16 : a16.IsWhole)
  (a17 : Memref sig .tc .vmem S520x512 .f32) (h17 : a17.IsWhole)
  (a18 : Memref sig .tc .vmem S8x512 .f32) (h18 : a18.IsWhole)
  (x0 : Vec Ideal S512x1024 .f32) (x1 : Vec Ideal S1x1024 .f32) (x2 : Vec Ideal S2048x1024 .bf16) (x3 : Vec Ideal S1024x1024 .bf16)
  (x4 x5 : Vec Ideal S512x512 .bf16) (x6 : Vec Ideal S31x512 .f32) (x7 : Vec Ideal S4x512 .f32) (x8 : Vec Ideal S56x512 .f32)
  (s0 : Vec Ideal S544x512 .f32) (s1 : Vec Ideal S520x512 .f32) (s2 : Vec Ideal S8x512 .f32)
  (hc : ¬cond0_0 i) (hc' : cond0_0 i) (r k : Fin 512) (P : ℕ → EReal)

abbrev later := kernelRun0_B c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 s0 s1 s2

abbrev first := kernelRun0_A c i a1 h1 a2 h2 a3 h3 a4 h4 a5 h5 a6 h6 a7 h7 a8 h8 a9 h9 a10 h10 a11 h11 a12 h12 a13 h13 a14 h14 a15 h15 a16 h16 a17 h17 a18 h18 hc' x0 x1 x2 x3 x4 x5 x6 x7 x8

theorem rowInb (j : Fin 31) : ∀ a, (![j.val, 0] : Fin 2 → ℕ) a + S1x512.size a ≤ S31x512.size a := by revert j; decide

/-- The rows of the long convolution, where every row of the buffer is a place of a sequence. -/
theorem long_of (s : Vec Ideal S544x512 .f32) (hs : ∀ q : Fin 544, s (ix2 q k) = P q.val) (b : Vec Ideal S1x512 .f32) :
    sum5 s b (fun j => View.readAt (Elt Ideal) a7.view (Rect.unit (s := S31x512) ![j.val, 0] S1x512.size (rowInb j)).toLoadRect (h7.unread x6)) (ix2 r k)
      = b (ix2 0 k) + ∑ j : Fin 31, x6 (ix2 j k) * P (r.val + j.val + 2) := by
  rw [conv_at]
  refine congrArg (b (ix2 0 k) + ·) (Finset.sum_congr rfl fun j _ => ?_)
  unfold tap
  rw [hs]
  exact congrArg (· * _) (load_row a7 h7 x6 _ j rfl k)

/-- The rows of the short convolution, likewise. -/
theorem short_of (G : a17.view.ty.Contents (Elt Ideal)) (hg : ∀ q : Fin 520, a17.view.read (Elt Ideal) G (ix2 q k) = P q.val)
    (v : Vec Ideal S512x512 .f32) (hv : v (ix2 r k) = P (8 + r.val)) (ib i0 i1 i2 i3 j0 j1 j2) :
    k0_pay23 (F := Ideal) (k0_pay22 (View.readAt (Elt Ideal) a9.view (Rect.unit (s := S56x512) ![24, 0] S1x512.size ib).toLoadRect (h9.unread x8))
        (View.readAt (Elt Ideal) a8.view (Rect.unit (s := S4x512) ![0, 0] S1x512.size i0).toLoadRect (h8.unread x7))
        (View.readAt (Elt Ideal) a17.view (Rect.unit (s := S520x512) ![5, 0] S512x512.size j0).toLoadRect G)
        (View.readAt (Elt Ideal) a8.view (Rect.unit (s := S4x512) ![1, 0] S1x512.size i1).toLoadRect (h8.unread x7))
        (View.readAt (Elt Ideal) a17.view (Rect.unit (s := S520x512) ![6, 0] S512x512.size j1).toLoadRect G)
        (View.readAt (Elt Ideal) a8.view (Rect.unit (s := S4x512) ![2, 0] S1x512.size i2).toLoadRect (h8.unread x7))
        (View.readAt (Elt Ideal) a17.view (Rect.unit (s := S520x512) ![7, 0] S512x512.size j2).toLoadRect G))
      (View.readAt (Elt Ideal) a8.view (Rect.unit (s := S4x512) ![3, 0] S1x512.size i3).toLoadRect (h8.unread x7))
      v (ix2 r k)
      = x8 (ix2 24 k) + ∑ j : Fin 4, x7 (ix2 j k) * P (r.val + j.val + 5) := by
  have hp : ∀ (o : ℕ) (j : Fin 4) (ho : o = 5 + j.val) (inb), View.readAt (Elt Ideal) a17.view
      (Rect.unit (s := S520x512) ![o, 0] S512x512.size inb).toLoadRect G (ix2 r k) = P (r.val + j.val + 5) := fun o j ho inb =>
    (window_at a17.view G k inb r ⟨o + r.val, by have := r.isLt; have := j.isLt; omega⟩ rfl).trans
      ((hg _).trans (congrArg P (by dsimp only; omega)))
  rw [short_at, Fin.sum_univ_four]
  refine congrArg₂ (· + ·) (load_row a9 h9 x8 ib 24 rfl k) (congrArg₂ (· + ·) (congrArg₂ (· + ·) (congrArg₂ (· + ·) ?_ ?_) ?_) ?_)
  · exact congrArg₂ (· * ·) (load_row a8 h8 x7 i0 0 rfl k) (hp 5 0 rfl j0)
  · exact congrArg₂ (· * ·) (load_row a8 h8 x7 i1 1 rfl k) (hp 6 1 rfl j1)
  · exact congrArg₂ (· * ·) (load_row a8 h8 x7 i2 2 rfl k) (hp 7 2 rfl j2)
  · exact congrArg₂ (· * ·) (load_row a8 h8 x7 i3 3 rfl k) (hv.trans (congrArg P (by change _ = r.val + 3 + 5; omega)))

theorem readCov_def {S : Shape} (v : View sig .tc .vmem S .f32) (L : List (View.Piece (Elt Ideal) S .f32)) (B : LoadRect S) :
    v.readCov L B = v.readAt (Elt Ideal) B (v.writes (Elt Ideal) v.junk L) := rfl

theorem later_z : View.canon (later c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 s0 s1 s2 hc).2.1 = k0_pay5 (F := Ideal) x0 x1 x2 := by
  unfold later kernelRun0_B
  dsimp only
  sl_unfold_words
  rw [View.canon_unit_zero hz, load_whole a1 h1 x0 hz, load_whole a2 h2 x1 hz, load_whole a3 h3 x2 hz]

theorem later_u (hS : ∀ q : Fin 544, q.val < 32 → s0 (ix2 q k) = P q.val) (hT : ∀ q : Fin 512, gluTile (k0_pay5 (F := Ideal) x0 x1 x2) q k = P (32 + q.val)) :
    View.canon (later c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 s0 s1 s2 hc).2.2.2.1 (ix2 r k)
      = x8 (ix2 0 k) + ∑ j : Fin 31, x6 (ix2 j k) * P (r.val + j.val + 2) := by
  unfold later kernelRun0_B
  dsimp only
  sl_unfold_words
  rw [View.canon_unit_zero hz]
  simp only [load_whole a1 h1 x0 hz, load_whole a2 h2 x1 hz, load_whole a3 h3 x2 hz]
  generalize hV : View.readAt (Elt Ideal) a16.view _ _ = V
  refine (long_of a7 h7 x6 r k P V (fun q => ?_) _).trans (congrArg (· + _) (load_row a9 h9 x8 _ 0 rfl k))
  subst hV
  refine (window_at _ _ k _ q q (Nat.zero_add _).symm).trans ?_
  exact buffer_at _ _ _ _ _ k P rfl (fun q hq => (congrFun (h16.read_unread s0) _).trans (hS q hq)) (fun q => (putU_at _ _ _ _ _ q k).trans (hT q)) q

theorem later_r (hS : ∀ q : Fin 520, q.val < 8 → s1 (ix2 q k) = P q.val) (hT : ∀ q : Fin 512, thirdTile (k0_pay5 (F := Ideal) x0 x1 x2) q k = P (8 + q.val)) :
    View.canon (later c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 s0 s1 s2 hc).2.2.2.2.1 (ix2 r k)
      = x8 (ix2 24 k) + ∑ j : Fin 4, x7 (ix2 j k) * P (r.val + j.val + 5) := by
  unfold later kernelRun0_B
  dsimp only
  sl_unfold_words
  rw [View.canon_unit_zero hz]
  simp only [load_whole a1 h1 x0 hz, load_whole a2 h2 x1 hz, load_whole a3 h3 x2 hz]
  generalize hG : a17.view.writes (Elt Ideal) _ _ = G
  have hg : ∀ q : Fin 520, a17.view.read (Elt Ideal) G (ix2 q k) = P q.val := by
    subst hG
    exact buffer_at _ _ _ _ _ k P rfl (fun q hq => (congrFun (h17.read_unread s1) _).trans (hS q hq)) (fun q => (putR_at _ _ _ _ q k).trans (hT q))
  exact short_of a8 h8 a9 h9 a17 x7 x8 r k P G hg _ ((window_at a17.view _ k _ r ⟨8 + r.val, by have := r.isLt; omega⟩ rfl).trans
    ((read_past _ _ _ _ _ k _ r rfl).trans ((putR_at _ _ _ _ r k).trans (hT r)))) _ _ _ _ _ _ _ _

theorem later_keepU (q : Fin 544) (j : Fin 32) (hq : q.val = j.val) (t : Fin 512) (ht : t.val = 480 + j.val) :
    View.canon (later c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 s0 s1 s2 hc).2.2.2.2.2.2.1 (ix2 q k) = gluTile (k0_pay5 (F := Ideal) x0 x1 x2) t k := by
  unfold later kernelRun0_B
  dsimp only
  sl_unfold_words
  simp only [load_whole a1 h1 x0 hz, load_whole a2 h2 x1 hz, load_whole a3 h3 x2 hz]
  rw [← View.read_writes_junk_eq_canon a16.view]
  refine (read_past _ _ _ _ _ k q j (hq.trans (Nat.zero_add _).symm)).trans ((congrFun (pay17_eq _) _).trans ?_)
  refine (window_at a16.view _ k _ j ⟨512 + j.val, by have := j.isLt; omega⟩ rfl).trans ?_
  exact (read_past _ _ _ _ _ k _ t (by dsimp only; omega)).trans (putU_at _ _ _ _ _ t k)

theorem later_keepR (q : Fin 520) (j : Fin 8) (hq : q.val = j.val) (t : Fin 512) (ht : t.val = 504 + j.val) :
    View.canon (later c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 s0 s1 s2 hc).2.2.2.2.2.2.2.1 (ix2 q k) = thirdTile (k0_pay5 (F := Ideal) x0 x1 x2) t k := by
  unfold later kernelRun0_B
  dsimp only
  sl_unfold_words
  simp only [load_whole a1 h1 x0 hz, load_whole a2 h2 x1 hz, load_whole a3 h3 x2 hz]
  rw [← View.read_writes_junk_eq_canon a17.view]
  refine (read_past _ _ _ _ _ k q j (hq.trans (Nat.zero_add _).symm)).trans ((congrFun (pay24_eq _) _).trans ?_)
  refine (window_at a17.view _ k _ j ⟨512 + j.val, by have := j.isLt; omega⟩ rfl).trans ?_
  exact (read_past _ _ _ _ _ k _ t (by dsimp only; omega)).trans (putR_at _ _ _ _ t k)

theorem first_z : View.canon (first c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 hc').2.1 = k0_pay5 (F := Ideal) x0 x1 x2 := by
  unfold first kernelRun0_A
  dsimp only
  sl_unfold_words
  rw [View.canon_unit_zero hz, load_whole a1 h1 x0 hz, load_whole a2 h2 x1 hz, load_whole a3 h3 x2 hz]

theorem first_u (hS : ∀ q < 32, P q = 0) (hT : ∀ q : Fin 512, gluTile (k0_pay5 (F := Ideal) x0 x1 x2) q k = P (32 + q.val)) :
    View.canon (first c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 hc').2.2.2.1 (ix2 r k)
      = x8 (ix2 0 k) + ∑ j : Fin 31, x6 (ix2 j k) * P (r.val + j.val + 2) := by
  unfold first kernelRun0_A
  dsimp only
  sl_unfold_words
  rw [View.canon_unit_zero hz]
  simp only [readCov_def a16.view, load_whole a1 h1 x0 hz, load_whole a2 h2 x1 hz, load_whole a3 h3 x2 hz]
  generalize hV : View.readAt (Elt Ideal) a16.view _ _ = V
  refine (long_of a7 h7 x6 r k P V (fun q => ?_) _).trans (congrArg (· + _) (load_row a9 h9 x8 _ 0 rfl k))
  subst hV
  refine (window_at _ _ k _ q q (Nat.zero_add _).symm).trans ?_
  exact buffer_at _ _ _ _ _ k P rfl (fun q hq => (read_past _ _ _ _ _ k q ⟨q.val, hq⟩ (Nat.zero_add _).symm).trans ((pay2_at _).trans (hS q.val hq).symm)) (fun q => (putU_at _ _ _ _ _ q k).trans (hT q)) q

theorem first_r (hS : ∀ q < 8, P q = 0) (hT : ∀ q : Fin 512, thirdTile (k0_pay5 (F := Ideal) x0 x1 x2) q k = P (8 + q.val)) :
    View.canon (first c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 hc').2.2.2.2.1 (ix2 r k)
      = x8 (ix2 24 k) + ∑ j : Fin 4, x7 (ix2 j k) * P (r.val + j.val + 5) := by
  unfold first kernelRun0_A
  dsimp only
  sl_unfold_words
  rw [View.canon_unit_zero hz]
  simp only [readCov_def a17.view, load_whole a1 h1 x0 hz, load_whole a2 h2 x1 hz, load_whole a3 h3 x2 hz]
  generalize hG : a17.view.writes (Elt Ideal) _ _ = G
  have hg : ∀ q : Fin 520, a17.view.read (Elt Ideal) G (ix2 q k) = P q.val := by
    subst hG
    exact buffer_at _ _ _ _ _ k P rfl (fun q hq => (read_past _ _ _ _ _ k q ⟨q.val, hq⟩ (Nat.zero_add _).symm).trans ((pay3_at _).trans (hS q.val hq).symm)) (fun q => (putR_at _ _ _ _ q k).trans (hT q))
  exact short_of a8 h8 a9 h9 a17 x7 x8 r k P G hg _ ((window_at a17.view G k _ r ⟨8 + r.val, by have := r.isLt; omega⟩ rfl).trans (hg _))
    _ _ _ _ _ _ _ _

theorem first_keepU (q : Fin 544) (j : Fin 32) (hq : q.val = j.val) (t : Fin 512) (ht : t.val = 480 + j.val) :
    View.canon (first c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 hc').2.2.2.2.2.2.1 (ix2 q k) = gluTile (k0_pay5 (F := Ideal) x0 x1 x2) t k := by
  unfold first kernelRun0_A
  dsimp only
  sl_unfold_words
  simp only [load_whole a1 h1 x0 hz, load_whole a2 h2 x1 hz, load_whole a3 h3 x2 hz]
  rw [← View.read_writes_junk_eq_canon a16.view]
  refine (read_past _ _ _ _ _ k q j (hq.trans (Nat.zero_add _).symm)).trans ((congrFun (pay17_eq _) _).trans ?_)
  refine (window_at a16.view _ k _ j ⟨512 + j.val, by have := j.isLt; omega⟩ rfl).trans ?_
  exact (read_past _ _ _ _ _ k _ t (by dsimp only; omega)).trans (putU_at _ _ _ _ _ t k)

theorem first_keepR (q : Fin 520) (j : Fin 8) (hq : q.val = j.val) (t : Fin 512) (ht : t.val = 504 + j.val) :
    View.canon (first c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 hc').2.2.2.2.2.2.2.1 (ix2 q k) = thirdTile (k0_pay5 (F := Ideal) x0 x1 x2) t k := by
  unfold first kernelRun0_A
  dsimp only
  sl_unfold_words
  simp only [load_whole a1 h1 x0 hz, load_whole a2 h2 x1 hz, load_whole a3 h3 x2 hz]
  rw [← View.read_writes_junk_eq_canon a17.view]
  refine (read_past _ _ _ _ _ k q j (hq.trans (Nat.zero_add _).symm)).trans ((congrFun (pay24_eq _) _).trans ?_)
  refine (window_at a17.view _ k _ j ⟨512 + j.val, by have := j.isLt; omega⟩ rfl).trans ?_
  exact (read_past _ _ _ _ _ k _ t (by dsimp only; omega)).trans (putR_at _ _ _ _ t k)

end

end Cert.Proof.Mix

end
-- ==== Proof.Shared.Mixer.lean ====
module

public import proofs.«01_k».proof.Proof.Shared.Conv
public import proofs.«01_k».proof.Proof.Shared.Ffn

@[expose] public section

noncomputable section

/-! The first half of the mixer: the projected rows in four quarters, the long convolution of the gated first two, and the short
convolution of the third. -/

namespace Cert.Proof.Mixer

open Idealize.ShloMosaic

variable (x : Fin 8192 → Fin 1024 → EReal) (g : Fin 1024 → EReal) (w : Fin 1024 → Fin 2048 → EReal)

/-- A projected row. -/
def proj (r : Fin 8192) (j : Fin 2048) : EReal := ∑ k, Ffn.normed (x r) g k * w k j

/-- A column of one of the four quarters of a projected row. -/
abbrev quarter (q : Fin 4) (k : Fin 512) : Fin 2048 := ⟨q.val * 512 + k.val, by have := q.isLt; have := k.isLt; omega⟩

theorem quarter_eq (k : Fin 512) : quarter 0 k = ⟨k.val, by have := k.isLt; omega⟩ ∧ quarter 1 k = ⟨512 + k.val, by have := k.isLt; omega⟩
    ∧ quarter 2 k = ⟨1024 + k.val, by have := k.isLt; omega⟩ :=
  ⟨Fin.ext (by simp), Fin.ext (by simp), Fin.ext (by simp)⟩

/-- The first quarter, gated by the second. -/
def glu (r : Fin 8192) (k : Fin 512) : EReal := proj x g w r (quarter 0 k) * Ffn.sig (proj x g w r (quarter 1 k))

/-- The long convolution. -/
def long (cw : Fin 31 → Fin 512 → EReal) (cb : Fin 512 → EReal) (r : Fin 8192) (k : Fin 512) : EReal :=
  Conv.conv (K := 30) (fun i => cw i k) (cb k) (Conv.seq fun r => glu x g w r k) r.val

/-- The short convolution. -/
def short (lw : Fin 4 → Fin 512 → EReal) (lb : Fin 512 → EReal) (r : Fin 8192) (k : Fin 512) : EReal :=
  Conv.conv (K := 3) (fun i => lw i k) (lb k) (Conv.seq fun r => proj x g w r (quarter 2 k)) r.val

end Cert.Proof.Mixer

end
-- ==== Proof.Mix.Result.lean ====
module

public import proofs.«01_k».proof.Proof.Mix.Stores
public import proofs.«01_k».proof.Proof.Shared.Mixer
public import proofs.«01_k».proof.Proof.Shared.Stack
public import Idealize.ShloMosaic.Lib.Pipeline.ValueKit
public import Idealize.ShloMosaic.Lib.Claim
public import Idealize.ShloMosaic.Lib.StableHlo.RunRead

@[expose] public section

set_option maxRecDepth 16384

noncomputable section

/-! The arrays that the mixer leaves, by the arguments' rows. -/

namespace Cert.Proof.Mix

open Idealize.ShloMosaic Idealize.ShloMosaic.TcCoe Idealize.ShloMosaic.Tactic
open Idealize.ShloMosaic.Pipeline (Dat Cfg Window BodyObligation cellOf)
open Cert.Kernel4Ideal Cert.Kernel4Ideal.Gen

variable (m : (ℓ : Loc nD τ sig) → Buf (Elt Ideal) ℓ) (c : Dev nD)

/-! The arguments, by their rows and columns. -/

abbrev argX (r : Fin 8192) (k : Fin 1024) : EReal := m ((c.tc : Thread nD τ).loc main_arg0) (ix2 r k)
abbrev argG (k : Fin 1024) : EReal := m ((c.tc : Thread nD τ).loc main_arg1) (ix1 k)
abbrev argW (k : Fin 1024) (j : Fin 2048) : EReal := m ((c.tc : Thread nD τ).loc main_arg2) (ix2 k j)
abbrev argLong (i : Fin 31) (k : Fin 512) : EReal := m ((c.tc : Thread nD τ).loc main_arg3) (ix2 i k)
abbrev argLongBias (k : Fin 512) : EReal := m ((c.tc : Thread nD τ).loc main_arg4) (ix1 k)
abbrev argShort (i : Fin 4) (k : Fin 512) : EReal := m ((c.tc : Thread nD τ).loc main_arg7) (ix2 i k)
abbrev argShortBias (k : Fin 512) : EReal := m ((c.tc : Thread nD τ).loc main_arg8) (ix1 k)

theorem host_gain (k : Fin 1024) : V m c main_v41 (ix2 0 k) = argG m c k := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  pointwise

theorem host_in (j : Fin 2048) (k : Fin 1024) : V m c main_v43 (ix2 j k) = argW m c k j := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  pointwise

theorem host_bias (k : Fin 512) :
    V m c main_v14 (ix2 0 k) = argLongBias m c k ∧ V m c main_v14 (ix2 24 k) = argShortBias m c k := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, StableHlo.TRef.unary, StableHlo.TRef.binary]
  after_reads_simp
  constructor
  all_goals
    pointwise
    after_reads_simp
    simp -implicitDefEqProofs only [StableHlo.TRef.toBuf, StableHlo.TRef.ofBuf, cast_cast, cast_eq]
    pointwise

/-- The rows of point `t`. -/
def row (t : Fin cfg0.N) (r : Fin 512) : Fin 8192 :=
  ⟨t.val * 512 + r.val, by have : t.val < 16 := lt_of_lt_of_eq t.isLt N_0; have := r.isLt; omega⟩

theorem index (t : Fin cfg0.N) : win0_0.index t = ![t.val, 0] ∧ win0_1.index t = ![0, 0] ∧ win0_2.index t = ![0, 0]
    ∧ win0_6.index t = ![0, 0] ∧ win0_7.index t = ![0, 0] ∧ win0_8.index t = ![0, 0]
    ∧ win0_10.index t = ![t.val, 0] ∧ win0_12.index t = ![t.val, 0] ∧ win0_13.index t = ![t.val, 0] :=
  (by decide +kernel : ∀ t : Fin grid0.N, win0_0.index t = ![t.val, 0] ∧ win0_1.index t = ![0, 0] ∧ win0_2.index t = ![0, 0]
    ∧ win0_6.index t = ![0, 0] ∧ win0_7.index t = ![0, 0] ∧ win0_8.index t = ![0, 0]
    ∧ win0_10.index t = ![t.val, 0] ∧ win0_12.index t = ![t.val, 0] ∧ win0_13.index t = ![t.val, 0]) t

/-! The blocks that a point reads. -/

theorem x_at (t : Fin cfg0.N) (r : Fin 512) (k : Fin 1024) : iblk m c 0 t (ix2 r k) = argX m c (row t r) k := by
  refine Eq.trans ?_ (congrFun (V_main_arg0 m c) (ix2 (row t r) k))
  blk_ext [iblk, index t, row]

theorem g_at (t : Fin cfg0.N) (k : Fin 1024) : iblk m c 1 t (ix2 0 k) = argG m c k := by
  refine Eq.trans ?_ (host_gain m c k)
  blk_ext [iblk, index t]

theorem w_at (t : Fin cfg0.N) (j : Fin 2048) (k : Fin 1024) : iblk m c 2 t (ix2 j k) = argW m c k j := by
  refine Eq.trans ?_ (host_in m c j k)
  blk_ext [iblk, index t]

abbrev tapLong (t : Fin cfg0.N) (i : Fin 31) (k : Fin 512) : EReal := iblk m c 6 t (ix2 i k)
abbrev tapShort (t : Fin cfg0.N) (i : Fin 4) (k : Fin 512) : EReal := iblk m c 7 t (ix2 i k)
abbrev biasRow (t : Fin cfg0.N) (i : Fin 56) (k : Fin 512) : EReal := iblk m c 8 t (ix2 i k)

theorem long_at (t : Fin cfg0.N) (i : Fin 31) (k : Fin 512) : tapLong m c t i k = argLong m c i k := by
  unfold tapLong
  refine Eq.trans ?_ (congrFun (V_main_arg3 m c) (ix2 i k))
  blk_ext [iblk, index t]

theorem few_at (t : Fin cfg0.N) (i : Fin 4) (k : Fin 512) : tapShort m c t i k = argShort m c i k := by
  unfold tapShort
  refine Eq.trans ?_ (congrFun (V_main_arg7 m c) (ix2 i k))
  blk_ext [iblk, index t]

theorem bias_at (t : Fin cfg0.N) (k : Fin 512) :
    biasRow m c t 0 k = argLongBias m c k ∧ biasRow m c t 24 k = argShortBias m c k := by
  unfold biasRow
  constructor
  · refine Eq.trans ?_ (host_bias m c k).1
    blk_ext [iblk, index t]
  · refine Eq.trans ?_ (host_bias m c k).2
    blk_ext [iblk, index t]

/-- The projected rows of a point. -/
abbrev projTile (t : Fin cfg0.N) : Vec Ideal S512x2048 .f32 := k0_pay5 (F := Ideal) (iblk m c 0 t) (iblk m c 1 t) (iblk m c 2 t)

abbrev projAt (r : Fin 8192) (j : Fin 2048) : EReal := Mixer.proj (argX m c) (argG m c) (argW m c) r j

theorem proj_tile (t : Fin cfg0.N) (r : Fin 512) (j : Fin 2048) : projTile m c t (ix2 r j) = projAt m c (row t r) j := by
  refine (proj_at ..).trans ?_
  rw [show rowOf (iblk m c 0 t) r = argX m c (row t r) from funext (x_at m c t r),
    show rowOf (iblk m c 1 t) 0 = argG m c from funext (g_at m c t)]
  simp only [w_at]
  rfl

/-- A column of the gated rows, and one of the third quarter, as sequences. -/
def gated (k : Fin 512) : ℕ → EReal := Conv.seq fun r => Mixer.glu (argX m c) (argG m c) (argW m c) r k
def third (k : Fin 512) : ℕ → EReal := Conv.seq fun r => projAt m c r (Mixer.quarter 2 k)

theorem glu_tile (t : Fin cfg0.N) (r k : Fin 512) : gluTile (projTile m c t) r k = gated m c k (t.val * 512 + r.val) := by
  unfold gluTile gated
  rw [proj_tile, proj_tile, show t.val * 512 + r.val = (row t r).val from rfl, Conv.seq_of_lt _ (row t r).isLt, Mixer.glu, (Mixer.quarter_eq k).1, (Mixer.quarter_eq k).2.1]
  simp only [Nat.zero_add]

theorem third_tile (t : Fin cfg0.N) (r k : Fin 512) : thirdTile (projTile m c t) r k = third m c k (t.val * 512 + r.val) := by
  unfold thirdTile third
  rw [proj_tile, show t.val * 512 + r.val = (row t r).val from rfl, Conv.seq_of_lt _ (row t r).isLt, (Mixer.quarter_eq k).2.2]

/-! What a point leaves in the two buffers: the rows that come before the next point's. -/

/-- Place `n` of a buffer before which `h` places stand, at point `t`. -/
abbrev place (h : ℕ) (s : ℕ → EReal) (t : ℕ) (n : ℕ) : EReal := Conv.padded h s (t * 512 + n)

theorem place_past (h : ℕ) (s : ℕ → EReal) (t n : ℕ) : place h s t (h + n) = s (t * 512 + n) := by
  rw [place, show t * 512 + (h + n) = h + (t * 512 + n) by omega, Conv.padded_past]

theorem kept_gated (t : Fin cfg0.N) (q : Fin 544) (hq : q.val < 32) (k : Fin 512) :
    (outsAt0 m c t.val t.isLt).2.2.2.2.2.2.1 (ix2 q k) = place 32 (gated m c k) (t.val + 1) q.val := by
  have e : place 32 (gated m c k) (t.val + 1) q.val = gluTile (projTile m c t) ⟨480 + q.val, by omega⟩ k := by
    rw [glu_tile, place, show (t.val + 1) * 512 + q.val = 32 + (t.val * 512 + (480 + q.val)) by omega, Conv.padded_past]
  rw [e]
  by_cases h0 : t.val % 16 = 0
  · refine (congrArg (fun o => o.2.2.2.2.2.2.1 (ix2 q k)) (outsAt0_A m c t h0)).trans ?_
    dsimp only
    unfold sout0_A_0
    rw [View.read_writes_junk_eq_canon]
    exact first_keepU (q := q) (j := ⟨q.val, hq⟩) (hq := rfl) (t := ⟨480 + q.val, by omega⟩) (ht := rfl) ..
  · refine (congrArg (fun o => o.2.2.2.2.2.2.1 (ix2 q k)) (outsAt0_B m c t h0)).trans ?_
    dsimp only
    unfold sout0_B_0
    rw [View.read_writes_junk_eq_canon]
    exact later_keepU (q := q) (j := ⟨q.val, hq⟩) (hq := rfl) (t := ⟨480 + q.val, by omega⟩) (ht := rfl) ..

theorem kept_third (t : Fin cfg0.N) (q : Fin 520) (hq : q.val < 8) (k : Fin 512) :
    (outsAt0 m c t.val t.isLt).2.2.2.2.2.2.2.1 (ix2 q k) = place 8 (third m c k) (t.val + 1) q.val := by
  have e : place 8 (third m c k) (t.val + 1) q.val = thirdTile (projTile m c t) ⟨504 + q.val, by omega⟩ k := by
    rw [third_tile, place, show (t.val + 1) * 512 + q.val = 8 + (t.val * 512 + (504 + q.val)) by omega, Conv.padded_past]
  rw [e]
  by_cases h0 : t.val % 16 = 0
  · refine (congrArg (fun o => o.2.2.2.2.2.2.2.1 (ix2 q k)) (outsAt0_A m c t h0)).trans ?_
    dsimp only
    unfold sout0_A_1
    rw [View.read_writes_junk_eq_canon]
    exact first_keepR (q := q) (j := ⟨q.val, hq⟩) (hq := rfl) (t := ⟨504 + q.val, by omega⟩) (ht := rfl) ..
  · refine (congrArg (fun o => o.2.2.2.2.2.2.2.1 (ix2 q k)) (outsAt0_B m c t h0)).trans ?_
    dsimp only
    unfold sout0_B_1
    rw [View.read_writes_junk_eq_canon]
    exact later_keepR (q := q) (j := ⟨q.val, hq⟩) (hq := rfl) (t := ⟨504 + q.val, by omega⟩) (ht := rfl) ..

/-! What a point stores. -/

theorem stored_z (t : Fin cfg0.N) (r : Fin 512) (j : Fin 2048) :
    (outsAt0 m c t.val t.isLt).2.1 (ix2 r j) = projAt m c (row t r) j := by
  rw [← proj_tile]
  by_cases h0 : t.val % 16 = 0
  · refine (congrArg (fun o => o.2.1 (ix2 r j)) (outsAt0_A m c t h0)).trans ?_
    dsimp only
    unfold out0_A_10
    rw [View.read_writes_junk_eq_canon]
    exact congrFun (first_z ..) _
  · refine (congrArg (fun o => o.2.1 (ix2 r j)) (outsAt0_B m c t h0)).trans ?_
    dsimp only
    unfold out0_B_10
    rw [View.read_writes_junk_eq_canon]
    exact congrFun (later_z ..) _

theorem stored_u (t : Fin cfg0.N) (r k : Fin 512) : (outsAt0 m c t.val t.isLt).2.2.2.1 (ix2 r k)
    = Mixer.long (argX m c) (argG m c) (argW m c) (argLong m c) (argLongBias m c) (row t r) k := by
  have e : Mixer.long (argX m c) (argG m c) (argW m c) (argLong m c) (argLongBias m c) (row t r) k
      = biasRow m c t 0 k + ∑ j : Fin 31, tapLong m c t j k * place 32 (gated m c k) t.val (r.val + j.val + 2) := by
    rw [(bias_at m c t k).1]
    unfold Mixer.long Conv.conv
    refine congrArg (argLongBias m c k + ·) (Finset.sum_congr rfl fun j _ => ?_)
    rw [long_at, place, show t.val * 512 + (r.val + j.val + 2) = ((row t r).val + j.val) + 2 by unfold row; dsimp only; omega,
      show (32 : ℕ) = 30 + 2 from rfl, Conv.padded_add]
    rfl
  have ht : ∀ q : Fin 512, gluTile (projTile m c t) q k = place 32 (gated m c k) t.val (32 + q.val) := fun q => by
    rw [glu_tile, place_past]
  rw [e]
  by_cases h0 : t.val % 16 = 0
  · refine (congrArg (fun o => o.2.2.2.1 (ix2 r k)) (outsAt0_A m c t h0)).trans ?_
    dsimp only
    unfold out0_A_12
    rw [View.read_writes_junk_eq_canon]
    have hz : t.val = 0 := by have : t.val < 16 := lt_of_lt_of_eq t.isLt N_0; omega
    exact first_u (P := place 32 (gated m c k) t.val) (hS := fun q hq => Conv.padded_before _ (by omega)) (hT := ht) ..
  · refine (congrArg (fun o => o.2.2.2.1 (ix2 r k)) (outsAt0_B m c t h0)).trans ?_
    dsimp only
    unfold out0_B_12
    rw [View.read_writes_junk_eq_canon]
    have hp : t.val - 1 + 1 = t.val := by have : t.val ≠ 0 := fun h => h0 (by rw [h]); omega
    refine later_u (P := place 32 (gated m c k) t.val) (hS := fun q hq => ?_) (hT := ht) ..
    exact (kept_gated m c ⟨t.val - 1, Nat.lt_of_le_of_lt (Nat.sub_le _ _) t.isLt⟩ q hq k).trans (by rw [hp])

theorem stored_r (t : Fin cfg0.N) (r k : Fin 512) : (outsAt0 m c t.val t.isLt).2.2.2.2.1 (ix2 r k)
    = Mixer.short (argX m c) (argG m c) (argW m c) (argShort m c) (argShortBias m c) (row t r) k := by
  have e : Mixer.short (argX m c) (argG m c) (argW m c) (argShort m c) (argShortBias m c) (row t r) k
      = biasRow m c t 24 k + ∑ j : Fin 4, tapShort m c t j k * place 8 (third m c k) t.val (r.val + j.val + 5) := by
    rw [(bias_at m c t k).2]
    unfold Mixer.short Conv.conv
    refine congrArg (argShortBias m c k + ·) (Finset.sum_congr rfl fun j _ => ?_)
    rw [few_at, place, show t.val * 512 + (r.val + j.val + 5) = ((row t r).val + j.val) + 5 by unfold row; dsimp only; omega,
      show (8 : ℕ) = 3 + 5 from rfl, Conv.padded_add]
    rfl
  have ht : ∀ q : Fin 512, thirdTile (projTile m c t) q k = place 8 (third m c k) t.val (8 + q.val) := fun q => by
    rw [third_tile, place_past]
  rw [e]
  by_cases h0 : t.val % 16 = 0
  · refine (congrArg (fun o => o.2.2.2.2.1 (ix2 r k)) (outsAt0_A m c t h0)).trans ?_
    dsimp only
    unfold out0_A_13
    rw [View.read_writes_junk_eq_canon]
    have hz : t.val = 0 := by have : t.val < 16 := lt_of_lt_of_eq t.isLt N_0; omega
    exact first_r (P := place 8 (third m c k) t.val) (hS := fun q hq => Conv.padded_before _ (by omega)) (hT := ht) ..
  · refine (congrArg (fun o => o.2.2.2.2.1 (ix2 r k)) (outsAt0_B m c t h0)).trans ?_
    dsimp only
    unfold out0_B_13
    rw [View.read_writes_junk_eq_canon]
    have hp : t.val - 1 + 1 = t.val := by have : t.val ≠ 0 := fun h => h0 (by rw [h]); omega
    refine later_r (P := place 8 (third m c k) t.val) (hS := fun q hq => ?_) (hT := ht) ..
    exact (kept_third m c ⟨t.val - 1, Nat.lt_of_le_of_lt (Nat.sub_le _ _) t.isLt⟩ q hq k).trans (by rw [hp])

/-! The arrays that the region leaves. -/

theorem array_z : (dats m 0 c).arrAt 10 cfg0.N = fun i => projAt m c (i 0) (i 1) := by
  refine (dats m 0 c).arrAt_eq_of_covers 10 _ (by decide +kernel) fun t hf y => ?_
  blk_simp
  rw [after0_10]
  idx_vars y
  rw [show ((View.whole main_v45_1).slice (win0_10.rect t)).emb (ix2 y0 y1) = ix2 (row t y0) y1 from by blk_ext [index t, row]]
  exact stored_z m c t y0 y1

theorem array_u : (dats m 0 c).arrAt 12 cfg0.N
    = fun i => Mixer.long (argX m c) (argG m c) (argW m c) (argLong m c) (argLongBias m c) (i 0) (i 1) := by
  refine (dats m 0 c).arrAt_eq_of_covers 12 _ (by decide +kernel) fun t hf y => ?_
  blk_simp
  rw [after0_12]
  idx_vars y
  rw [show ((View.whole main_v45_3).slice (win0_12.rect t)).emb (ix2 y0 y1) = ix2 (row t y0) y1 from by blk_ext [index t, row]]
  exact stored_u m c t y0 y1

theorem array_r : (dats m 0 c).arrAt 13 cfg0.N
    = fun i => Mixer.short (argX m c) (argG m c) (argW m c) (argShort m c) (argShortBias m c) (i 0) (i 1) := by
  refine (dats m 0 c).arrAt_eq_of_covers 13 _ (by decide +kernel) fun t hf y => ?_
  blk_simp
  rw [after0_13]
  idx_vars y
  rw [show ((View.whole main_v45_4).slice (win0_13.rect t)).emb (ix2 y0 y1) = ix2 (row t y0) y1 from by blk_ext [index t, row]]
  exact stored_r m c t y0 y1

end Cert.Proof.Mix

end
-- ==== Proof.Mix.Reference.lean ====
module

public import proofs.«01_k».proof.Proof.Gen.Reference4Ideal.Run
public import proofs.«01_k».proof.Proof.Gen.Reference4Ideal.Read
public import proofs.«01_k».proof.Proof.Shared.Mixer
public import Idealize.ShloMosaic.Lib.Pipeline.ValueKit
public import Idealize.ShloMosaic.Lib.Claim

@[expose] public section

set_option maxRecDepth 16384

noncomputable section

/-! The reference's mixer, read row by row. -/

namespace Cert.Proof.Mix

open Idealize.ShloMosaic
open Cert.Reference4Ideal Cert.Reference4Ideal.Gen Cert.Reference4Ideal.Read

variable (x : (⟨S8192x1024, .f32⟩ : BufTy).Contents (Elt Ideal)) (g : (⟨S1024, .f32⟩ : BufTy).Contents (Elt Ideal))
  (w : (⟨S1024x2048, .f32⟩ : BufTy).Contents (Elt Ideal)) (cw : (⟨S31x512, .f32⟩ : BufTy).Contents (Elt Ideal))
  (lw : (⟨S4x512, .f32⟩ : BufTy).Contents (Elt Ideal)) (cb lb : (⟨S512, .f32⟩ : BufTy).Contents (Elt Ideal))

/-! The arrays by their coordinates. -/

abbrev wide (a : (⟨S8192x1024, .f32⟩ : BufTy).Contents (Elt Ideal)) (r : Fin 8192) (k : Fin 1024) : EReal := a (ix2 r k)
abbrev gain (a : (⟨S1024, .f32⟩ : BufTy).Contents (Elt Ideal)) (k : Fin 1024) : EReal := a (ix1 k)
abbrev inward (a : (⟨S1024x2048, .f32⟩ : BufTy).Contents (Elt Ideal)) (k : Fin 1024) (f : Fin 2048) : EReal := a (ix2 k f)
abbrev taps (a : (⟨S31x512, .f32⟩ : BufTy).Contents (Elt Ideal)) (i : Fin 31) (k : Fin 512) : EReal := a (ix2 i k)
abbrev fewTaps (a : (⟨S4x512, .f32⟩ : BufTy).Contents (Elt Ideal)) (i : Fin 4) (k : Fin 512) : EReal := a (ix2 i k)
abbrev bias (a : (⟨S512, .f32⟩ : BufTy).Contents (Elt Ideal)) (k : Fin 512) : EReal := a (ix1 k)

theorem ref_unit (r : Fin 8192) (k : Fin 1024) : val_main_v9 (F := Ideal) x (ix2 r k) = x (ix2 r k) * Ffn.rstd (wide x r) := by
  pointwise [val_main_v9, val_main_v8, val_main_v7, val_main_v6, val_main_v5, val_main_v4, val_main_v3, val_main_v2, val_main_v1,
    val_main_v0, val_main_cst, val_main_cst_0, val_main_cst_1]
  rfl

theorem ref_normed (r : Fin 8192) (k : Fin 1024) : val_main_v12 (F := Ideal) x g (ix2 r k) = Ffn.normed (wide x r) (gain g) k := by
  pointwise [val_main_v12, val_main_v11, val_main_v10, ref_unit]
  rfl

theorem ref_proj (r : Fin 8192) (j : Fin 2048) :
    val_main_v13 (F := Ideal) x g w (ix2 r j) = Mixer.proj (wide x) (gain g) (inward w) r j := by
  pointwise [val_main_v13, ref_normed]
  rfl

theorem ref_glu (r : Fin 8192) (k : Fin 512) :
    val_main_v24 (F := Ideal) x g w (ix2 r k) = Mixer.glu (wide x) (gain g) (inward w) r k := by
  pointwise [val_main_v24, val_main_v23, val_main_v22, val_main_cst_3, val_main_v21, val_main_v20, val_main_cst_2, val_main_v19,
    val_main_v18, val_main_v15, val_main_v14, ref_proj]
  unfold Mixer.glu Ffn.sig
  simp only [(Mixer.quarter_eq k).1, (Mixer.quarter_eq k).2.1, (Mixer.quarter_eq k).2.2]

theorem ref_third (r : Fin 8192) (k : Fin 512) :
    val_main_v16 (F := Ideal) x g w (ix2 r k) = Mixer.proj (wide x) (gain g) (inward w) r (Mixer.quarter 2 k) := by
  pointwise [val_main_v16, ref_proj]
  simp only [(Mixer.quarter_eq k).1, (Mixer.quarter_eq k).2.1, (Mixer.quarter_eq k).2.2]

/-- The gated rows after thirty rows of zeros. -/
theorem ref_gated (n : Fin 8222) (k : Fin 512) : val_main_v26 (F := Ideal) x g w (ix2 n k)
    = Conv.padded 30 (Conv.seq fun r => Mixer.glu (wide x) (gain g) (inward w) r k) n.val := by
  pointwise [val_main_v26, val_main_v25, val_main_cst_4, ref_glu]
  exact Conv.padded_seq (h := 30) n fun r => Mixer.glu (wide x) (gain g) (inward w) r k

theorem ref_third_padded (n : Fin 8195) (k : Fin 512) : val_main_v249 (F := Ideal) x g w (ix2 n k)
    = Conv.padded 3 (Conv.seq fun r => Mixer.proj (wide x) (gain g) (inward w) r (Mixer.quarter 2 k)) n.val := by
  pointwise [val_main_v249, val_main_v248, val_main_cst_6, ref_third]
  exact Conv.padded_seq (h := 3) n fun r => Mixer.proj (wide x) (gain g) (inward w) r (Mixer.quarter 2 k)

/-- One tap of the long convolution. -/
def product (s : (⟨S8222x512, .f32⟩ : BufTy).Contents (Elt Ideal)) (i : Fin 31) : (⟨S8192x512, .f32⟩ : BufTy).Contents (Elt Ideal) :=
  mulf (F := Ideal) (φ := .f32) (broadcastInDim S8192x512 ![0, 1] bcast_S1x512_S8192x512_0_1 (broadcastInDim S1x512 ![1] bcast_S512_S1x512_1
      (shapeCast S512 (extractStridedSlice S1x512 ![i.val, 0] cw (by revert i; decide)) shapeCasts_S1x512_S512)))
    (extractStridedSlice S8192x512 ![i.val, 0] s (by revert i; decide))

theorem product_at (s : (⟨S8222x512, .f32⟩ : BufTy).Contents (Elt Ideal)) (i : Fin 31) (r : Fin 8192) (k : Fin 512) :
    product cw s i (ix2 r k) = cw (ix2 i k) * s (ix2 ⟨r.val + i.val, by have := r.isLt; have := i.isLt; omega⟩ k) := by
  unfold product
  pointwise
  simp only [Nat.add_comm]

/-- The reference adds the taps in their order. -/
theorem ref_sum : val_main_v244 (F := Ideal) x g w cw = (List.finRange 31).foldl
    (fun a i => addf (F := Ideal) (φ := .f32) a (product cw (val_main_v26 (F := Ideal) x g w) i)) (val_main_v33 (F := Ideal)) := rfl

theorem foldl_at (s : (⟨S8222x512, .f32⟩ : BufTy).Contents (Elt Ideal)) (j : S8192x512.Idx) (l : List (Fin 31)) :
    ∀ a : (⟨S8192x512, .f32⟩ : BufTy).Contents (Elt Ideal),
      l.foldl (fun a i => addf (F := Ideal) (φ := .f32) a (product cw s i)) a j = a j + (l.map fun i => product cw s i j).sum := by
  induction l with
  | nil => exact fun a => (add_zero _).symm
  | cons i l ih => exact fun a => (ih _).trans (add_assoc _ _ _)

theorem ref_long (r : Fin 8192) (k : Fin 512) : val_main_v247 (F := Ideal) x g w cw cb (ix2 r k)
    = Mixer.long (wide x) (gain g) (inward w) (taps cw) (bias cb) r k := by
  pointwise [val_main_v247, val_main_v246, val_main_v245]
  rw [ref_sum, foldl_at, ← Fin.sum_univ_def]
  pointwise [val_main_v33, val_main_cst_5, product_at, ref_gated]
  exact add_comm _ _

theorem ref_short (r : Fin 8192) (k : Fin 512) : val_main_v281 (F := Ideal) x g w lw lb (ix2 r k)
    = Mixer.short (wide x) (gain g) (inward w) (fewTaps lw) (bias lb) r k := by
  pointwise [val_main_v281, val_main_v280, val_main_v279, val_main_v278, val_main_v277, val_main_v276, val_main_v275, val_main_v274,
    val_main_v273, val_main_v272, val_main_v271, val_main_v270, val_main_v269, val_main_v268, val_main_v267, val_main_v266, val_main_v265,
    val_main_v264, val_main_v263, val_main_v262, val_main_v261, val_main_v260, val_main_v259, val_main_v258, val_main_v257, val_main_v256,
    val_main_cst_7, val_main_v255, val_main_v254, val_main_v253, val_main_v252, val_main_v251, val_main_v250, ref_third_padded]
  unfold Mixer.short Conv.conv
  rw [Fin.sum_univ_four, add_comm]
  simp only [Nat.add_comm]
  rfl

end Cert.Proof.Mix

end
-- ==== Proof.Mix.Claim.lean ====
module

public import proofs.«01_k».proof.Defs
public import proofs.«01_k».proof.Proof.Gen.Kernel4Ideal.Value
public import proofs.«01_k».proof.Proof.Gen.Kernel4
public import proofs.«01_k».proof.Proof.Mix.Result
public import proofs.«01_k».proof.Proof.Mix.Reference

@[expose] public section

set_option maxRecDepth 16384

noncomputable section

/-! The first half of the mixer's forward call: the kernel runs and leaves its arguments, and its projected rows and its two convolutions are the
reference's. -/

namespace Cert.Proof.Mix

open Idealize.ShloMosaic Idealize.SL.Sem

theorem frame : Cert.quiescent_Kernel4Ideal := fun m g _ => Cert.Kernel4Ideal.Gen.frame m g

/-- The kernel at hardware values has the same text. -/
theorem same_main : Cert.Kernel4Ideal.main (F := Bits) = Cert.Kernel4.main := by sl_kernel_rfl

theorem same_defs : Cert.Kernel4Ideal.defs (F := Bits) = Cert.Kernel4.defs := by sl_kernel_rfl

set_option maxHeartbeats 2000000 in
/-- The kernel's frame at hardware values. -/
theorem kernel_frame : Cert.quiescent_Kernel4 := fun m g _ => by
  rw [← same_main, ← same_defs]
  exact (θ_run _ _ _).mono (fun r h => ⟨fun c => h.1 c, h.2⟩) (Cert.Kernel4Ideal.Gen.frame (F := Bits) m g)

theorem reference_frame : Cert.quiescent_Reference4Ideal := fun m g _ =>
  (θ_run _ _ _).mono (fun r h => ⟨fun c => (h c).2.2.2, sem_eq_zero_of_no_sems rfl r.2⟩) (Cert.Reference4Ideal.Value.run m g)

section
open Cert.Reference4Ideal Cert.Reference4Ideal.Gen
open Cert.Kernel4Ideal.Gen (dats)

variable (m : (ℓ : Loc Cert.Kernel4Ideal.nD Cert.Kernel4Ideal.τ Cert.Kernel4Ideal.sig) → Buf (Elt Ideal) ℓ)
  (m' : (ℓ : Loc nD τ sig) → Buf (Elt Ideal) ℓ) (c : Dev nD)
  (h0 : m' ((c.tc : Thread nD τ).loc main_arg0) = m ((c.tc : Thread nD τ).loc Cert.Kernel4Ideal.main_arg0))
  (h1 : m' ((c.tc : Thread nD τ).loc main_arg1) = m ((c.tc : Thread nD τ).loc Cert.Kernel4Ideal.main_arg1))
  (h2 : m' ((c.tc : Thread nD τ).loc main_arg2) = m ((c.tc : Thread nD τ).loc Cert.Kernel4Ideal.main_arg2))
include h0 h1 h2

theorem result_z : Read.val_main_v13 (F := Ideal) (m' ((c.tc : Thread nD τ).loc main_arg0)) (m' ((c.tc : Thread nD τ).loc main_arg1))
      (m' ((c.tc : Thread nD τ).loc main_arg2)) = (dats m 0 c).arrAt 10 Cert.Kernel4Ideal.cfg0.N := by
  rw [h0, h1, h2, array_z]
  funext i
  rw [eq_ix2 i]
  exact ref_proj _ _ _ (i 0) (i 1)

theorem result_u (h3 : m' ((c.tc : Thread nD τ).loc main_arg3) = m ((c.tc : Thread nD τ).loc Cert.Kernel4Ideal.main_arg3))
    (h4 : m' ((c.tc : Thread nD τ).loc main_arg4) = m ((c.tc : Thread nD τ).loc Cert.Kernel4Ideal.main_arg4)) :
    Read.val_main_v247 (F := Ideal) (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
    = (dats m 0 c).arrAt 12 Cert.Kernel4Ideal.cfg0.N := by
  rw [h0, h1, h2, h3, h4, array_u]
  funext i
  rw [eq_ix2 i]
  exact ref_long _ _ _ _ _ (i 0) (i 1)

theorem result_r (h7 : m' ((c.tc : Thread nD τ).loc main_arg7) = m ((c.tc : Thread nD τ).loc Cert.Kernel4Ideal.main_arg7))
    (h8 : m' ((c.tc : Thread nD τ).loc main_arg8) = m ((c.tc : Thread nD τ).loc Cert.Kernel4Ideal.main_arg8)) :
    Read.val_main_v281 (F := Ideal) (m' ((c.tc : Thread nD τ).loc main_arg0)) (m' ((c.tc : Thread nD τ).loc main_arg1))
      (m' ((c.tc : Thread nD τ).loc main_arg2)) (m' ((c.tc : Thread nD τ).loc main_arg7)) (m' ((c.tc : Thread nD τ).loc main_arg8))
    = (dats m 0 c).arrAt 13 Cert.Kernel4Ideal.cfg0.N := by
  rw [h0, h1, h2, h7, h8, array_r]
  funext i
  rw [eq_ix2 i]
  exact ref_short _ _ _ _ _ (i 0) (i 1)

end

theorem value : Cert.algebraic_Kernel4Ideal_Reference4Ideal := fun m g m' g' _ hagree =>
  ⟨_, _, _,
    (θ_run _ _ _).mono (fun r h c => by
      obtain ⟨_, r1, _, r3, r4, _, rest⟩ := h c
      exact ⟨r1, r3, r4, rest⟩) (Cert.Kernel4Ideal.Value.run_blocks m g),
    (θ_run _ _ _).mono (fun r h c => by
      obtain ⟨a0, a1, a2, a3, a4, _, _, a7, a8, _⟩ := hagree c
      obtain ⟨r0, r1, r2, rest⟩ := h c
      exact ⟨(r0.trans (Cert.Reference4Ideal.Read.val_main_v13_eq _)).trans (result_z m m' c a0 a1 a2),
        (r1.trans (Cert.Reference4Ideal.Read.val_main_v247_eq _)).trans (result_u m m' c a0 a1 a2 a3 a4),
        (r2.trans (Cert.Reference4Ideal.Read.val_main_v281_eq _)).trans (result_r m m' c a0 a1 a2 a7 a8), rest⟩)
      (Cert.Reference4Ideal.Value.run m' g')⟩

end Cert.Proof.Mix

end
-- ==== Proof.Wgrad.Stores.lean ====
module

public import proofs.«01_k».proof.Proof.Gen.Kernel5Ideal.Value
public import proofs.«01_k».proof.Proof.Shared.Slab
public import Idealize.ShloMosaic.Lib.WholeRead
public import Idealize.ShloMosaic.Lib.WritesUnit
public import Idealize.ShloMosaic.Lib.Pipeline.ValueKit

@[expose] public section

set_option maxRecDepth 16384

noncomputable section

/-! What the body stores: the two sums of products that it carries, and at the end of a run of points the two sums rounded. -/

namespace Cert.Proof.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

theorem hz : (![0, 0] : Fin 2 → ℕ) = fun _ => 0 := funext fun a => by fin_cases a <;> rfl

/-- A load of a whole buffer. -/
theorem load_whole {S : Shape} {e : EltTy} (m : Memref sig .tc .vmem S e) (h : m.IsWhole) (x : Vec Ideal S e) {off : Fin S.rank → ℕ}
    (ho : off = fun _ => 0) (inb : ∀ a, off a + S.size a ≤ S.size a) :
    View.readAt (Elt Ideal) m.view (Rect.unit off S.size inb).toLoadRect (h.unread x) = x := by
  rw [View.readAt_eq_ld, h.read_unread, View.ld_unit_zero ho]

variable (c : Dev nD) (i : grid0.Coords)
  (a2 : Memref sig .tc .vmem S1024x1408 .bf16) (h2 : a2.IsWhole) (a3 : Memref sig .tc .vmem S1024x1408 .bf16) (h3 : a3.IsWhole)
  (a4 : Memref sig .tc .vmem S1024x1024 .bf16) (h4 : a4.IsWhole) (a5 : Memref sig .tc .vmem S2x1408x1024 .bf16) (h5 : a5.IsWhole)
  (a6 : Memref sig .tc .vmem S1408x1024 .f32) (h6 : a6.IsWhole) (a7 : Memref sig .tc .vmem S1408x1024 .f32) (h7 : a7.IsWhole)
  (x0 x1 : Vec Ideal S1024x1408 .bf16) (x2 : Vec Ideal S1024x1024 .bf16) (s0 s1 : Vec Ideal S1408x1024 .f32)

/-! At the first point of a run both sums start from the product of the blocks. -/

theorem start_gate (p q) : sout0_A_0 c i a2 h2 a3 h3 a4 h4 a5 h5 a6 h6 a7 h7 p q x0 x1 x2 = k0_pay3 x2 (k0_pay1 (F := Ideal)) x0 := by
  unfold sout0_A_0
  rw [View.read_writes_junk_eq_canon]
  unfold kernelRun0_A
  dsimp only
  sl_unfold_words
  rw [View.canon_cons_unit_zero hz, View.readCov_unit_zero _ hz]
  rw [load_whole _ _ _ hz, load_whole _ _ _ hz]

theorem start_up (p q) : sout0_A_1 c i a2 h2 a3 h3 a4 h4 a5 h5 a6 h6 a7 h7 p q x0 x1 x2 = k0_pay4 x2 (k0_pay2 (F := Ideal)) x1 := by
  unfold sout0_A_1
  rw [View.read_writes_junk_eq_canon]
  unfold kernelRun0_A
  dsimp only
  sl_unfold_words
  rw [View.canon_cons_unit_zero hz, View.readCov_unit_zero _ hz]
  rw [load_whole _ _ _ hz, load_whole _ _ _ hz]

/-! At a later point the blocks' product is added to what is carried. -/

theorem later_gate (p q) : sout0_B_0 c i a2 h2 a3 h3 a4 h4 a5 h5 a6 h6 a7 h7 p q x0 x1 x2 s0 s1 = k0_pay3 x2 s0 x0 := by
  unfold sout0_B_0
  rw [View.read_writes_junk_eq_canon]
  unfold kernelRun0_B
  dsimp only
  sl_unfold_words
  rw [View.canon_unit_zero hz]
  rw [load_whole _ _ _ hz, load_whole _ _ _ hz, load_whole _ _ _ hz]

theorem later_up (p q) : sout0_B_1 c i a2 h2 a3 h3 a4 h4 a5 h5 a6 h6 a7 h7 p q x0 x1 x2 s0 s1 = k0_pay4 x2 s1 x1 := by
  unfold sout0_B_1
  rw [View.read_writes_junk_eq_canon]
  unfold kernelRun0_B
  dsimp only
  sl_unfold_words
  rw [View.canon_unit_zero hz]
  rw [load_whole _ _ _ hz, load_whole _ _ _ hz, load_whole _ _ _ hz]

theorem last_gate (p q) : sout0_C_0 c i a2 h2 a3 h3 a4 h4 a5 h5 a6 h6 a7 h7 p q x0 x1 x2 s0 s1 = k0_pay3 x2 s0 x0 := by
  unfold sout0_C_0
  rw [View.read_writes_junk_eq_canon]
  unfold kernelRun0_C
  dsimp only
  sl_unfold_words
  rw [View.canon_unit_zero hz]
  rw [load_whole _ _ _ hz, load_whole _ _ _ hz, load_whole _ _ _ hz]

theorem last_up (p q) : sout0_C_1 c i a2 h2 a3 h3 a4 h4 a5 h5 a6 h6 a7 h7 p q x0 x1 x2 s0 s1 = k0_pay4 x2 s1 x1 := by
  unfold sout0_C_1
  rw [View.read_writes_junk_eq_canon]
  unfold kernelRun0_C
  dsimp only
  sl_unfold_words
  rw [View.canon_unit_zero hz]
  rw [load_whole _ _ _ hz, load_whole _ _ _ hz, load_whole _ _ _ hz]

/-- Two matrices, one on the other. -/
def stacked (a b : Vec Ideal S1408x1024 .f32) : Vec Ideal S2x1408x1024 .bf16 :=
  fun i => (![a, b] : Fin 2 → Vec Ideal S1408x1024 .f32) (i 0) (ix2 (i 1) (i 2))

/-- At the last point of a run both sums go out. -/
theorem last_out (p q) : out0_C_3 c i a2 h2 a3 h3 a4 h4 a5 h5 a6 h6 a7 h7 p q x0 x1 x2 s0 s1 = stacked (k0_pay3 x2 s0 x0) (k0_pay4 x2 s1 x1) := by
  unfold out0_C_3
  rw [View.read_writes_junk_eq_canon]
  unfold kernelRun0_C
  dsimp only
  sl_unfold_words
  rw [View.readCov_unit_zero _ hz, View.readCov_unit_zero _ hz, load_whole _ _ _ hz, load_whole _ _ _ hz, load_whole _ _ _ hz, load_whole _ _ _ hz, load_whole _ _ _ hz]
  refine funext fun y => View.canon_apply_of_pieces _ _ ?_ y (View.cover_of_tiled _ ![1, 1408, 1024] rfl y)
  simp only [List.forall_mem_cons, List.not_mem_nil, false_implies, implies_true, and_true]
  refine ⟨?_, ?_⟩
  all_goals
    intro x
    idx_vars x
    rw [Slab.emb_eq_idx]
    first | unfold k0_pay5 | unfold k0_pay6
    pointwise [stacked]

end Cert.Proof.Wgrad

end
-- ==== Proof.Wgrad.Claim.lean ====
module

public import proofs.«01_k».proof.Defs
public import proofs.«01_k».proof.Proof.Wgrad.Stores
public import proofs.«01_k».proof.Proof.Gen.Kernel5
public import proofs.«01_k».proof.Proof.Gen.Reference5Ideal.Run
public import proofs.«01_k».proof.Proof.Gen.Reference5Ideal.Read
public import Idealize.ShloMosaic.Lib.Claim

@[expose] public section

set_option maxRecDepth 16384

noncomputable section

/-! The call that makes the gradients of a feed-forward block's two outer weights, a product of two tall matrices each. -/

namespace Cert.Proof.Wgrad

open Idealize.ShloMosaic Idealize.ShloMosaic.TcCoe Idealize.ShloMosaic.Tactic Idealize.SL.Sem
open Idealize.ShloMosaic.Pipeline (Dat Cfg Window BodyObligation cellOf)
open Cert.Kernel5Ideal Cert.Kernel5Ideal.Gen

theorem frame : Cert.quiescent_Kernel5Ideal := fun m g _ => Cert.Kernel5Ideal.Gen.frame m g

/-- The kernel at hardware values has the same text. -/
theorem same_main : Cert.Kernel5Ideal.main (F := Bits) = Cert.Kernel5.main := by sl_kernel_rfl

theorem same_defs : Cert.Kernel5Ideal.defs (F := Bits) = Cert.Kernel5.defs := by sl_kernel_rfl

/-- The kernel's frame at hardware values. -/
theorem kernel_frame : Cert.quiescent_Kernel5 := fun m g _ => by
  rw [← same_main, ← same_defs]
  exact (θ_run _ _ _).mono (fun r h => ⟨fun c => h.1 c, h.2⟩) (Cert.Kernel5Ideal.Gen.frame (F := Bits) m g)

theorem reference_frame : Cert.quiescent_Reference5Ideal := fun m g _ =>
  (θ_run _ _ _).mono (fun r h => ⟨fun c => (h c).2, sem_eq_zero_of_no_sems rfl r.2⟩) (Cert.Reference5Ideal.Value.run m g)

/-- A tall matrix turned over, times another. -/
def product (x : Vec Ideal S8192x2816 .bf16) (h : Vec Ideal S8192x1024 .bf16) (f : Fin 2816) (d : Fin 1024) : EReal :=
  ∑ r : Fin 8192, x (ix2 r f) * h (ix2 r d)

/-- Two products, one on the other. -/
def result (x y : Vec Ideal S8192x2816 .bf16) (h : Vec Ideal S8192x1024 .bf16) : Vec Ideal S2x2816x1024 .bf16 :=
  fun i => product ((![x, y] : Fin 2 → Vec Ideal S8192x2816 .bf16) (i 0)) h (i 1) (i 2)

variable (m : (ℓ : Loc nD τ sig) → Buf (Elt Ideal) ℓ) (c : Dev nD)

abbrev argG : Vec Ideal S8192x2816 .bf16 := m ((c.tc : Thread nD τ).loc main_arg0)
abbrev argU : Vec Ideal S8192x2816 .bf16 := m ((c.tc : Thread nD τ).loc main_arg1)
abbrev argH : Vec Ideal S8192x1024 .bf16 := m ((c.tc : Thread nD τ).loc main_arg2)

/-- The rows and the columns of the `n`-th point: eight row tiles for each half of the columns. -/
def row (n : ℕ) (r : Fin 1024) : Fin 8192 := ⟨n % 8 * 1024 + r.val, by have := r.isLt; omega⟩
def col (n : ℕ) (f : Fin 1408) : Fin 2816 := ⟨n / 8 % 2 * 1408 + f.val, by have := f.isLt; omega⟩

theorem index (t : Fin cfg0.N) : win0_0.index t = ![t.val % 8, t.val / 8 % 2] ∧ win0_1.index t = ![t.val % 8, t.val / 8 % 2]
    ∧ win0_2.index t = ![t.val % 8, 0] ∧ win0_3.index t = ![0, t.val / 8 % 2, 0] :=
  (by decide +kernel : ∀ t : Fin grid0.N, win0_0.index t = ![t.val % 8, t.val / 8 % 2] ∧ win0_1.index t = ![t.val % 8, t.val / 8 % 2]
    ∧ win0_2.index t = ![t.val % 8, 0] ∧ win0_3.index t = ![0, t.val / 8 % 2, 0]) t

theorem block_gate (t : Fin cfg0.N) (r : Fin 1024) (f : Fin 1408) : iblk m c 0 t (ix2 r f) = argG m c (ix2 (row t.val r) (col t.val f)) := by
  refine Eq.trans ?_ (congrFun (V_main_arg0 m c) (ix2 (row t.val r) (col t.val f)))
  blk_ext [iblk, index t, row, col]

theorem block_up (t : Fin cfg0.N) (r : Fin 1024) (f : Fin 1408) : iblk m c 1 t (ix2 r f) = argU m c (ix2 (row t.val r) (col t.val f)) := by
  refine Eq.trans ?_ (congrFun (V_main_arg1 m c) (ix2 (row t.val r) (col t.val f)))
  blk_ext [iblk, index t, row, col]

theorem block_h (t : Fin cfg0.N) (r d : Fin 1024) : iblk m c 2 t (ix2 r d) = argH m c (ix2 (row t.val r) d) := by
  refine Eq.trans ?_ (congrFun (V_main_arg2 m c) (ix2 (row t.val r) d))
  blk_ext [iblk, index t, row]

/-- The product of the `n`-th point's rows. -/
def part (x : Vec Ideal S8192x2816 .bf16) (h : Vec Ideal S8192x1024 .bf16) (n : ℕ) (f : Fin 1408) (d : Fin 1024) : EReal :=
  ∑ r : Fin 1024, x (ix2 (row n r) (col n f)) * h (ix2 (row n r) d)

theorem add_gate (t : Fin cfg0.N) (s : Vec Ideal S1408x1024 .f32) (f : Fin 1408) (d : Fin 1024) :
    k0_pay3 (F := Ideal) (iblk m c 2 t) s (iblk m c 0 t) (ix2 f d) = s (ix2 f d) + part (argG m c) (argH m c) t.val f d := by
  unfold k0_pay3 part
  pointwise
  simp only [block_gate, block_h]

theorem add_up (t : Fin cfg0.N) (s : Vec Ideal S1408x1024 .f32) (f : Fin 1408) (d : Fin 1024) :
    k0_pay4 (F := Ideal) (iblk m c 2 t) s (iblk m c 1 t) (ix2 f d) = s (ix2 f d) + part (argU m c) (argH m c) t.val f d := by
  unfold k0_pay4 part
  pointwise
  simp only [block_up, block_h]

theorem zero_gate (f : Fin 1408) (d : Fin 1024) : k0_pay1 (F := Ideal) (ix2 f d) = 0 := by
  unfold k0_pay1
  pointwise

theorem zero_up (f : Fin 1408) (d : Fin 1024) : k0_pay2 (F := Ideal) (ix2 f d) = 0 := by
  unfold k0_pay2
  pointwise

/-- The parts of a run up to the `n`-th point. -/
def upTo (x : Vec Ideal S8192x2816 .bf16) (h : Vec Ideal S8192x1024 .bf16) (n : ℕ) (f : Fin 1408) (d : Fin 1024) : EReal :=
  ∑ s ∈ Finset.range (n % 8 + 1), part x h (n / 8 * 8 + s) f d

theorem upTo_start (x : Vec Ideal S8192x2816 .bf16) (h : Vec Ideal S8192x1024 .bf16) (n : ℕ) (hn : n % 8 = 0) (f : Fin 1408) (d : Fin 1024) :
    upTo x h n f d = 0 + part x h n f d := by
  unfold upTo
  rw [hn, Finset.sum_range_succ, Finset.sum_range_zero, show n / 8 * 8 + 0 = n by omega]

theorem upTo_later (x : Vec Ideal S8192x2816 .bf16) (h : Vec Ideal S8192x1024 .bf16) (n : ℕ) (hn : ¬n % 8 = 0) (f : Fin 1408) (d : Fin 1024) :
    upTo x h n f d = upTo x h (n - 1) f d + part x h n f d := by
  unfold upTo
  rw [Finset.sum_range_succ, show n / 8 * 8 + n % 8 = n by omega, show (n - 1) % 8 + 1 = n % 8 by omega, show (n - 1) / 8 = n / 8 by omega]

/-- At the end of a run the parts are the product. -/
theorem upTo_last (x : Vec Ideal S8192x2816 .bf16) (h : Vec Ideal S8192x1024 .bf16) (n : ℕ) (hn : n % 8 = 7) (f : Fin 1408) (d : Fin 1024) :
    upTo x h n f d = product x h (col n f) d := by
  unfold upTo product
  rw [hn, Finset.sum_range]
  unfold part
  refine Fin.sum_mul_add_congr fun s r hl => ?_
  have hs := s.isLt
  have h1 : row (n / 8 * 8 + s.val) r = ⟨s.val * 1024 + r.val, hl⟩ := Fin.ext (by show (n / 8 * 8 + s.val) % 8 * 1024 + r.val = s.val * 1024 + r.val; omega)
  have h2 : col (n / 8 * 8 + s.val) f = col n f := Fin.ext (by show (n / 8 * 8 + s.val) / 8 % 2 * 1408 + f.val = n / 8 % 2 * 1408 + f.val; omega)
  rw [h1, h2]

/-- What the two carried sums hold after a point. -/
theorem carried (n : ℕ) (hn : n < cfg0.N) (f : Fin 1408) (d : Fin 1024) :
    (outsAt0 m c n hn).2.1 (ix2 f d) = upTo (argG m c) (argH m c) n f d ∧ (outsAt0 m c n hn).2.2 (ix2 f d) = upTo (argU m c) (argH m c) n f d := by
  induction n using Nat.strong_induction_on with
  | _ n ih =>
    by_cases h0 : n % 8 = 0
    · have h1 : ¬n % 8 = 7 := by omega
      rw [outsAt0_A m c ⟨n, hn⟩ h0 h1, upTo_start _ _ n h0, upTo_start _ _ n h0]
      dsimp only
      rw [start_gate, start_up]
      exact ⟨(add_gate m c ⟨n, hn⟩ _ f d).trans (congrArg (· + _) (zero_gate f d)), (add_up m c ⟨n, hn⟩ _ f d).trans (congrArg (· + _) (zero_up f d))⟩
    · obtain ⟨ig, iu⟩ := ih (n - 1) (by omega) (by omega)
      rw [upTo_later _ _ n h0, upTo_later _ _ n h0]
      by_cases h1 : n % 8 = 7
      · rw [outsAt0_C m c ⟨n, hn⟩ h0 h1]
        dsimp only
        rw [last_gate, last_up]
        exact ⟨(add_gate m c ⟨n, hn⟩ _ f d).trans (congrArg (· + _) ig), (add_up m c ⟨n, hn⟩ _ f d).trans (congrArg (· + _) iu)⟩
      · rw [outsAt0_B m c ⟨n, hn⟩ h0 h1]
        dsimp only
        rw [later_gate, later_up]
        exact ⟨(add_gate m c ⟨n, hn⟩ _ f d).trans (congrArg (· + _) ig), (add_up m c ⟨n, hn⟩ _ f d).trans (congrArg (· + _) iu)⟩

/-- What the last point of a run leaves for its half of the columns. -/
theorem leaves (t : Fin cfg0.N) (h1 : t.val % 8 = 7) (k : Fin 2) (f : Fin 1408) (d : Fin 1024) :
    (outsAt0 m c t.val t.isLt).1 (ix3 k f d) = result (argG m c) (argU m c) (argH m c) (ix3 k (col t.val f) d) := by
  have h0 : ¬t.val % 8 = 0 := by omega
  have hs : (outsAt0 m c t.val t.isLt).1 = stacked (outsAt0 m c t.val t.isLt).2.1 (outsAt0 m c t.val t.isLt).2.2 := by
    rw [outsAt0_C m c t h0 h1]
    dsimp only
    rw [last_out, last_gate, last_up]
  obtain ⟨hg, hu⟩ := carried m c t.val t.isLt f d
  rw [upTo_last _ _ _ h1] at hg hu
  rw [hs]
  unfold stacked result
  fin_cases k
  · exact hg
  · exact hu

theorem array : (dats m 0 c).arrAt 3 cfg0.N = result (argG m c) (argU m c) (argH m c) := by
  refine (dats m 0 c).arrAt_eq_of_covers 3 _ (by decide +kernel) fun t hf y => ?_
  blk_simp
  rw [after0_3]
  idx_vars y
  refine (leaves m c t ((flush0_3 t).mp hf) _ _ _).trans ?_
  rw [show ((View.whole main_v0).slice (win0_3.rect t)).emb (ix3 y0 y1 y2) = ix3 y0 (col t.val y1) y2 from by blk_ext [index t, col]]

open Cert.Reference5Ideal.Read in
theorem reference (x y : Vec Ideal S8192x2816 .bf16) (h : Vec Ideal S8192x1024 .bf16) : val_main_v16 (F := Ideal) x y h = result x y h := by
  funext i
  rw [eq_ix3 i]
  generalize i 0 = k
  fin_cases k <;> pointwise [val_main_v16, val_main_v15, val_main_v14, val_main_v13, val_main_v12, val_main_v11, val_main_v10, val_main_v9, val_main_v8,
    val_main_v7, val_main_v6, val_main_v5, val_main_v3, val_main_v1, result, product]

open Cert.Reference5Ideal.Read in
/-- The kernel's result is the reference's. -/
theorem value : Cert.algebraic_Kernel5Ideal_Reference5Ideal := fun m g m' g' _ hagree =>
  ⟨_, (θ_run _ _ _).mono (fun r h c => ⟨(h c).1.trans (array m c), (h c).2⟩) (Cert.Kernel5Ideal.Value.run_blocks m g),
    (θ_run _ _ _).mono (fun r h c => by
      obtain ⟨a0, a1, a2⟩ := hagree c
      obtain ⟨r0, rest⟩ := h c
      replace r0 := r0.trans (val_main_v16_eq _ _ _)
      rw [a0, a1, a2] at r0
      exact ⟨r0.trans (reference _ _ _), rest⟩)
      (Cert.Reference5Ideal.Value.run m' g')⟩

end Cert.Proof.Wgrad

end
-- ==== Proof.Optim.Finish.lean ====
module

public import proofs.«01_k».proof.Defs
public import proofs.«01_k».proof.Proof.Gen.Kernel6Ideal.Value
public import proofs.«01_k».proof.Proof.Gen.Kernel6
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

set_option maxRecDepth 16384

noncomputable section

/-! The optimiser's call that adds the eight devices' parts of one gradient, turns the sum over and takes the step. -/

namespace Cert.Proof.Finish

open Idealize.ShloMosaic Idealize.SL.Sem
open Cert.Kernel6Ideal Cert.Kernel6Ideal.Gen
open Cert.Reference6Ideal.Read

theorem frame : Cert.quiescent_Kernel6Ideal := fun m g _ => Cert.Kernel6Ideal.Gen.frame m g

/-- The kernel at hardware values has the same text. -/
theorem same_main : Cert.Kernel6Ideal.main (F := Bits) = Cert.Kernel6.main := by sl_kernel_rfl

theorem same_defs : Cert.Kernel6Ideal.defs (F := Bits) = Cert.Kernel6.defs := by sl_kernel_rfl

/-- The kernel's frame at hardware values. -/
theorem kernel_frame : Cert.quiescent_Kernel6 := fun m g _ => by
  rw [← same_main, ← same_defs]
  exact (θ_run _ _ _).mono (fun r h => ⟨fun c => h.1 c, h.2⟩) (Cert.Kernel6Ideal.Gen.frame (F := Bits) m g)

theorem reference_frame : Cert.quiescent_Reference6Ideal := fun m g _ =>
  (θ_run _ _ _).mono (fun r h => ⟨fun c => (h c).2.2.2.2, sem_eq_zero_of_no_sems rfl r.2⟩) (Cert.Reference6Ideal.Value.run m g)

variable (p : (⟨S1x8x256x1024, .bf16⟩ : BufTy).Contents (Elt Ideal)) (w a b : (⟨S1024x256, .f32⟩ : BufTy).Contents (Elt Ideal))

/-- The sum of the parts, turned over. -/
theorem gradient : val_main_v3 (F := Ideal) p = k0_pay4 (k0_pay9 p w a b) (View.ld p r0_7) := by
  funext i
  rw [eq_ix2 i]
  unfold k0_pay4 k0_pay9 k0_pay3
  pointwise [val_main_v3, val_main_v2, val_main_v1, val_main_v0, val_main_cst]
  rw [Fin.sum_univ_eight]

theorem moment : val_main_v8 (F := Ideal) p a = k0_pay6 (k0_pay9 p w a b) (View.ld p r0_7) a := by
  unfold val_main_v8 val_main_v7 k0_pay6
  rw [gradient p w a b]
  rfl

theorem square : val_main_v14 (F := Ideal) p b = k0_pay7 (k0_pay9 p w a b) (View.ld p r0_7) b := by
  unfold val_main_v14 val_main_v13 val_main_v11 k0_pay7
  rw [gradient p w a b]
  rfl

theorem step : val_main_v27 (F := Ideal) p w a b = k0_pay8 (k0_pay9 p w a b) (View.ld p r0_7) w a b := by
  unfold val_main_v27 val_main_v25 val_main_v22 val_main_v21 val_main_v19 val_main_v18 val_main_v16 k0_pay8
  rw [moment p w a b, square p w a b]
  refine Eq.trans ?_ (shapeCast_self _ _).symm
  rfl

/-- The kernel's four results are the reference's. -/
theorem value : Cert.algebraic_Kernel6Ideal_Reference6Ideal := fun m g m' g' _ hagree =>
  ⟨_, _, _, _, Cert.Kernel6Ideal.Value.run m g,
    (θ_run _ _ _).mono (fun r h c => by
      obtain ⟨a0, a1, a2, a3⟩ := hagree c
      obtain ⟨r0, r1, r2, r3, rest⟩ := h c
      replace r0 := r0.trans (val_main_v3_eq _)
      replace r1 := r1.trans (val_main_v27_eq _ _ _ _)
      replace r2 := r2.trans (val_main_v8_eq _ _)
      replace r3 := r3.trans (val_main_v14_eq _ _)
      rw [a0] at r0
      rw [a0, a1, a2, a3] at r1
      rw [a0, a2] at r2
      rw [a0, a3] at r3
      refine ⟨r0.trans ?_, r1.trans ?_, r2.trans ?_, r3.trans ?_, rest⟩
      · exact (gradient _ _ _ _).trans (shapeCast_self _ _).symm
      · exact (step _ _ _ _)
      · exact (moment _ _ _ _).trans (shapeCast_self _ _).symm
      · exact (square _ _ _ _).trans (shapeCast_self _ _).symm)
      (Cert.Reference6Ideal.Value.run m' g')⟩

end Cert.Proof.Finish

end
-- ==== Proof.Optim.Pack.lean ====
module

public import proofs.«01_k».proof.Defs
public import proofs.«01_k».proof.Proof.Gen.Kernel8Ideal.Value
public import proofs.«01_k».proof.Proof.Gen.Kernel8
public import proofs.«01_k».proof.Proof.Gen.Reference8Ideal.Run
public import proofs.«01_k».proof.Proof.Gen.Reference8Ideal.Read
public import proofs.«01_k».proof.Proof.Shared.Slab
public import Idealize.ShloMosaic.Lib.Pipeline.ValueKit
public import Idealize.ShloMosaic.Lib.Claim

@[expose] public section

set_option maxRecDepth 16384

noncomputable section

/-! The call that lays the eight weight matrices out for the exchange: two stacks of three rows of pieces, and two single pieces. -/

namespace Cert.Proof.Pack

open Idealize.ShloMosaic Idealize.ShloMosaic.TcCoe Idealize.ShloMosaic.Tactic Idealize.SL.Sem
open Idealize.ShloMosaic.Pipeline (Dat Cfg Window BodyObligation cellOf)
open Cert.Kernel8Ideal Cert.Kernel8Ideal.Gen

theorem frame : Cert.quiescent_Kernel8Ideal := fun m g _ => Cert.Kernel8Ideal.Gen.frame m g

/-- The kernel at hardware values has the same text. -/
theorem same_main : Cert.Kernel8Ideal.main (F := Bits) = Cert.Kernel8.main := by sl_kernel_rfl

theorem same_defs : Cert.Kernel8Ideal.defs (F := Bits) = Cert.Kernel8.defs := by sl_kernel_rfl

/-- The kernel's frame at hardware values. -/
theorem kernel_frame : Cert.quiescent_Kernel8 := fun m g _ => by
  rw [← same_main, ← same_defs]
  exact (θ_run _ _ _).mono (fun r h => ⟨fun c => h.1 c, h.2⟩) (Cert.Kernel8Ideal.Gen.frame (F := Bits) m g)

theorem reference_frame : Cert.quiescent_Reference8Ideal := fun m g _ =>
  (θ_run _ _ _).mono (fun r h => ⟨fun c => (h c).2.2.2.2, sem_eq_zero_of_no_sems rfl r.2⟩) (Cert.Reference8Ideal.Value.run m g)

section
variable (x0 x1 x2 x3 x4 x5 : Vec Ideal S352x1024 .f32) (x6 : Vec Ideal S1024x256 .f32) (x7 : Vec Ideal S128x1024 .f32)

/-- Three pieces, one on another. -/
def stacked : Vec Ideal S3x352x1024 .bf16 := fun i => (![x0, x1, x2] : Fin 3 → Vec Ideal S352x1024 .f32) (i 0) (ix2 (i 1) (i 2))

theorem stored_first : out0_8 x0 x1 x2 x3 x4 x5 x6 x7 = stacked x0 x1 x2 := by
  refine funext fun y => View.canon_apply_of_pieces _ _ ?_ y (View.cover_of_tiled _ ![1, 352, 1024] rfl y)
  simp only [List.forall_mem_cons, List.not_mem_nil, false_implies, implies_true, and_true]
  refine ⟨?_, ?_, ?_⟩
  all_goals
    intro x
    idx_vars x
    rw [Slab.emb_eq_idx]
    unfold_payloads
    pointwise [stacked]

theorem stored_second : out0_9 x0 x1 x2 x3 x4 x5 x6 x7 = stacked x3 x4 x5 := by
  refine funext fun y => View.canon_apply_of_pieces _ _ ?_ y (View.cover_of_tiled _ ![1, 352, 1024] rfl y)
  simp only [List.forall_mem_cons, List.not_mem_nil, false_implies, implies_true, and_true]
  refine ⟨?_, ?_, ?_⟩
  all_goals
    intro x
    idx_vars x
    rw [Slab.emb_eq_idx]
    unfold_payloads
    pointwise [stacked]

/-- A matrix of the projection turned over. -/
def over (x : (⟨S1024x256, .f32⟩ : BufTy).Contents (Elt Ideal)) : Vec Ideal S256x1024 .bf16 := fun i => x (ix2 (i 1) (i 0))

theorem hz : (![0, 0] : Fin 2 → ℕ) = fun _ => 0 := funext fun a => by fin_cases a <;> rfl

theorem stored_in : out0_10 x0 x1 x2 x3 x4 x5 x6 x7 = over x6 := by
  unfold out0_10
  rw [View.canon_unit_zero hz, View.ld_unit_zero hz]
  funext i
  rw [eq_ix2 i]
  unfold k0_pay2
  pointwise [over]

theorem stored_out : out0_11 x0 x1 x2 x3 x4 x5 x6 x7 = x7 := by
  unfold out0_11
  rw [View.canon_unit_zero hz, View.ld_unit_zero hz]
  rfl

end

variable (m : (ℓ : Loc nD τ sig) → Buf (Elt Ideal) ℓ) (c : Dev nD)

/-- A matrix turned over. -/
def turned (x : (⟨S1024x352, .f32⟩ : BufTy).Contents (Elt Ideal)) : Vec Ideal S352x1024 .f32 := fun i => x (ix2 (i 1) (i 0))

theorem index (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0, 0] ∧ win0_9.index t = ![0, 0, 0] ∧ win0_10.index t = ![0, 0] ∧ win0_11.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0, 0] ∧ win0_9.index t = ![0, 0, 0] ∧ win0_10.index t = ![0, 0] ∧ win0_11.index t = ![0, 0]) t

/-! The blocks that the one point reads: the arguments, the four outer matrices turned over by the host. -/

theorem block_gate1 (t : Fin cfg0.N) : iblk m c 0 t = turned (m ((c.tc : Thread nD τ).loc main_arg0)) := by
  funext y
  idx_vars y
  refine Eq.trans (b := V m c main_v0 (ix2 y0 y1)) ?_ ?_
  · blk_ext [iblk, index t]
  · entry_read
    pointwise [turned]

theorem block_up1 (t : Fin cfg0.N) : iblk m c 1 t = turned (m ((c.tc : Thread nD τ).loc main_arg1)) := by
  funext y
  idx_vars y
  refine Eq.trans (b := V m c main_v1 (ix2 y0 y1)) ?_ ?_
  · blk_ext [iblk, index t]
  · entry_read
    pointwise [turned]

theorem block_gate2 (t : Fin cfg0.N) : iblk m c 3 t = turned (m ((c.tc : Thread nD τ).loc main_arg3)) := by
  funext y
  idx_vars y
  refine Eq.trans (b := V m c main_v2 (ix2 y0 y1)) ?_ ?_
  · blk_ext [iblk, index t]
  · entry_read
    pointwise [turned]

theorem block_up2 (t : Fin cfg0.N) : iblk m c 4 t = turned (m ((c.tc : Thread nD τ).loc main_arg4)) := by
  funext y
  idx_vars y
  refine Eq.trans (b := V m c main_v3 (ix2 y0 y1)) ?_ ?_
  · blk_ext [iblk, index t]
  · entry_read
    pointwise [turned]

theorem block_down1 (t : Fin cfg0.N) : iblk m c 2 t = m ((c.tc : Thread nD τ).loc main_arg2) := by
  funext y
  idx_vars y
  refine Eq.trans ?_ (congrFun (V_main_arg2 m c) (ix2 y0 y1))
  blk_ext [iblk, index t]

theorem block_down2 (t : Fin cfg0.N) : iblk m c 5 t = m ((c.tc : Thread nD τ).loc main_arg5) := by
  funext y
  idx_vars y
  refine Eq.trans ?_ (congrFun (V_main_arg5 m c) (ix2 y0 y1))
  blk_ext [iblk, index t]

theorem block_in (t : Fin cfg0.N) : iblk m c 6 t = m ((c.tc : Thread nD τ).loc main_arg6) := by
  funext y
  idx_vars y
  refine Eq.trans ?_ (congrFun (V_main_arg6 m c) (ix2 y0 y1))
  blk_ext [iblk, index t]

theorem block_out (t : Fin cfg0.N) : iblk m c 7 t = m ((c.tc : Thread nD τ).loc main_arg7) := by
  funext y
  idx_vars y
  refine Eq.trans ?_ (congrFun (V_main_arg7 m c) (ix2 y0 y1))
  blk_ext [iblk, index t]

/-! The four arrays that the call leaves. -/

theorem array_first : (dats m 0 c).arrAt 8 cfg0.N
    = stacked (turned (m ((c.tc : Thread nD τ).loc main_arg0))) (turned (m ((c.tc : Thread nD τ).loc main_arg1))) (m ((c.tc : Thread nD τ).loc main_arg2)) := by
  refine (dats m 0 c).arrAt_eq_of_covers 8 _ (by decide +kernel) fun t hf y => ?_
  blk_simp
  rw [after0_8, stored_first, block_gate1, block_up1, block_down1]
  idx_vars y
  rw [show ((View.whole main_v4_0).slice (win0_8.rect t)).emb (ix3 y0 y1 y2) = ix3 y0 y1 y2 from by blk_ext [index t]]

theorem array_second : (dats m 0 c).arrAt 9 cfg0.N
    = stacked (turned (m ((c.tc : Thread nD τ).loc main_arg3))) (turned (m ((c.tc : Thread nD τ).loc main_arg4))) (m ((c.tc : Thread nD τ).loc main_arg5)) := by
  refine (dats m 0 c).arrAt_eq_of_covers 9 _ (by decide +kernel) fun t hf y => ?_
  blk_simp
  rw [after0_9, stored_second, block_gate2, block_up2, block_down2]
  idx_vars y
  rw [show ((View.whole main_v4_1).slice (win0_9.rect t)).emb (ix3 y0 y1 y2) = ix3 y0 y1 y2 from by blk_ext [index t]]

theorem array_in : (dats m 0 c).arrAt 10 cfg0.N = over (m ((c.tc : Thread nD τ).loc main_arg6)) := by
  refine (dats m 0 c).arrAt_eq_of_covers 10 _ (by decide +kernel) fun t hf y => ?_
  blk_simp
  rw [after0_10, stored_in, block_in]
  idx_vars y
  rw [show ((View.whole main_v4_2).slice (win0_10.rect t)).emb (ix2 y0 y1) = ix2 y0 y1 from by blk_ext [index t]]

theorem array_out : (dats m 0 c).arrAt 11 cfg0.N = m ((c.tc : Thread nD τ).loc main_arg7) := by
  refine (dats m 0 c).arrAt_eq_of_covers 11 _ (by decide +kernel) fun t hf y => ?_
  blk_simp
  rw [after0_11, stored_out, block_out]
  idx_vars y
  rw [show ((View.whole main_v4_3).slice (win0_11.rect t)).emb (ix2 y0 y1) = ix2 y0 y1 from by blk_ext [index t]]

open Cert.Reference8Ideal.Read in
/-- The reference's stack. -/
theorem stack_ref (a b : (⟨S1024x352, .f32⟩ : BufTy).Contents (Elt Ideal)) (d : (⟨S352x1024, .f32⟩ : BufTy).Contents (Elt Ideal)) :
    val_main_v6 (F := Ideal) a b d = stacked (turned a) (turned b) d := by
  funext i
  rw [eq_ix3 i]
  generalize i 0 = k
  fin_cases k <;> pointwise [val_main_v6, val_main_v5, val_main_v4, val_main_v3, val_main_v2, val_main_v1, val_main_v0, stacked, turned]

open Cert.Reference8Ideal.Read in
theorem stack_ref' (a b : (⟨S1024x352, .f32⟩ : BufTy).Contents (Elt Ideal)) (d : (⟨S352x1024, .f32⟩ : BufTy).Contents (Elt Ideal)) :
    val_main_v13 (F := Ideal) a b d = stacked (turned a) (turned b) d := stack_ref a b d

open Cert.Reference8Ideal.Read in
theorem in_ref (a : (⟨S1024x256, .f32⟩ : BufTy).Contents (Elt Ideal)) : val_main_v15 (F := Ideal) a = over a := by
  funext i
  rw [eq_ix2 i]
  pointwise [val_main_v15, val_main_v14, over]

open Cert.Reference8Ideal.Read in
/-- The kernel's four results are the reference's. -/
theorem value : Cert.algebraic_Kernel8Ideal_Reference8Ideal := fun m g m' g' _ hagree =>
  ⟨_, _, _, _, (θ_run _ _ _).mono (fun r h c => by
      obtain ⟨r0, r1, r2, r3, rest⟩ := h c
      exact ⟨r0.trans (array_first m c), r1.trans (array_second m c), r2.trans (array_in m c), r3.trans (array_out m c), rest⟩)
      (Cert.Kernel8Ideal.Value.run_blocks m g),
    (θ_run _ _ _).mono (fun r h c => by
      obtain ⟨a0, a1, a2, a3, a4, a5, a6, a7⟩ := hagree c
      obtain ⟨r0, r1, r2, r3, rest⟩ := h c
      refine ⟨(r0.trans (val_main_v6_eq _ _ _)).trans ?_, (r1.trans (val_main_v13_eq _ _ _)).trans ?_, (r2.trans (val_main_v15_eq _)).trans ?_,
        (r3.trans (val_main_v16_eq _)).trans ?_, rest⟩
      · rw [a0, a1, a2]; exact stack_ref _ _ _
      · rw [a3, a4, a5]; exact stack_ref' _ _ _
      · rw [a6]; exact in_ref _
      · rw [a7]; rfl)
      (Cert.Reference8Ideal.Value.run m' g')⟩

end Cert.Proof.Pack

end
-- ==== Proof.Optim.PairAdd.lean ====
module

public import proofs.«01_k».proof.Defs
public import proofs.«01_k».proof.Proof.Gen.Kernel7Ideal.Frame
public import proofs.«01_k».proof.Proof.Gen.Kernel7
public import proofs.«01_k».proof.Proof.Gen.Reference7Ideal.Run
public import proofs.«01_k».proof.Proof.Gen.Reference7Ideal.Read
public import Idealize.ShloMosaic.Lib.WholeRead
public import Idealize.ShloMosaic.Lib.WritesUnit
public import Idealize.ShloMosaic.Lib.Pipeline.ValueKit
public import Idealize.ShloMosaic.Lib.Claim

@[expose] public section

set_option maxRecDepth 16384

noncomputable section

/-! The call that adds the part of a gradient that a neighbour sent to the device's own part. -/

namespace Cert.Proof.PairAdd

open Idealize.ShloMosaic Idealize.ShloMosaic.TcCoe Idealize.ShloMosaic.Tactic Idealize.SL.Sem
open Idealize.ShloMosaic.Pipeline (Dat Cfg Window BodyObligation cellOf)
open Cert.Kernel7Ideal Cert.Kernel7Ideal.Gen

section
variable {F : FTy → Type} [FloatOps F] (m : (ℓ : Loc nD τ sig) → Buf (Elt F) ℓ)

/-- The word that says which of the two halves is the device's is zero. -/
theorem word (k : S1.Idx) : (V m 0 main_v0 : (⟨S1, .i32⟩ : BufTy).Contents (Elt F)) k = 0#32 := by
  entry_read
  rfl

/-- So the first array's block is the one of the first half. -/
theorem map_own (i : grid0.Coords) : cc0_transform_0 inb_S1_S1_0 numel1_S1 (tbl m) i = ![(i 0).val, (i 1).val, 0, 0, 0] := by
  have h0 : (i 0).val < 1 := (i 0).isLt
  have h1 : (i 1).val < 4 := (i 1).isLt
  have h (k) : tbl m 0 k = 0#32 := word m k
  unfold cc0_transform_0 Pipeline.Prefetch.Contents.at
  dsimp only
  rw [h]
  simp only [BitVec.toNat_ofNat]
  rw [Nat.mod_eq_of_lt (by omega), Nat.mod_eq_of_lt (by omega)]

/-- And lies inside it. -/
theorem inside : Ok m := fun i => by
  have h0 : (i 0).val < 1 := (i 0).isLt
  have h1 : (i 1).val < 4 := (i 1).isLt
  refine ⟨fun a => ?_, .inr (Affine.block_words_dvd (of_decide_eq_true rfl) (by decide))⟩
  rw [map_own m i]
  fin_cases a
  · show ((i 0).val + 1) * 1 ≤ 1; omega
  · show ((i 1).val + 1) * 1 ≤ 4; omega
  · show (0 + 1) * 1 ≤ 2; omega
  · show (0 + 1) * 352 ≤ 352; omega
  · show (0 + 1) * 1024 ≤ 1024; omega

end

theorem frame : Cert.quiescent_Kernel7Ideal := fun m g _ => Cert.Kernel7Ideal.Gen.frame m g (inside m)

/-- The kernel at hardware values has the same text. -/
theorem same_main : Cert.Kernel7Ideal.main (F := Bits) = Cert.Kernel7.main := by sl_kernel_rfl

theorem same_defs : Cert.Kernel7Ideal.defs (F := Bits) = Cert.Kernel7.defs := by sl_kernel_rfl

/-- The kernel's frame at hardware values. -/
theorem kernel_frame : Cert.quiescent_Kernel7 := fun m g _ => by
  rw [← same_main, ← same_defs]
  exact (θ_run _ _ _).mono (fun r h => ⟨fun c => h.1 c, h.2⟩) (Cert.Kernel7Ideal.Gen.frame (F := Bits) m g (inside m))

theorem reference_frame : Cert.quiescent_Reference7Ideal := fun m g _ =>
  (θ_run _ _ _).mono (fun r h => ⟨fun c => (h c).2, sem_eq_zero_of_no_sems rfl r.2⟩) (Cert.Reference7Ideal.Value.run m g)

/-- The first half of one array and another array, added. -/
def total (x : Vec Ideal S1x4x2x352x1024 .bf16) (y : Vec Ideal S1x4x352x1024 .bf16) : Vec Ideal S1x4x352x1024 .bf16 :=
  fun i => x (ix5 (i 0) (i 1) 0 (i 2) (i 3)) + y i

theorem hz4 : (![0, 0, 0, 0] : Fin 4 → ℕ) = fun _ => 0 := funext fun a => by fin_cases a <;> rfl
theorem hz5 : (![0, 0, 0, 0, 0] : Fin 5 → ℕ) = fun _ => 0 := funext fun a => by fin_cases a <;> rfl

/-- A load of a whole buffer. -/
theorem load_whole {S : Shape} {e : EltTy} (b : Memref sig .tc .vmem S e) (h : b.IsWhole) (x : Vec Ideal S e) {off : Fin S.rank → ℕ}
    (ho : off = fun _ => 0) (inb : ∀ a, off a + S.size a ≤ S.size a) :
    View.readAt (Elt Ideal) b.view (Rect.unit off S.size inb).toLoadRect (h.unread x) = x := by
  rw [View.readAt_eq_ld, h.read_unread, View.ld_unit_zero ho]

/-- The body stores the sum of its two blocks. -/
theorem stored (c : Dev nD) (i : grid0.Coords) (a3 : Memref sig .tc .vmem S1x1x1x352x1024 .bf16) (h3 : a3.IsWhole)
    (a4 : Memref sig .tc .vmem S1x1x352x1024 .bf16) (h4 : a4.IsWhole) (a5 : Memref sig .tc .vmem S1x1x352x1024 .bf16) (h5 : a5.IsWhole)
    (x0 : Vec Ideal S1x1x1x352x1024 .bf16) (x1 : Vec Ideal S1x1x352x1024 .bf16) (w : TbBuf0 (F := Ideal) c tbM0_0) :
    out0_A_2 c i a3 h3 a4 h4 a5 h5 x0 x1 w = k0_pay1 x0 x1 := by
  unfold out0_A_2
  rw [View.read_writes_junk_eq_canon]
  unfold kernelRun0_A
  dsimp only
  sl_unfold_words
  rw [View.canon_unit_zero hz4]
  rw [load_whole _ _ _ hz5, load_whole _ _ _ hz4]

theorem added (x0 : Vec Ideal S1x1x1x352x1024 .bf16) (x1 : Vec Ideal S1x1x352x1024 .bf16) (p q : Fin 1) (r : Fin 352) (d : Fin 1024) :
    k0_pay1 (F := Ideal) x0 x1 (ix4 p q r d) = x0 (ix5 0 0 0 r d) + x1 (ix4 0 0 r d) := by
  unfold k0_pay1
  pointwise

variable (m : (ℓ : Loc nD τ sig) → Buf (Elt Ideal) ℓ) (c : Dev nD)

abbrev own : Vec Ideal S1x4x2x352x1024 .bf16 := m ((c.tc : Thread nD τ).loc main_arg0)
abbrev sent : Vec Ideal S1x4x352x1024 .bf16 := m ((c.tc : Thread nD τ).loc main_arg1)

/-- The point's number along the second axis. -/
def place (t : Fin grid0.N) : Fin 4 := ⟨t.val % 4, Nat.mod_lt _ (by decide)⟩

theorem coords (t : Fin grid0.N) : (grid0.coords t 0).val = 0 ∧ (grid0.coords t 1).val = t.val % 4 ∧ cc0_transform_1 (grid0.coords t) = ![0, t.val % 4, 0, 0]
    ∧ cc0_transform_2 (grid0.coords t) = ![0, t.val % 4, 0, 0] :=
  (by decide +kernel : ∀ t : Fin grid0.N, (grid0.coords t 0).val = 0 ∧ (grid0.coords t 1).val = t.val % 4 ∧ cc0_transform_1 (grid0.coords t) = ![0, t.val % 4, 0, 0]
    ∧ cc0_transform_2 (grid0.coords t) = ![0, t.val % 4, 0, 0]) t

theorem index_own (t : Fin (cfgM m (inside m)).N) : ((cfgM m (inside m)).win 0).index t = ![0, t.val % 4, 0, 0, 0] := by
  refine (map_own m (grid0.coords t)).trans ?_
  rw [(coords t).1, (coords t).2.1]

theorem index_sent (t : Fin (cfgM m (inside m)).N) : ((cfgM m (inside m)).win 1).index t = ![0, t.val % 4, 0, 0] := (coords t).2.2.1

theorem index_out (t : Fin (cfgM m (inside m)).N) : ((cfgM m (inside m)).win 2).index t = ![0, t.val % 4, 0, 0] := (coords t).2.2.2

theorem block_own (t : Fin (cfgM m (inside m)).N) (r : Fin 352) (d : Fin 1024) :
    iblk m (inside m) c 0 t (ix5 0 0 0 r d) = own m c (ix5 0 (place t) 0 r d) := by
  refine Eq.trans ?_ (congrFun (V_main_arg0 m c) (ix5 0 (place t) 0 r d))
  blk_ext [iblk, index_own m t, place]

theorem block_sent (t : Fin (cfgM m (inside m)).N) (r : Fin 352) (d : Fin 1024) :
    iblk m (inside m) c 1 t (ix4 0 0 r d) = sent m c (ix4 0 (place t) r d) := by
  refine Eq.trans ?_ (congrFun (V_main_arg1 m c) (ix4 0 (place t) r d))
  blk_ext [iblk, index_sent m t, place]

/-- What a point leaves for its block. -/
theorem leaves (t : Fin (cfgM m (inside m)).N) (p q : Fin 1) (r : Fin 352) (d : Fin 1024) :
    outsAt0 m (inside m) c t (ix4 p q r d) = total (own m c) (sent m c) (ix4 0 (place t) r d) := by
  refine (congrFun (stored c _ _ _ _ _ _ _ _ _ _) (ix4 p q r d)).trans ((added _ _ p q r d).trans ?_)
  exact congrArg₂ (fun a b : EReal => a + b) (block_own m c t r d) (block_sent m c t r d)

/-- The four blocks make up the result. -/
theorem covers : ((cfgM m (inside m)).win 2).Covers := by
  refine ⟨fun a => (by decide : ∀ a : Fin 4, 0 < S1x1x352x1024.size a) a, fun β => ?_⟩
  have hb (a : Fin 4) : (β a).val < (![1, 4, 1, 1] : Fin 4 → ℕ) a :=
    lt_of_lt_of_eq (β a).isLt ((by decide : ∀ a : Fin 4, (S1x4x352x1024.size a + S1x1x352x1024.size a - 1) / S1x1x352x1024.size a = (![1, 4, 1, 1] : Fin 4 → ℕ) a) a)
  have b0 : (β (0 : Fin 4)).val < 1 := hb 0
  have b1 : (β (1 : Fin 4)).val < 4 := hb 1
  have b2 : (β (2 : Fin 4)).val < 1 := hb 2
  have b3 : (β (3 : Fin 4)).val < 1 := hb 3
  have hN : grid0.N = 4 := N_0
  refine ⟨(⟨(β (1 : Fin 4)).val, by omega⟩ : Fin grid0.N), flush0_2 _ _, fun a => ⟨?_, .inl rfl⟩⟩
  rw [index_out m]
  fin_cases a
  · show 0 = (β (0 : Fin 4)).val; omega
  · show (β (1 : Fin 4)).val % 4 = (β (1 : Fin 4)).val; omega
  · show 0 = (β (2 : Fin 4)).val; omega
  · show 0 = (β (3 : Fin 4)).val; omega

theorem array : (dats m (inside m) 0 c).arrAt 2 (cfgM m (inside m)).N = total (own m c) (sent m c) := by
  refine (dats m (inside m) 0 c).arrAt_eq_of_covers 2 _ (covers m) fun t hf y => ?_
  blk_simp
  rw [after0_2]
  have hy : ∃ (p q : Fin 1) (r : Fin 352) (d : Fin 1024), y = ix4 p q r d := ⟨_, _, _, _, eq_ix4 _⟩
  obtain ⟨p, q, r, d, rfl⟩ := hy
  refine (leaves m c t p q r d).trans ?_
  refine congrArg (total (own m c) (sent m c)) ?_
  blk_ext [index_out m t, place]

open Cert.Reference7Ideal.Read in
theorem reference (x : Vec Ideal S1x4x2x352x1024 .bf16) (y : Vec Ideal S1x4x352x1024 .bf16) : val_main_v5 (F := Ideal) x y = total x y := by
  funext i
  idx_vars i
  obtain rfl : i0 = 0 := Subsingleton.elim _ _
  pointwise [val_main_v5, val_main_v4, val_main_v3, val_main_v2, val_main_v1, val_main_v0, total]

open Cert.Reference7Ideal.Read in
/-- The kernel's result is the reference's. -/
theorem value : Cert.algebraic_Kernel7Ideal_Reference7Ideal := fun m g m' g' _ hagree =>
  ⟨_, (θ_run _ _ _).mono (fun r h c => ⟨((h c).1 2).trans (array m c),
      ((h c).1 0).trans (((dats m (inside m) 0 c).arrAt_in 0 rfl _).trans ((A_eq m (inside m) c 0).trans (V_main_arg0 m c))),
      ((h c).1 1).trans (((dats m (inside m) 0 c).arrAt_in 1 rfl _).trans ((A_eq m (inside m) c 1).trans (V_main_arg1 m c)))⟩) (run_main m g (inside m)),
    (θ_run _ _ _).mono (fun r h c => by
      obtain ⟨a0, a1⟩ := hagree c
      obtain ⟨r0, rest⟩ := h c
      replace r0 := r0.trans (val_main_v5_eq _ _)
      rw [a0, a1] at r0
      exact ⟨r0.trans (reference _ _), rest⟩)
      (Cert.Reference7Ideal.Value.run m' g')⟩

end Cert.Proof.PairAdd

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Dgrad.Claim
public import proofs.«01_k».proof.Proof.Dgrad.Loose
public import proofs.«01_k».proof.Proof.Head.Claim
public import proofs.«01_k».proof.Proof.Up.Claim
public import proofs.«01_k».proof.Proof.Mix.Claim
public import proofs.«01_k».proof.Proof.Wgrad.Claim
public import proofs.«01_k».proof.Proof.Optim.Finish
public import proofs.«01_k».proof.Proof.Optim.Pack
public import proofs.«01_k».proof.Proof.Optim.PairAdd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite2.Gen.facts, Cert.Pre_finite3.Gen.facts,
  Dgrad.Loose.kernel_frame,
  Dgrad.frame,
  fun m g _ => Dgrad.frame m g trivial,
  Dgrad.reference_frame,
  fun m g _ => Dgrad.reference_frame m g trivial,
  Head.kernel_frame,
  Head.frame,
  fun m g _ => Head.frame m g trivial,
  Head.reference_frame,
  fun m g _ => Head.reference_frame m g trivial,
  Up.kernel_frame,
  Up.frame,
  fun m g _ => Up.frame m g trivial,
  Up.reference_frame,
  fun m g _ => Up.reference_frame m g trivial,
  Mix.kernel_frame,
  Mix.frame,
  Mix.reference_frame,
  Wgrad.kernel_frame,
  Wgrad.frame,
  Wgrad.reference_frame,
  Finish.kernel_frame,
  Finish.frame,
  Finish.reference_frame,
  PairAdd.kernel_frame,
  PairAdd.frame,
  PairAdd.reference_frame,
  Pack.kernel_frame,
  Pack.frame,
  Pack.reference_frame,
  trivial,
  Dgrad.value,
  trivial,
  Head.value,
  trivial,
  Up.value,
  trivial,
  Mix.value,
  trivial,
  Wgrad.value,
  trivial,
  Finish.value,
  trivial,
  PairAdd.value,
  trivial,
  Pack.value⟩

end Cert.Proof

end
